-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  IdealRules.named_const.Statement Cert.KernelIdeal.κ "inv13" .f32 0x3D9D89D9#32 ((1 / 13 : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_in_range : Cert.Pre_in_range.Facts) (hPre_finite : Cert.Pre_finite.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ preserves_Kernel_KernelIdeal
    ∧ algebraic_KernelIdeal_ReferenceIdeal (hKernelIdeal := hKernelIdeal) (hReferenceIdeal := hReferenceIdeal) (hPre_in_range := hPre_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
-- ==== Pre_finite.lean ====
abbrev S4x64x128 : Shape := ⟨3, ![4, 64, 128]⟩
abbrev S128x128 : Shape := ⟨2, ![128, 128]⟩
abbrev S64x128 : Shape := ⟨2, ![64, 128]⟩
abbrev S64x64 : Shape := ⟨2, ![64, 64]⟩
abbrev S_ : Shape := ⟨0, ![]⟩
abbrev S1 : Shape := ⟨1, ![1]⟩
abbrev S9 : Shape := ⟨1, ![9]⟩

class Facts : Prop where
  bcast_S_S4x64x128 : S_.BroadcastsInDim S4x64x128 (![] : Fin 0 → Fin S4x64x128.rank)
  reducesTo_S4x64x128_S_d0_1_2 : S4x64x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S64x64 : S_.BroadcastsInDim S64x64 (![] : Fin 0 → Fin S64x64.rank)
  reducesTo_S64x64_S_d0_1 : S64x64.ReducesTo [0, 1] S_
  bcast_S_S1 : S_.BroadcastsInDim S1 (![] : Fin 0 → Fin S1.rank)
  concatenates_S1_S1_S1_S1_S1_S1_S1_S1_S1_S9_d0 : Shape.Concatenates [S1, S1, S1, S1, S1, S1, S1, S1, S1] S9 0
  reducesTo_S9_S_d0 : S9.ReducesTo [0] S_

variable [Facts]

def fn_part2 {F : FTy → Type} [FloatOps F] (main_arg8 : FVec F S128x128 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S128x128 .f32 := Host.absf main_arg8
  let main_cst_14 : FVec F S_ .f32 := constant S_ .f32 0x7F800000#32
  let main_v33 : FVec F S128x128 .f32 := broadcastInDim S128x128 ![] bcast_S_S128x128 main_cst_14
  let main_v34 : IVec S128x128 1 := cmpf .olt main_v32 main_v33
  let main_c_15 : IVec S_ 1 := constantI S_ 1 1#1
  let main_v35 : IVec S_ 1 := (fun x v => Host.reduce IntOp.andi x v reducesTo_S128x128_S_d0_1 h_S_) main_v34 main_c_15
  let main_v36 : IVec S1 1 := broadcastInDim S1 ![] bcast_S_S1 main_v3
  let main_v37 : IVec S1 1 := broadcastInDim S1 ![] bcast_S_S1 main_v7
  let main_v38 : IVec S1 1 := broadcastInDim S1 ![] bcast_S_S1 main_v11
  let main_v39 : IVec S1 1 := broadcastInDim S1 ![] bcast_S_S1 main_v15
  let main_v40 : IVec S1 1 := broadcastInDim S1 ![] bcast_S_S1 main_v19
  let main_v41 : IVec S1 1 := broadcastInDim S1 ![] bcast_S_S1 main_v23
  let main_v42 : IVec S1 1 := broadcastInDim S1 ![] bcast_S_S1 main_v27
  let main_v43 : IVec S1 1 := broadcastInDim S1 ![] bcast_S_S1 main_v31
  let main_v44 : IVec S1 1 := broadcastInDim S1 ![] bcast_S_S1 main_v35
  let main_v45 : IVec S9 1 := concatenate S9 0 [⟨S1, main_v36⟩, ⟨S1, main_v37⟩, ⟨S1, main_v38⟩, ⟨S1, main_v39⟩, ⟨S1, main_v40⟩, ⟨S1, main_v41⟩, ⟨S1, main_v42⟩, ⟨S1, main_v43⟩, ⟨S1, main_v44⟩] concatenates_S1_S1_S1_S1_S1_S1_S1_S1_S1_S9_d0
  let main_c_16 : IVec S_ 1 := constantI S_ 1 1#1
  let main_v46 : IVec S_ 1 := (fun x v => Host.reduce IntOp.andi x v reducesTo_S9_S_d0 h_S_) main_v45 main_c_16
  main_v46

def fn_part1 {F : FTy → Type} [FloatOps F] (main_arg4 : FVec F S64x128 .f32) (main_arg5 : FVec F S64x64 .f32) (main_arg6 : FVec F S64x64 .f32) (main_arg7 : FVec F S64x64 .f32) (main_arg8 : FVec F S128x128 .f32) (main_v3 : IVec S_ 1) (main_v7 : IVec S_ 1) (main_v11 : IVec S_ 1) (main_v15 : IVec S_ 1) : IVec S_ 1 :=
  let main_v16 : FVec F S64x128 .f32 := Host.absf main_arg4
  let main_cst_6 : FVec F S_ .f32 := constant S_ .f32 0x7F800000#32
  let main_v17 : FVec F S64x128 .f32 := broadcastInDim S64x128 ![] bcast_S_S64x128 main_cst_6
  let main_v18 : IVec S64x128 1 := cmpf .olt main_v16 main_v17
  let main_c_7 : IVec S_ 1 := constantI S_ 1 1#1
  let main_v19 : IVec S_ 1 := (fun x v => Host.reduce IntOp.andi x v reducesTo_S64x128_S_d0_1 h_S_) main_v18 main_c_7
  let main_v20 : FVec F S64x64 .f32 := Host.absf main_arg5
  let main_cst_8 : FVec F S_ .f32 := constant S_ .f32 0x7F800000#32
  let main_v21 : FVec F S64x64 .f32 := broadcastInDim S64x64 ![] bcast_S_S64x64 main_cst_8
  let main_v22 : IVec S64x64 1 := cmpf .olt main_v20 main_v21
  let main_c_9 : IVec S_ 1 := constantI S_ 1 1#1
  let main_v23 : IVec S_ 1 := (fun x v => Host.reduce IntOp.andi x v reducesTo_S64x64_S_d0_1 h_S_) main_v22 main_c_9
  let main_v24 : FVec F S64x64 .f32 := Host.absf main_arg6
  let main_cst_10 : FVec F S_ .f32 := constant S_ .f32 0x7F800000#32
  let main_v25 : FVec F S64x64 .f32 := broadcastInDim S64x64 ![] bcast_S_S64x64 main_cst_10
  let main_v26 : IVec S64x64 1 := cmpf .olt main_v24 main_v25
  let main_c_11 : IVec S_ 1 := constantI S_ 1 1#1
  let main_v27 : IVec S_ 1 := (fun x v => Host.reduce IntOp.andi x v reducesTo_S64x64_S_d0_1 h_S_) main_v26 main_c_11
  let main_v28 : FVec F S64x64 .f32 := Host.absf main_arg7
  let main_cst_12 : FVec F S_ .f32 := constant S_ .f32 0x7F800000#32
  let main_v29 : FVec F S64x64 .f32 := broadcastInDim S64x64 ![] bcast_S_S64x64 main_cst_12
  let main_v30 : IVec S64x64 1 := cmpf .olt main_v28 main_v29
  let main_c_13 : IVec S_ 1 := constantI S_ 1 1#1
  let main_v31 : IVec S_ 1 := (fun x v => Host.reduce IntOp.andi x v reducesTo_S64x64_S_d0_1 h_S_) main_v30 main_c_13
  fn_part2 (F := F) main_arg8 main_v3 main_v7 main_v11 main_v15 main_v19 main_v23 main_v27 main_v31

def fn {F : FTy → Type} [FloatOps F] (main_arg0 : FVec F S4x64x128 .f32) (main_arg1 : FVec F S128x128 .f32) (main_arg2 : FVec F S128x128 .f32) (main_arg3 : FVec F S64x128 .f32) (main_arg4 : FVec F S64x128 .f32) (main_arg5 : FVec F S64x64 .f32) (main_arg6 : FVec F S64x64 .f32) (main_arg7 : FVec F S64x64 .f32) (main_arg8 : FVec F S128x128 .f32) : IVec S_ 1 :=
  let main_v0 : FVec F S4x64x128 .f32 := Host.absf main_arg0
  let main_cst : FVec F S_ .f32 := constant S_ .f32 0x7F800000#32
  let main_v1 : FVec F S4x64x128 .f32 := broadcastInDim S4x64x128 ![] bcast_S_S4x64x128 main_cst
  let main_v2 : IVec S4x64x128 1 := cmpf .olt main_v0 main_v1
  let main_c : IVec S_ 1 := constantI S_ 1 1#1
  let main_v3 : IVec S_ 1 := (fun x v => Host.reduce IntOp.andi x v reducesTo_S4x64x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : FVec F S128x128 .f32 := Host.absf main_arg2
  let main_cst_2 : FVec F S_ .f32 := constant S_ .f32 0x7F800000#32
  let main_v9 : FVec F S128x128 .f32 := broadcastInDim S128x128 ![] bcast_S_S128x128 main_cst_2
  let main_v10 : IVec S128x128 1 := cmpf .olt main_v8 main_v9
  let main_c_3 : IVec S_ 1 := constantI S_ 1 1#1
  let main_v11 : IVec S_ 1 := (fun x v => Host.reduce IntOp.andi x v reducesTo_S128x128_S_d0_1 h_S_) main_v10 main_c_3
  let main_v12 : FVec F S64x128 .f32 := Host.absf main_arg3
  let main_cst_4 : FVec F S_ .f32 := constant S_ .f32 0x7F800000#32
  let main_v13 : FVec F S64x128 .f32 := broadcastInDim S64x128 ![] bcast_S_S64x128 main_cst_4
  let main_v14 : IVec S64x128 1 := cmpf .olt main_v12 main_v13
  let main_c_5 : IVec S_ 1 := constantI S_ 1 1#1
  let main_v15 : IVec S_ 1 := (fun x v => Host.reduce IntOp.andi x v reducesTo_S64x128_S_d0_1 h_S_) main_v14 main_c_5
  fn_part1 (F := F) main_arg4 main_arg5 main_arg6 main_arg7 main_arg8 main_v3 main_v7 main_v11 main_v15
-- ==== Pre_in_range.lean ====
abbrev S4x8192x768 : Shape := ⟨3, ![4, 8192, 768]⟩
abbrev S768x768 : Shape := ⟨2, ![768, 768]⟩
abbrev S768 : Shape := ⟨1, ![768]⟩
abbrev S4x16 : Shape := ⟨2, ![4, 16]⟩
abbrev S4x13 : Shape := ⟨2, ![4, 13]⟩
abbrev S_ : Shape := ⟨0, ![]⟩

class Facts : Prop where
  slices_S4x16_S4x13_0_0 : S4x16.Slices ![0, 0] S4x13
  bcast_S_S4x13 : S_.BroadcastsInDim S4x13 (![] : Fin 0 → Fin S4x13.rank)
  reducesTo_S4x13_S_d0_1 : S4x13.ReducesTo [0, 1] S_
  h_S_ : 0 < S_.numel

variable [Facts]

def fn {F : FTy → Type} [FloatOps F] (main_arg0 : FVec F S4x8192x768 .f32) (main_arg1 : FVec F S768x768 .f32) (main_arg2 : FVec F S768 .f32) (main_arg3 : IVec S4x16 32) : IVec S_ 1 :=
  let main_v0 : IVec S4x13 32 := (extractStridedSlice S4x13 ![0, 0] · slices_S4x16_S4x13_0_0) main_arg3
  let main_c : IVec S_ 32 := constantI S_ 32 0#32
  let main_v1 : IVec S4x13 32 := broadcastInDim S4x13 ![] bcast_S_S4x13 main_c
  let main_v2 : IVec S4x13 1 := cmpi .sge main_v0 main_v1
  let main_c_0 : IVec S_ 32 := constantI S_ 32 8192#32
  let main_v3 : IVec S4x13 32 := broadcastInDim S4x13 ![] bcast_S_S4x13 main_c_0
  let main_v4 : IVec S4x13 1 := cmpi .slt main_v0 main_v3
  let main_v5 : IVec S4x13 1 := andi main_v2 main_v4
  let main_c_1 : IVec S_ 1 := constantI S_ 1 1#1
  let main_v6 : IVec S_ 1 := (fun x v => Host.reduce IntOp.andi x v reducesTo_S4x13_S_d0_1 h_S_) main_v5 main_c_1
  main_v6
-- ==== Kernel.lean ====
abbrev S4x8192x768 : Shape := ⟨3, ![4, 8192, 768]⟩
abbrev S768x768 : Shape := ⟨2, ![768, 768]⟩
abbrev S768 : Shape := ⟨1, ![768]⟩
abbrev S4x16 : Shape := ⟨2, ![4, 16]⟩
abbrev S32768x768 : Shape := ⟨2, ![32768, 768]⟩
abbrev S1x768 : Shape := ⟨2, ![1, 768]⟩
abbrev S4x2x8192x384 : Shape := ⟨4, ![4, 2, 8192, 384]⟩
abbrev S1024x768 : Shape := ⟨2, ![1024, 768]⟩
abbrev S1x2x1024x384 : Shape := ⟨4, ![1, 2, 1024, 384]⟩
abbrev S1024x384 : Shape := ⟨2, ![1024, 384]⟩
abbrev S1x1x1024x384 : Shape := ⟨4, ![1, 1, 1024, 384]⟩
abbrev S4x16384x384 : Shape := ⟨3, ![4, 16384, 384]⟩
abbrev S1x16384x128 : Shape := ⟨3, ![1, 16384, 128]⟩
abbrev S1x8192x128 : Shape := ⟨3, ![1, 8192, 128]⟩
abbrev S1x1 : Shape := ⟨2, ![1, 1]⟩
abbrev S8192x128 : Shape := ⟨2, ![8192, 128]⟩

abbrev nBuf : Space → Nat
  | .hbm => 12
  | .vmem => 16
  | .smem => 1
  | _ => 0

abbrev bufTy : (tb : Table) → Fin (tcTables nBuf tb) → BufTy
  | .hbm, ⟨0, _⟩ => ⟨S4x8192x768, .f32⟩
  | .hbm, ⟨1, _⟩ => ⟨S768x768, .f32⟩
  | .hbm, ⟨2, _⟩ => ⟨S768, .f32⟩
  | .hbm, ⟨3, _⟩ => ⟨S4x16, .i32⟩
  | .hbm, ⟨4, _⟩ => ⟨S32768x768, .f32⟩
  | .hbm, ⟨5, _⟩ => ⟨S768x768, .f32⟩
  | .hbm, ⟨6, _⟩ => ⟨S1x768, .f32⟩
  | .hbm, ⟨7, _⟩ => ⟨S4x2x8192x384, .f32⟩
  | .hbm, ⟨8, _⟩ => ⟨S4x2x8192x384, .f32⟩
  | .hbm, ⟨9, _⟩ => ⟨S4x16384x384, .f32⟩
  | .hbm, ⟨10, _⟩ => ⟨S4x16384x384, .f32⟩
  | .hbm, ⟨11, _⟩ => ⟨S4x8192x768, .f32⟩
  | .local _ .vmem, ⟨0, _⟩ => ⟨S1024x768, .f32⟩
  | .local _ .vmem, ⟨1, _⟩ => ⟨S1024x768, .f32⟩
  | .local _ .vmem, ⟨2, _⟩ => ⟨S768x768, .f32⟩
  | .local _ .vmem, ⟨3, _⟩ => ⟨S1x768, .f32⟩
  | .local _ .vmem, ⟨4, _⟩ => ⟨S1x2x1024x384, .f32⟩
  | .local _ .vmem, ⟨5, _⟩ => ⟨S1x2x1024x384, .f32⟩
  | .local _ .vmem, ⟨6, _⟩ => ⟨S1x2x1024x384, .f32⟩
  | .local _ .vmem, ⟨7, _⟩ => ⟨S1x2x1024x384, .f32⟩
  | .local _ .vmem, ⟨8, _⟩ => ⟨S1x16384x128, .f32⟩
  | .local _ .vmem, ⟨9, _⟩ => ⟨S1x16384x128, .f32⟩
  | .local _ .vmem, ⟨10, _⟩ => ⟨S1x16384x128, .f32⟩
  | .local _ .vmem, ⟨11, _⟩ => ⟨S1x16384x128, .f32⟩
  | .local _ .vmem, ⟨12, _⟩ => ⟨S1x8192x128, .f32⟩
  | .local _ .vmem, ⟨13, _⟩ => ⟨S1x8192x128, .f32⟩
  | .local _ .vmem, ⟨14, _⟩ => ⟨S1x8192x128, .f32⟩
  | .local _ .vmem, ⟨15, _⟩ => ⟨S1x8192x128, .f32⟩
  | .local _ .smem, ⟨0, _⟩ => ⟨S4x16, .i32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2x1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x1024x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![4, 3, 2], ![false, false, false]⟩

def k1_cond1 (i : grid1.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k1_off1 (i : grid1.Coords) : Fin 2 → Nat :=
  let arg0 : BitVec 32 := BitVec.ofNat 32 (i 0).val
  let v6 : Index := Scalar.indexCast arg0
  let c0 : Index := 0#32
  ![v6.toNat, 0]
def k1_off2 (v7 : BitVec 32) : Fin 3 → Nat :=
  let c0_3 : Index := 0#32
  let v8 : Index := Scalar.indexCast v7
  let c0_4 : Index := 0#32
  ![0, v8.toNat, 0]

def k1_chk1 (i : grid1.Coords) (v7 : BitVec 32) : Prop :=
  (∀ (k1_h1 : k1_cond1 i = 1#1), ∀ a, (k1_off2 v7) a + S1x8192x128.size a ≤ S1x16384x128.size a)
theorem k1_off2_inb : ∀ (i : grid1.Coords) (v7 : BitVec 32) (k1_hw1 : k1_chk1 i v7), ∀ (k1_h1 : k1_cond1 i = 1#1), ∀ a, (k1_off2 v7) a + S1x8192x128.size a ≤ S1x16384x128.size a := fun i v7 k1_hw1 k1_h1 => k1_hw1 k1_h1

def k1_off3 (i : grid1.Coords) : Fin 2 → Nat :=
  let arg0 : BitVec 32 := BitVec.ofNat 32 (i 0).val
  let v11 : Index := Scalar.indexCast arg0
  let c1 : Index := 1#32
  ![v11.toNat, 1]
def k1_off4 (v12 : BitVec 32) : Fin 3 → Nat :=
  let c0_5 : Index := 0#32
  let v13 : Index := Scalar.indexCast v12
  let c0_6 : Index := 0#32
  ![0, v13.toNat, 0]

def k1_chk2 (i : grid1.Coords) (v12 : BitVec 32) : Prop :=
  (∀ (k1_h1 : k1_cond1 i = 1#1), ∀ a, (k1_off4 v12) a + S1x8192x128.size a ≤ S1x16384x128.size a)
theorem k1_off4_inb : ∀ (i : grid1.Coords) (v12 : BitVec 32) (k1_hw2 : k1_chk2 i v12), ∀ (k1_h1 : k1_cond1 i = 1#1), ∀ a, (k1_off4 v12) a + S1x8192x128.size a ≤ S1x16384x128.size a := fun i v12 k1_hw2 k1_h1 => k1_hw2 k1_h1

def k1_off5 (i : grid1.Coords) : Fin 2 → Nat :=
  let arg0 : BitVec 32 := BitVec.ofNat 32 (i 0).val
  let v17 : Index := Scalar.indexCast arg0
  let c2 : Index := 2#32
  ![v17.toNat, 2]
def k1_off6 (v18 : BitVec 32) : Fin 3 → Nat :=
  let c0_7 : Index := 0#32
  let v19 : Index := Scalar.indexCast v18
  let c0_8 : Index := 0#32
  ![0, v19.toNat, 0]

def k1_chk3 (i : grid1.Coords) (v18 : BitVec 32) : Prop :=
  (∀ (k1_h1 : k1_cond1 i = 1#1), ∀ a, (k1_off6 v18) a + S1x8192x128.size a ≤ S1x16384x128.size a)
theorem k1_off6_inb : ∀ (i : grid1.Coords) (v18 : BitVec 32) (k1_hw3 : k1_chk3 i v18), ∀ (k1_h1 : k1_cond1 i = 1#1), ∀ a, (k1_off6 v18) a + S1x8192x128.size a ≤ S1x16384x128.size a := fun i v18 k1_hw3 k1_h1 => k1_hw3 k1_h1

def k1_off7 (i : grid1.Coords) : Fin 2 → Nat :=
  let arg0 : BitVec 32 := BitVec.ofNat 32 (i 0).val
  let v23 : Index := Scalar.indexCast arg0
  let c3 : Index := 3#32
  ![v23.toNat, 3]
def k1_off8 (v24 : BitVec 32) : Fin 3 → Nat :=
  let c0_9 : Index := 0#32
  let v25 : Index := Scalar.indexCast v24
  let c0_10 : Index := 0#32
  ![0, v25.toNat, 0]

def k1_chk4 (i : grid1.Coords) (v24 : BitVec 32) : Prop :=
  (∀ (k1_h1 : k1_cond1 i = 1#1), ∀ a, (k1_off8 v24) a + S1x8192x128.size a ≤ S1x16384x128.size a)
theorem k1_off8_inb : ∀ (i : grid1.Coords) (v24 : BitVec 32) (k1_hw4 : k1_chk4 i v24), ∀ (k1_h1 : k1_cond1 i = 1#1), ∀ a, (k1_off8 v24) a + S1x8192x128.size a ≤ S1x16384x128.size a := fun i v24 k1_hw4 k1_h1 => k1_hw4 k1_h1

def k1_off9 (i : grid1.Coords) : Fin 2 → Nat :=
  let arg0 : BitVec 32 := BitVec.ofNat 32 (i 0).val
  let v29 : Index := Scalar.indexCast arg0
  let c4 : Index := 4#32
  ![v29.toNat, 4]
def k1_off10 (v30 : BitVec 32) : Fin 3 → Nat :=
  let c0_11 : Index := 0#32
  let v31 : Index := Scalar.indexCast v30
  let c0_12 : Index := 0#32
  ![0, v31.toNat, 0]

def k1_chk5 (i : grid1.Coords) (v30 : BitVec 32) : Prop :=
  (∀ (k1_h1 : k1_cond1 i = 1#1), ∀ a, (k1_off10 v30) a + S1x8192x128.size a ≤ S1x16384x128.size a)
theorem k1_off10_inb : ∀ (i : grid1.Coords) (v30 : BitVec 32) (k1_hw5 : k1_chk5 i v30), ∀ (k1_h1 : k1_cond1 i = 1#1), ∀ a, (k1_off10 v30) a + S1x8192x128.size a ≤ S1x16384x128.size a := fun i v30 k1_hw5 k1_h1 => k1_hw5 k1_h1

def k1_off11 (i : grid1.Coords) : Fin 2 → Nat :=
  let arg0 : BitVec 32 := BitVec.ofNat 32 (i 0).val
  let v35 : Index := Scalar.indexCast arg0
  let c5 : Index := 5#32
  ![v35.toNat, 5]
def k1_off12 (v36 : BitVec 32) : Fin 3 → Nat :=
  let c0_13 : Index := 0#32
  let v37 : Index := Scalar.indexCast v36
  let c0_14 : Index := 0#32
  ![0, v37.toNat, 0]

def k1_chk6 (i : grid1.Coords) (v36 : BitVec 32) : Prop :=
  (∀ (k1_h1 : k1_cond1 i = 1#1), ∀ a, (k1_off12 v36) a + S1x8192x128.size a ≤ S1x16384x128.size a)
theorem k1_off12_inb : ∀ (i : grid1.Coords) (v36 : BitVec 32) (k1_hw6 : k1_chk6 i v36), ∀ (k1_h1 : k1_cond1 i = 1#1), ∀ a, (k1_off12 v36) a + S1x8192x128.size a ≤ S1x16384x128.size a := fun i v36 k1_hw6 k1_h1 => k1_hw6 k1_h1

def k1_off13 (i : grid1.Coords) : Fin 2 → Nat :=
  let arg0 : BitVec 32 := BitVec.ofNat 32 (i 0).val
  let v41 : Index := Scalar.indexCast arg0
  let c6 : Index := 6#32
  ![v41.toNat, 6]
def k1_off14 (v42 : BitVec 32) : Fin 3 → Nat :=
  let c0_15 : Index := 0#32
  let v43 : Index := Scalar.indexCast v42
  let c0_16 : Index := 0#32
  ![0, v43.toNat, 0]

def k1_chk7 (i : grid1.Coords) (v42 : BitVec 32) : Prop :=
  (∀ (k1_h1 : k1_cond1 i = 1#1), ∀ a, (k1_off14 v42) a + S1x8192x128.size a ≤ S1x16384x128.size a)
theorem k1_off14_inb : ∀ (i : grid1.Coords) (v42 : BitVec 32) (k1_hw7 : k1_chk7 i v42), ∀ (k1_h1 : k1_cond1 i = 1#1), ∀ a, (k1_off14 v42) a + S1x8192x128.size a ≤ S1x16384x128.size a := fun i v42 k1_hw7 k1_h1 => k1_hw7 k1_h1

def k1_off15 (i : grid1.Coords) : Fin 2 → Nat :=
  let arg0 : BitVec 32 := BitVec.ofNat 32 (i 0).val
  let v47 : Index := Scalar.indexCast arg0
  let c7 : Index := 7#32
  ![v47.toNat, 7]
def k1_off16 (v48 : BitVec 32) : Fin 3 → Nat :=
  let c0_17 : Index := 0#32
  let v49 : Index := Scalar.indexCast v48
  let c0_18 : Index := 0#32
  ![0, v49.toNat, 0]

def k1_chk8 (i : grid1.Coords) (v48 : BitVec 32) : Prop :=
  (∀ (k1_h1 : k1_cond1 i = 1#1), ∀ a, (k1_off16 v48) a + S1x8192x128.size a ≤ S1x16384x128.size a)
theorem k1_off16_inb : ∀ (i : grid1.Coords) (v48 : BitVec 32) (k1_hw8 : k1_chk8 i v48), ∀ (k1_h1 : k1_cond1 i = 1#1), ∀ a, (k1_off16 v48) a + S1x8192x128.size a ≤ S1x16384x128.size a := fun i v48 k1_hw8 k1_h1 => k1_hw8 k1_h1

def k1_off17 (i : grid1.Coords) : Fin 2 → Nat :=
  let arg0 : BitVec 32 := BitVec.ofNat 32 (i 0).val
  let v53 : Index := Scalar.indexCast arg0
  let c8 : Index := 8#32
  ![v53.toNat, 8]
def k1_off18 (v54 : BitVec 32) : Fin 3 → Nat :=
  let c0_19 : Index := 0#32
  let v55 : Index := Scalar.indexCast v54
  let c0_20 : Index := 0#32
  ![0, v55.toNat, 0]

def k1_chk9 (i : grid1.Coords) (v54 : BitVec 32) : Prop :=
  (∀ (k1_h1 : k1_cond1 i = 1#1), ∀ a, (k1_off18 v54) a + S1x8192x128.size a ≤ S1x16384x128.size a)
theorem k1_off18_inb : ∀ (i : grid1.Coords) (v54 : BitVec 32) (k1_hw9 : k1_chk9 i v54), ∀ (k1_h1 : k1_cond1 i = 1#1), ∀ a, (k1_off18 v54) a + S1x8192x128.size a ≤ S1x16384x128.size a := fun i v54 k1_hw9 k1_h1 => k1_hw9 k1_h1

def k1_off19 (i : grid1.Coords) : Fin 2 → Nat :=
  let arg0 : BitVec 32 := BitVec.ofNat 32 (i 0).val
  let v59 : Index := Scalar.indexCast arg0
  let c9 : Index := 9#32
  ![v59.toNat, 9]
def k1_off20 (v60 : BitVec 32) : Fin 3 → Nat :=
  let c0_21 : Index := 0#32
  let v61 : Index := Scalar.indexCast v60
  let c0_22 : Index := 0#32
  ![0, v61.toNat, 0]

def k1_chk10 (i : grid1.Coords) (v60 : BitVec 32) : Prop :=
  (∀ (k1_h1 : k1_cond1 i = 1#1), ∀ a, (k1_off20 v60) a + S1x8192x128.size a ≤ S1x16384x128.size a)
theorem k1_off20_inb : ∀ (i : grid1.Coords) (v60 : BitVec 32) (k1_hw10 : k1_chk10 i v60), ∀ (k1_h1 : k1_cond1 i = 1#1), ∀ a, (k1_off20 v60) a + S1x8192x128.size a ≤ S1x16384x128.size a := fun i v60 k1_hw10 k1_h1 => k1_hw10 k1_h1

def k1_off21 (i : grid1.Coords) : Fin 2 → Nat :=
  let arg0 : BitVec 32 := BitVec.ofNat 32 (i 0).val
  let v65 : Index := Scalar.indexCast arg0
  let c10 : Index := 10#32
  ![v65.toNat, 10]
def k1_off22 (v66 : BitVec 32) : Fin 3 → Nat :=
  let c0_23 : Index := 0#32
  let v67 : Index := Scalar.indexCast v66
  let c0_24 : Index := 0#32
  ![0, v67.toNat, 0]

def k1_chk11 (i : grid1.Coords) (v66 : BitVec 32) : Prop :=
  (∀ (k1_h1 : k1_cond1 i = 1#1), ∀ a, (k1_off22 v66) a + S1x8192x128.size a ≤ S1x16384x128.size a)
theorem k1_off22_inb : ∀ (i : grid1.Coords) (v66 : BitVec 32) (k1_hw11 : k1_chk11 i v66), ∀ (k1_h1 : k1_cond1 i = 1#1), ∀ a, (k1_off22 v66) a + S1x8192x128.size a ≤ S1x16384x128.size a := fun i v66 k1_hw11 k1_h1 => k1_hw11 k1_h1

def k1_off23 (i : grid1.Coords) : Fin 2 → Nat :=
  let arg0 : BitVec 32 := BitVec.ofNat 32 (i 0).val
  let v71 : Index := Scalar.indexCast arg0
  let c11 : Index := 11#32
  ![v71.toNat, 11]
def k1_off24 (v72 : BitVec 32) : Fin 3 → Nat :=
  let c0_25 : Index := 0#32
  let v73 : Index := Scalar.indexCast v72
  let c0_26 : Index := 0#32
  ![0, v73.toNat, 0]

def k1_chk12 (i : grid1.Coords) (v72 : BitVec 32) : Prop :=
  (∀ (k1_h1 : k1_cond1 i = 1#1), ∀ a, (k1_off24 v72) a + S1x8192x128.size a ≤ S1x16384x128.size a)
theorem k1_off24_inb : ∀ (i : grid1.Coords) (v72 : BitVec 32) (k1_hw12 : k1_chk12 i v72), ∀ (k1_h1 : k1_cond1 i = 1#1), ∀ a, (k1_off24 v72) a + S1x8192x128.size a ≤ S1x16384x128.size a := fun i v72 k1_hw12 k1_h1 => k1_hw12 k1_h1

def k1_off25 (i : grid1.Coords) : Fin 2 → Nat :=
  let arg0 : BitVec 32 := BitVec.ofNat 32 (i 0).val
  let v77 : Index := Scalar.indexCast arg0
  let c12 : Index := 12#32
  ![v77.toNat, 12]
def k1_off26 (v78 : BitVec 32) : Fin 3 → Nat :=
  let c0_27 : Index := 0#32
  let v79 : Index := Scalar.indexCast v78
  let c0_28 : Index := 0#32
  ![0, v79.toNat, 0]

def k1_chk13 (i : grid1.Coords) (v78 : BitVec 32) : Prop :=
  (∀ (k1_h1 : k1_cond1 i = 1#1), ∀ a, (k1_off26 v78) a + S1x8192x128.size a ≤ S1x16384x128.size a)
theorem k1_off26_inb : ∀ (i : grid1.Coords) (v78 : BitVec 32) (k1_hw13 : k1_chk13 i v78), ∀ (k1_h1 : k1_cond1 i = 1#1), ∀ a, (k1_off26 v78) a + S1x8192x128.size a ≤ S1x16384x128.size a := fun i v78 k1_hw13 k1_h1 => k1_hw13 k1_h1

def k1_cond2 (i : grid1.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_2 : BitVec 32 := 0#32
  let v5 : BitVec 1 := Scalar.cmpi .ne v4 c0_i32_2
  v5

def k1_off27 (i : grid1.Coords) : Fin 2 → Nat :=
  let arg0 : BitVec 32 := BitVec.ofNat 32 (i 0).val
  let v6 : Index := Scalar.indexCast arg0
  let c0 : Index := 0#32
  ![v6.toNat, 0]
def k1_off28 (v7 : BitVec 32) : Fin 3 → Nat :=
  let c0_3 : Index := 0#32
  let v8 : Index := Scalar.indexCast v7
  let c0_4 : Index := 0#32
  ![0, v8.toNat, 0]

def k1_chk14 (i : grid1.Coords) (v7 : BitVec 32) : Prop :=
  (∀ (k1_h2 : k1_cond2 i = 1#1), ∀ a, (k1_off28 v7) a + S1x8192x128.size a ≤ S1x16384x128.size a)
theorem k1_off28_inb : ∀ (i : grid1.Coords) (v7 : BitVec 32) (k1_hw14 : k1_chk14 i v7), ∀ (k1_h2 : k1_cond2 i = 1#1), ∀ a, (k1_off28 v7) a + S1x8192x128.size a ≤ S1x16384x128.size a := fun i v7 k1_hw14 k1_h2 => k1_hw14 k1_h2

def k1_off29 (i : grid1.Coords) : Fin 2 → Nat :=
  let arg0 : BitVec 32 := BitVec.ofNat 32 (i 0).val
  let v11 : Index := Scalar.indexCast arg0
  let c1 : Index := 1#32
  ![v11.toNat, 1]
def k1_off30 (v12 : BitVec 32) : Fin 3 → Nat :=
  let c0_5 : Index := 0#32
  let v13 : Index := Scalar.indexCast v12
  let c0_6 : Index := 0#32
  ![0, v13.toNat, 0]

def k1_chk15 (i : grid1.Coords) (v12 : BitVec 32) : Prop :=
  (∀ (k1_h2 : k1_cond2 i = 1#1), ∀ a, (k1_off30 v12) a + S1x8192x128.size a ≤ S1x16384x128.size a)
theorem k1_off30_inb : ∀ (i : grid1.Coords) (v12 : BitVec 32) (k1_hw15 : k1_chk15 i v12), ∀ (k1_h2 : k1_cond2 i = 1#1), ∀ a, (k1_off30 v12) a + S1x8192x128.size a ≤ S1x16384x128.size a := fun i v12 k1_hw15 k1_h2 => k1_hw15 k1_h2

def k1_off31 (i : grid1.Coords) : Fin 2 → Nat :=
  let arg0 : BitVec 32 := BitVec.ofNat 32 (i 0).val
  let v17 : Index := Scalar.indexCast arg0
  let c2 : Index := 2#32
  ![v17.toNat, 2]
def k1_off32 (v18 : BitVec 32) : Fin 3 → Nat :=
  let c0_7 : Index := 0#32
  let v19 : Index := Scalar.indexCast v18
  let c0_8 : Index := 0#32
  ![0, v19.toNat, 0]

def k1_chk16 (i : grid1.Coords) (v18 : BitVec 32) : Prop :=
  (∀ (k1_h2 : k1_cond2 i = 1#1), ∀ a, (k1_off32 v18) a + S1x8192x128.size a ≤ S1x16384x128.size a)
theorem k1_off32_inb : ∀ (i : grid1.Coords) (v18 : BitVec 32) (k1_hw16 : k1_chk16 i v18), ∀ (k1_h2 : k1_cond2 i = 1#1), ∀ a, (k1_off32 v18) a + S1x8192x128.size a ≤ S1x16384x128.size a := fun i v18 k1_hw16 k1_h2 => k1_hw16 k1_h2

def k1_off33 (i : grid1.Coords) : Fin 2 → Nat :=
  let arg0 : BitVec 32 := BitVec.ofNat 32 (i 0).val
  let v23 : Index := Scalar.indexCast arg0
  let c3 : Index := 3#32
  ![v23.toNat, 3]
def k1_off34 (v24 : BitVec 32) : Fin 3 → Nat :=
  let c0_9 : Index := 0#32
  let v25 : Index := Scalar.indexCast v24
  let c0_10 : Index := 0#32
  ![0, v25.toNat, 0]

def k1_chk17 (i : grid1.Coords) (v24 : BitVec 32) : Prop :=
  (∀ (k1_h2 : k1_cond2 i = 1#1), ∀ a, (k1_off34 v24) a + S1x8192x128.size a ≤ S1x16384x128.size a)
theorem k1_off34_inb : ∀ (i : grid1.Coords) (v24 : BitVec 32) (k1_hw17 : k1_chk17 i v24), ∀ (k1_h2 : k1_cond2 i = 1#1), ∀ a, (k1_off34 v24) a + S1x8192x128.size a ≤ S1x16384x128.size a := fun i v24 k1_hw17 k1_h2 => k1_hw17 k1_h2

def k1_off35 (i : grid1.Coords) : Fin 2 → Nat :=
  let arg0 : BitVec 32 := BitVec.ofNat 32 (i 0).val
  let v29 : Index := Scalar.indexCast arg0
  let c4 : Index := 4#32
  ![v29.toNat, 4]
def k1_off36 (v30 : BitVec 32) : Fin 3 → Nat :=
  let c0_11 : Index := 0#32
  let v31 : Index := Scalar.indexCast v30
  let c0_12 : Index := 0#32
  ![0, v31.toNat, 0]

def k1_chk18 (i : grid1.Coords) (v30 : BitVec 32) : Prop :=
  (∀ (k1_h2 : k1_cond2 i = 1#1), ∀ a, (k1_off36 v30) a + S1x8192x128.size a ≤ S1x16384x128.size a)
theorem k1_off36_inb : ∀ (i : grid1.Coords) (v30 : BitVec 32) (k1_hw18 : k1_chk18 i v30), ∀ (k1_h2 : k1_cond2 i = 1#1), ∀ a, (k1_off36 v30) a + S1x8192x128.size a ≤ S1x16384x128.size a := fun i v30 k1_hw18 k1_h2 => k1_hw18 k1_h2

def k1_off37 (i : grid1.Coords) : Fin 2 → Nat :=
  let arg0 : BitVec 32 := BitVec.ofNat 32 (i 0).val
  let v35 : Index := Scalar.indexCast arg0
  let c5 : Index := 5#32
  ![v35.toNat, 5]
def k1_off38 (v36 : BitVec 32) : Fin 3 → Nat :=
  let c0_13 : Index := 0#32
  let v37 : Index := Scalar.indexCast v36
  let c0_14 : Index := 0#32
  ![0, v37.toNat, 0]

def k1_chk19 (i : grid1.Coords) (v36 : BitVec 32) : Prop :=
  (∀ (k1_h2 : k1_cond2 i = 1#1), ∀ a, (k1_off38 v36) a + S1x8192x128.size a ≤ S1x16384x128.size a)
theorem k1_off38_inb : ∀ (i : grid1.Coords) (v36 : BitVec 32) (k1_hw19 : k1_chk19 i v36), ∀ (k1_h2 : k1_cond2 i = 1#1), ∀ a, (k1_off38 v36) a + S1x8192x128.size a ≤ S1x16384x128.size a := fun i v36 k1_hw19 k1_h2 => k1_hw19 k1_h2

def k1_off39 (i : grid1.Coords) : Fin 2 → Nat :=
  let arg0 : BitVec 32 := BitVec.ofNat 32 (i 0).val
  let v41 : Index := Scalar.indexCast arg0
  let c6 : Index := 6#32
  ![v41.toNat, 6]
def k1_off40 (v42 : BitVec 32) : Fin 3 → Nat :=
  let c0_15 : Index := 0#32
  let v43 : Index := Scalar.indexCast v42
  let c0_16 : Index := 0#32
  ![0, v43.toNat, 0]

def k1_chk20 (i : grid1.Coords) (v42 : BitVec 32) : Prop :=
  (∀ (k1_h2 : k1_cond2 i = 1#1), ∀ a, (k1_off40 v42) a + S1x8192x128.size a ≤ S1x16384x128.size a)
theorem k1_off40_inb : ∀ (i : grid1.Coords) (v42 : BitVec 32) (k1_hw20 : k1_chk20 i v42), ∀ (k1_h2 : k1_cond2 i = 1#1), ∀ a, (k1_off40 v42) a + S1x8192x128.size a ≤ S1x16384x128.size a := fun i v42 k1_hw20 k1_h2 => k1_hw20 k1_h2

def k1_off41 (i : grid1.Coords) : Fin 2 → Nat :=
  let arg0 : BitVec 32 := BitVec.ofNat 32 (i 0).val
  let v47 : Index := Scalar.indexCast arg0
  let c7 : Index := 7#32
  ![v47.toNat, 7]
def k1_off42 (v48 : BitVec 32) : Fin 3 → Nat :=
  let c0_17 : Index := 0#32
  let v49 : Index := Scalar.indexCast v48
  let c0_18 : Index := 0#32
  ![0, v49.toNat, 0]

def k1_chk21 (i : grid1.Coords) (v48 : BitVec 32) : Prop :=
  (∀ (k1_h2 : k1_cond2 i = 1#1), ∀ a, (k1_off42 v48) a + S1x8192x128.size a ≤ S1x16384x128.size a)
theorem k1_off42_inb : ∀ (i : grid1.Coords) (v48 : BitVec 32) (k1_hw21 : k1_chk21 i v48), ∀ (k1_h2 : k1_cond2 i = 1#1), ∀ a, (k1_off42 v48) a + S1x8192x128.size a ≤ S1x16384x128.size a := fun i v48 k1_hw21 k1_h2 => k1_hw21 k1_h2

def k1_off43 (i : grid1.Coords) : Fin 2 → Nat :=
  let arg0 : BitVec 32 := BitVec.ofNat 32 (i 0).val
  let v53 : Index := Scalar.indexCast arg0
  let c8 : Index := 8#32
  ![v53.toNat, 8]
def k1_off44 (v54 : BitVec 32) : Fin 3 → Nat :=
  let c0_19 : Index := 0#32
  let v55 : Index := Scalar.indexCast v54
  let c0_20 : Index := 0#32
  ![0, v55.toNat, 0]

def k1_chk22 (i : grid1.Coords) (v54 : BitVec 32) : Prop :=
  (∀ (k1_h2 : k1_cond2 i = 1#1), ∀ a, (k1_off44 v54) a + S1x8192x128.size a ≤ S1x16384x128.size a)
theorem k1_off44_inb : ∀ (i : grid1.Coords) (v54 : BitVec 32) (k1_hw22 : k1_chk22 i v54), ∀ (k1_h2 : k1_cond2 i = 1#1), ∀ a, (k1_off44 v54) a + S1x8192x128.size a ≤ S1x16384x128.size a := fun i v54 k1_hw22 k1_h2 => k1_hw22 k1_h2

def k1_off45 (i : grid1.Coords) : Fin 2 → Nat :=
  let arg0 : BitVec 32 := BitVec.ofNat 32 (i 0).val
  let v59 : Index := Scalar.indexCast arg0
  let c9 : Index := 9#32
  ![v59.toNat, 9]
def k1_off46 (v60 : BitVec 32) : Fin 3 → Nat :=
  let c0_21 : Index := 0#32
  let v61 : Index := Scalar.indexCast v60
  let c0_22 : Index := 0#32
  ![0, v61.toNat, 0]

def k1_chk23 (i : grid1.Coords) (v60 : BitVec 32) : Prop :=
  (∀ (k1_h2 : k1_cond2 i = 1#1), ∀ a, (k1_off46 v60) a + S1x8192x128.size a ≤ S1x16384x128.size a)
theorem k1_off46_inb : ∀ (i : grid1.Coords) (v60 : BitVec 32) (k1_hw23 : k1_chk23 i v60), ∀ (k1_h2 : k1_cond2 i = 1#1), ∀ a, (k1_off46 v60) a + S1x8192x128.size a ≤ S1x16384x128.size a := fun i v60 k1_hw23 k1_h2 => k1_hw23 k1_h2

def k1_off47 (i : grid1.Coords) : Fin 2 → Nat :=
  let arg0 : BitVec 32 := BitVec.ofNat 32 (i 0).val
  let v65 : Index := Scalar.indexCast arg0
  let c10 : Index := 10#32
  ![v65.toNat, 10]
def k1_off48 (v66 : BitVec 32) : Fin 3 → Nat :=
  let c0_23 : Index := 0#32
  let v67 : Index := Scalar.indexCast v66
  let c0_24 : Index := 0#32
  ![0, v67.toNat, 0]

def k1_chk24 (i : grid1.Coords) (v66 : BitVec 32) : Prop :=
  (∀ (k1_h2 : k1_cond2 i = 1#1), ∀ a, (k1_off48 v66) a + S1x8192x128.size a ≤ S1x16384x128.size a)
theorem k1_off48_inb : ∀ (i : grid1.Coords) (v66 : BitVec 32) (k1_hw24 : k1_chk24 i v66), ∀ (k1_h2 : k1_cond2 i = 1#1), ∀ a, (k1_off48 v66) a + S1x8192x128.size a ≤ S1x16384x128.size a := fun i v66 k1_hw24 k1_h2 => k1_hw24 k1_h2

def k1_off49 (i : grid1.Coords) : Fin 2 → Nat :=
  let arg0 : BitVec 32 := BitVec.ofNat 32 (i 0).val
  let v71 : Index := Scalar.indexCast arg0
  let c11 : Index := 11#32
  ![v71.toNat, 11]
def k1_off50 (v72 : BitVec 32) : Fin 3 → Nat :=
  let c0_25 : Index := 0#32
  let v73 : Index := Scalar.indexCast v72
  let c0_26 : Index := 0#32
  ![0, v73.toNat, 0]

def k1_chk25 (i : grid1.Coords) (v72 : BitVec 32) : Prop :=
  (∀ (k1_h2 : k1_cond2 i = 1#1), ∀ a, (k1_off50 v72) a + S1x8192x128.size a ≤ S1x16384x128.size a)
theorem k1_off50_inb : ∀ (i : grid1.Coords) (v72 : BitVec 32) (k1_hw25 : k1_chk25 i v72), ∀ (k1_h2 : k1_cond2 i = 1#1), ∀ a, (k1_off50 v72) a + S1x8192x128.size a ≤ S1x16384x128.size a := fun i v72 k1_hw25 k1_h2 => k1_hw25 k1_h2

def k1_off51 (i : grid1.Coords) : Fin 2 → Nat :=
  let arg0 : BitVec 32 := BitVec.ofNat 32 (i 0).val
  let v77 : Index := Scalar.indexCast arg0
  let c12 : Index := 12#32
  ![v77.toNat, 12]
def k1_off52 (v78 : BitVec 32) : Fin 3 → Nat :=
  let c0_27 : Index := 0#32
  let v79 : Index := Scalar.indexCast v78
  let c0_28 : Index := 0#32
  ![0, v79.toNat, 0]

def k1_chk26 (i : grid1.Coords) (v78 : BitVec 32) : Prop :=
  (∀ (k1_h2 : k1_cond2 i = 1#1), ∀ a, (k1_off52 v78) a + S1x8192x128.size a ≤ S1x16384x128.size a)
theorem k1_off52_inb : ∀ (i : grid1.Coords) (v78 : BitVec 32) (k1_hw26 : k1_chk26 i v78), ∀ (k1_h2 : k1_cond2 i = 1#1), ∀ a, (k1_off52 v78) a + S1x8192x128.size a ≤ S1x16384x128.size a := fun i v78 k1_hw26 k1_h2 => k1_hw26 k1_h2

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg2 c3_i32
  let v1 : BitVec 32 := Scalar.addi v0 arg1
  let c0_i32 : BitVec 32 := 0#32
  let c0_i32_0 : BitVec 32 := 0#32
  ![arg0.toNat, c0_i32.toNat, v1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg2 c3_i32
  let v1 : BitVec 32 := Scalar.addi v0 arg1
  let c0_i32 : BitVec 32 := 0#32
  let c0_i32_0 : BitVec 32 := 0#32
  ![arg0.toNat, c0_i32.toNat, v1.toNat]

abbrev stage1_0 : Fin 1 → Memref sig .tc .smem S4x16 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 2 → Memref sig .tc .vmem S1x16384x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x16384x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x8192x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x8192x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]
-- ==== KernelIdeal.lean ====
variable {F : FTy → Type} [FloatOps F] [Named F]
def κ : String → Option EReal := fun
  | "inv13" => some ((1 / 13 : ℝ) : EReal)
  | _ => none
-- ==== ReferenceIdeal.lean ====
abbrev S4x8192x768 : Shape := ⟨3, ![4, 8192, 768]⟩
abbrev S768x768 : Shape := ⟨2, ![768, 768]⟩
abbrev S768 : Shape := ⟨1, ![768]⟩
abbrev S4x16 : Shape := ⟨2, ![4, 16]⟩
abbrev S1x1x768 : Shape := ⟨3, ![1, 1, 768]⟩
abbrev S4x13 : Shape := ⟨2, ![4, 13]⟩
abbrev S8192 : Shape := ⟨1, ![8192]⟩
abbrev S1x1x8192 : Shape := ⟨3, ![1, 1, 8192]⟩
abbrev S4x13x1 : Shape := ⟨3, ![4, 13, 1]⟩
abbrev S4x13x8192 : Shape := ⟨3, ![4, 13, 8192]⟩
abbrev S_ : Shape := ⟨0, ![]⟩
abbrev S4x1x8192x768 : Shape := ⟨4, ![4, 1, 8192, 768]⟩
abbrev S4x13x8192x1 : Shape := ⟨4, ![4, 13, 8192, 1]⟩
abbrev S1 : Shape := ⟨1, ![1]⟩
abbrev S1x1x1x1 : Shape := ⟨4, ![1, 1, 1, 1]⟩
abbrev S4x13x8192x768 : Shape := ⟨4, ![4, 13, 8192, 768]⟩

abbrev nBuf : Space → Nat
  | .hbm => 69
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S768x768, .f32⟩
  | .hbm, ⟨2, _⟩ => ⟨S768, .f32⟩
  | .hbm, ⟨3, _⟩ => ⟨S4x16, .i32⟩
  | .hbm, ⟨4, _⟩ => ⟨S768x768, .f32⟩
  | .hbm, ⟨5, _⟩ => ⟨S4x8192x768, .f32⟩
  | .hbm, ⟨6, _⟩ => ⟨S1x1x768, .f32⟩
  | .hbm, ⟨7, _⟩ => ⟨S4x8192x768, .f32⟩
  | .hbm, ⟨8, _⟩ => ⟨S4x8192x768, .f32⟩
  | .hbm, ⟨9, _⟩ => ⟨S4x13, .i32⟩
  | .hbm, ⟨10, _⟩ => ⟨S8192, .i32⟩
  | .hbm, ⟨11, _⟩ => ⟨S1x1x8192, .i32⟩
  | .hbm, ⟨12, _⟩ => ⟨S4x13x1, .i32⟩
  | .hbm, ⟨13, _⟩ => ⟨S4x13x8192, .i32⟩
  | .hbm, ⟨14, _⟩ => ⟨S4x13x8192, .i32⟩
  | .hbm, ⟨15, _⟩ => ⟨S4x13x8192, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S4x13x8192, .i32⟩
  | .hbm, ⟨23, _⟩ => ⟨S4x13x8192, .i32⟩
  | .hbm, ⟨24, _⟩ => ⟨S_, .i32⟩
  | .hbm, ⟨25, _⟩ => ⟨S4x13x8192, .i32⟩
  | .hbm, ⟨26, _⟩ => ⟨S4x13x8192, .i1⟩
  | .hbm, ⟨27, _⟩ => ⟨S_, .i32⟩
  | .hbm, ⟨28, _⟩ => ⟨S4x13x8192, .i32⟩
  | .hbm, ⟨29, _⟩ => ⟨S4x13x8192, .i1⟩
  | .hbm, ⟨30, _⟩ => ⟨S_, .i32⟩
  | .hbm, ⟨31, _⟩ => ⟨S_, .i1⟩
  | .hbm, ⟨32, _⟩ => ⟨S4x13x8192, .i1⟩
  | .hbm, ⟨33, _⟩ => ⟨S4x13x8192, .i1⟩
  | .hbm, ⟨34, _⟩ => ⟨S4x13x8192, .i1⟩
  | .hbm, ⟨35, _⟩ => ⟨S4x13x8192, .i32⟩
  | .hbm, ⟨36, _⟩ => ⟨S4x13x8192, .i32⟩
  | .hbm, ⟨37, _⟩ => ⟨S4x13x8192, .i32⟩
  | .hbm, ⟨38, _⟩ => ⟨S4x1x8192x768, .f32⟩
  | .hbm, ⟨39, _⟩ => ⟨S4x13x8192x1, .i32⟩
  | .hbm, ⟨40, _⟩ => ⟨S_, .i32⟩
  | .hbm, ⟨41, _⟩ => ⟨S4x13x8192x1, .i32⟩
  | .hbm, ⟨42, _⟩ => ⟨S4x13x8192x1, .i1⟩
  | .hbm, ⟨43, _⟩ => ⟨S_, .i32⟩
  | .hbm, ⟨44, _⟩ => ⟨S4x13x8192x1, .i32⟩
  | .hbm, ⟨45, _⟩ => ⟨S4x13x8192x1, .i32⟩
  | .hbm, ⟨46, _⟩ => ⟨S4x13x8192x1, .i32⟩
  | .hbm, ⟨47, _⟩ => ⟨S4x8192x768, .f32⟩
  | .hbm, ⟨48, _⟩ => ⟨S1, .i32⟩
  | .hbm, ⟨49, _⟩ => ⟨S_, .i32⟩
  | .hbm, ⟨50, _⟩ => ⟨S4x13x8192x1, .i32⟩
  | .hbm, ⟨51, _⟩ => ⟨S4x13x8192x1, .i1⟩
  | .hbm, ⟨52, _⟩ => ⟨S1x1x1x1, .i32⟩
  | .hbm, ⟨53, _⟩ => ⟨S4x13x8192x1, .i32⟩
  | .hbm, ⟨54, _⟩ => ⟨S4x13x8192x1, .i1⟩
  | .hbm, ⟨55, _⟩ => ⟨S4x13x8192x1, .i1⟩
  | .hbm, ⟨56, _⟩ => ⟨S_, .i1⟩
  | .hbm, ⟨57, _⟩ => ⟨S4x13x8192, .i1⟩
  | .hbm, ⟨58, _⟩ => ⟨S4x13x8192x768, .f32⟩
  | .hbm, ⟨59, _⟩ => ⟨S4x13x8192x768, .i1⟩
  | .hbm, ⟨60, _⟩ => ⟨S_, .f32⟩
  | .hbm, ⟨61, _⟩ => ⟨S4x13x8192x768, .f32⟩
  | .hbm, ⟨62, _⟩ => ⟨S4x13x8192x768, .f32⟩
  | .hbm, ⟨63, _⟩ => ⟨S_, .f32⟩
  | .hbm, ⟨64, _⟩ => ⟨S4x8192x768, .f32⟩
  | .hbm, ⟨65, _⟩ => ⟨S_, .f32⟩
  | .hbm, ⟨66, _⟩ => ⟨S4x8192x768, .f32⟩
  | .hbm, ⟨67, _⟩ => ⟨S4x8192x768, .f32⟩
  | .hbm, ⟨68, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v15 : Ref sig .tc := ⟨.hbm, 62, rfl⟩
abbrev main_cst : Ref sig .tc := ⟨.hbm, 63, rfl⟩
abbrev main_v16 : Ref sig .tc := ⟨.hbm, 64, rfl⟩
abbrev main_cst_0 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩

abbrev nD : Nat := 1
abbrev τ : Topo := Topo.v7x

variable {F : FTy → Type} [FloatOps F]
-- ==== Kernel2.lean ====
abbrev S4x16384x384 : Shape := ⟨3, ![4, 16384, 384]⟩
abbrev S64x64 : Shape := ⟨2, ![64, 64]⟩
abbrev S4x128x49152 : Shape := ⟨3, ![4, 128, 49152]⟩
abbrev S4x8x64x6144 : Shape := ⟨4, ![4, 8, 64, 6144]⟩
abbrev S1x64x6144 : Shape := ⟨3, ![1, 64, 6144]⟩
abbrev S1x1x64x6144 : Shape := ⟨4, ![1, 1, 64, 6144]⟩
abbrev S64x6144 : Shape := ⟨2, ![64, 6144]⟩

abbrev nBuf : Space → Nat
  | .hbm => 8
  | .vmem => 10
  | .smem => 0
  | _ => 0

abbrev bufTy : (tb : Table) → Fin (tcTables nBuf tb) → BufTy
  | .hbm, ⟨0, _⟩ => ⟨S4x16384x384, .f32⟩
  | .hbm, ⟨1, _⟩ => ⟨S4x16384x384, .f32⟩
  | .hbm, ⟨2, _⟩ => ⟨S64x64, .f32⟩
  | .hbm, ⟨3, _⟩ => ⟨S64x64, .f32⟩
  | .hbm, ⟨4, _⟩ => ⟨S4x128x49152, .f32⟩
  | .hbm, ⟨5, _⟩ => ⟨S4x128x49152, .f32⟩
  | .hbm, ⟨6, _⟩ => ⟨S4x8x64x6144, .f32⟩
  | .hbm, ⟨7, _⟩ => ⟨S4x8x64x6144, .f32⟩
  | .local _ .vmem, ⟨0, _⟩ => ⟨S1x64x6144, .f32⟩
  | .local _ .vmem, ⟨1, _⟩ => ⟨S1x64x6144, .f32⟩
  | .local _ .vmem, ⟨2, _⟩ => ⟨S1x64x6144, .f32⟩
  | .local _ .vmem, ⟨3, _⟩ => ⟨S1x64x6144, .f32⟩
  | .local _ .vmem, ⟨4, _⟩ => ⟨S64x64, .f32⟩
  | .local _ .vmem, ⟨5, _⟩ => ⟨S64x64, .f32⟩
  | .local _ .vmem, ⟨6, _⟩ => ⟨S1x1x64x6144, .f32⟩
  | .local _ .vmem, ⟨7, _⟩ => ⟨S1x1x64x6144, .f32⟩
  | .local _ .vmem, ⟨8, _⟩ => ⟨S1x1x64x6144, .f32⟩
  | .local _ .vmem, ⟨9, _⟩ => ⟨S1x1x64x6144, .f32⟩
  | _, _ => ⟨S4x16384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x64x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x64x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4x16384x384 : Shape := ⟨3, ![4, 16384, 384]⟩
abbrev S64x64 : Shape := ⟨2, ![64, 64]⟩
abbrev S4x8192x384 : Shape := ⟨3, ![4, 8192, 384]⟩
abbrev S4x64x128x384 : Shape := ⟨4, ![4, 64, 128, 384]⟩
abbrev S4x128x384x64 : Shape := ⟨4, ![4, 128, 384, 64]⟩
abbrev S4x64x8x6144 : Shape := ⟨4, ![4, 64, 8, 6144]⟩
abbrev S4x8x64x6144 : Shape := ⟨4, ![4, 8, 64, 6144]⟩

abbrev nBuf : Space → Nat
  | .hbm => 22
  | .vmem => 0
  | .smem => 0
  | _ => 0

abbrev bufTy : (tb : Table) → Fin (tcTables nBuf tb) → BufTy
  | .hbm, ⟨0, _⟩ => ⟨S4x16384x384, .f32⟩
  | .hbm, ⟨1, _⟩ => ⟨S4x16384x384, .f32⟩
  | .hbm, ⟨2, _⟩ => ⟨S64x64, .f32⟩
  | .hbm, ⟨3, _⟩ => ⟨S64x64, .f32⟩
  | .hbm, ⟨4, _⟩ => ⟨S4x8192x384, .f32⟩
  | .hbm, ⟨5, _⟩ => ⟨S4x64x128x384, .f32⟩
  | .hbm, ⟨6, _⟩ => ⟨S4x8192x384, .f32⟩
  | .hbm, ⟨7, _⟩ => ⟨S4x64x128x384, .f32⟩
  | .hbm, ⟨8, _⟩ => ⟨S4x128x384x64, .f32⟩
  | .hbm, ⟨9, _⟩ => ⟨S4x64x128x384, .f32⟩
  | .hbm, ⟨10, _⟩ => ⟨S4x128x384x64, .f32⟩
  | .hbm, ⟨11, _⟩ => ⟨S4x64x128x384, .f32⟩
  | .hbm, ⟨12, _⟩ => ⟨S4x64x128x384, .f32⟩
  | .hbm, ⟨13, _⟩ => ⟨S4x128x384x64, .f32⟩
  | .hbm, ⟨14, _⟩ => ⟨S4x64x128x384, .f32⟩
  | .hbm, ⟨15, _⟩ => ⟨S4x128x384x64, .f32⟩
  | .hbm, ⟨16, _⟩ => ⟨S4x64x128x384, .f32⟩
  | .hbm, ⟨17, _⟩ => ⟨S4x64x128x384, .f32⟩
  | .hbm, ⟨18, _⟩ => ⟨S4x64x8x6144, .f32⟩
  | .hbm, ⟨19, _⟩ => ⟨S4x8x64x6144, .f32⟩
  | .hbm, ⟨20, _⟩ => ⟨S4x64x8x6144, .f32⟩
  | .hbm, ⟨21, _⟩ => ⟨S4x8x64x6144, .f32⟩
  | _, _ => ⟨S4x16384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Kernel3.lean ====
abbrev S4x8x64x6144 : Shape := ⟨4, ![4, 8, 64, 6144]⟩
abbrev S64x128x1 : Shape := ⟨3, ![64, 128, 1]⟩
abbrev S128x128 : Shape := ⟨2, ![128, 128]⟩
abbrev S4x8x64x16x384 : Shape := ⟨5, ![4, 8, 64, 16, 384]⟩
abbrev S32x2x128x1 : Shape := ⟨4, ![32, 2, 128, 1]⟩
abbrev S4x64x128 : Shape := ⟨3, ![4, 64, 128]⟩
abbrev S1x8x2x16x384 : Shape := ⟨5, ![1, 8, 2, 16, 384]⟩
abbrev S1x2x128x1 : Shape := ⟨4, ![1, 2, 128, 1]⟩
abbrev S1x64x128 : Shape := ⟨3, ![1, 64, 128]⟩
abbrev S1x8x1x16x384 : Shape := ⟨5, ![1, 8, 1, 16, 384]⟩
abbrev S8x16x384 : Shape := ⟨3, ![8, 16, 384]⟩
abbrev S128x384 : Shape := ⟨2, ![128, 384]⟩
abbrev S1x1x128x1 : Shape := ⟨4, ![1, 1, 128, 1]⟩
abbrev S128x1 : Shape := ⟨2, ![128, 1]⟩
abbrev S128 : Shape := ⟨1, ![128]⟩
abbrev S1x1x128 : Shape := ⟨3, ![1, 1, 128]⟩

abbrev nBuf : Space → Nat
  | .hbm => 11
  | .vmem => 12
  | .smem => 0
  | _ => 0

abbrev bufTy : (tb : Table) → Fin (tcTables nBuf tb) → BufTy
  | .hbm, ⟨0, _⟩ => ⟨S4x8x64x6144, .f32⟩
  | .hbm, ⟨1, _⟩ => ⟨S4x8x64x6144, .f32⟩
  | .hbm, ⟨2, _⟩ => ⟨S64x128x1, .f32⟩
  | .hbm, ⟨3, _⟩ => ⟨S64x128x1, .f32⟩
  | .hbm, ⟨4, _⟩ => ⟨S128x128, .f32⟩
  | .hbm, ⟨5, _⟩ => ⟨S128x128, .f32⟩
  | .hbm, ⟨6, _⟩ => ⟨S4x8x64x16x384, .f32⟩
  | .hbm, ⟨7, _⟩ => ⟨S4x8x64x16x384, .f32⟩
  | .hbm, ⟨8, _⟩ => ⟨S32x2x128x1, .f32⟩
  | .hbm, ⟨9, _⟩ => ⟨S32x2x128x1, .f32⟩
  | .hbm, ⟨10, _⟩ => ⟨S4x64x128, .f32⟩
  | .local _ .vmem, ⟨0, _⟩ => ⟨S1x8x2x16x384, .f32⟩
  | .local _ .vmem, ⟨1, _⟩ => ⟨S1x8x2x16x384, .f32⟩
  | .local _ .vmem, ⟨2, _⟩ => ⟨S1x8x2x16x384, .f32⟩
  | .local _ .vmem, ⟨3, _⟩ => ⟨S1x8x2x16x384, .f32⟩
  | .local _ .vmem, ⟨4, _⟩ => ⟨S1x2x128x1, .f32⟩
  | .local _ .vmem, ⟨5, _⟩ => ⟨S1x2x128x1, .f32⟩
  | .local _ .vmem, ⟨6, _⟩ => ⟨S1x2x128x1, .f32⟩
  | .local _ .vmem, ⟨7, _⟩ => ⟨S1x2x128x1, .f32⟩
  | .local _ .vmem, ⟨8, _⟩ => ⟨S128x128, .f32⟩
  | .local _ .vmem, ⟨9, _⟩ => ⟨S128x128, .f32⟩
  | .local _ .vmem, ⟨10, _⟩ => ⟨S1x64x128, .f32⟩
  | .local _ .vmem, ⟨11, _⟩ => ⟨S1x64x128, .f32⟩
  | _, _ => ⟨S4x8x64x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 32], ![false, false]⟩

def k0_off1 (i : grid0.Coords) (c0_i32 : BitVec 32) : Fin 3 → Nat :=
  let c0_29 : Index := 0#32
  let c2_i32 : BitVec 32 := 2#32
  let arg1 : BitVec 32 := BitVec.ofNat 32 (i 1).val
  let v34 : BitVec 32 := Scalar.muli c2_i32 arg1
  let v35 : BitVec 32 := Scalar.addi v34 c0_i32
  let v36 : Index := Scalar.indexCast v35
  let c0_30 : Index := 0#32
  ![0, v36.toNat, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x2x16x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2x16x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S4x8x64x6144 : Shape := ⟨4, ![4, 8, 64, 6144]⟩
abbrev S64x128x1 : Shape := ⟨3, ![64, 128, 1]⟩
abbrev S128x128 : Shape := ⟨2, ![128, 128]⟩
abbrev S4x8x64x16x384 : Shape := ⟨5, ![4, 8, 64, 16, 384]⟩
abbrev S4x64x8x16x384 : Shape := ⟨5, ![4, 64, 8, 16, 384]⟩
abbrev S4x64x128x384 : Shape := ⟨4, ![4, 64, 128, 384]⟩
abbrev S1x64x128x1 : Shape := ⟨4, ![1, 64, 128, 1]⟩
abbrev S4x64x384x128 : Shape := ⟨4, ![4, 64, 384, 128]⟩
abbrev S_ : Shape := ⟨0, ![]⟩
abbrev S4x64x128 : Shape := ⟨3, ![4, 64, 128]⟩

abbrev nBuf : Space → Nat
  | .hbm => 41
  | .vmem => 0
  | .smem => 0
  | _ => 0

abbrev bufTy : (tb : Table) → Fin (tcTables nBuf tb) → BufTy
  | .hbm, ⟨0, _⟩ => ⟨S4x8x64x6144, .f32⟩
  | .hbm, ⟨1, _⟩ => ⟨S4x8x64x6144, .f32⟩
  | .hbm, ⟨2, _⟩ => ⟨S64x128x1, .f32⟩
  | .hbm, ⟨3, _⟩ => ⟨S64x128x1, .f32⟩
  | .hbm, ⟨4, _⟩ => ⟨S128x128, .f32⟩
  | .hbm, ⟨5, _⟩ => ⟨S128x128, .f32⟩
  | .hbm, ⟨6, _⟩ => ⟨S4x8x64x16x384, .f32⟩
  | .hbm, ⟨7, _⟩ => ⟨S4x64x8x16x384, .f32⟩
  | .hbm, ⟨8, _⟩ => ⟨S4x64x128x384, .f32⟩
  | .hbm, ⟨9, _⟩ => ⟨S4x8x64x16x384, .f32⟩
  | .hbm, ⟨10, _⟩ => ⟨S4x64x8x16x384, .f32⟩
  | .hbm, ⟨11, _⟩ => ⟨S4x64x128x384, .f32⟩
  | .hbm, ⟨12, _⟩ => ⟨S1x64x128x1, .f32⟩
  | .hbm, ⟨13, _⟩ => ⟨S4x64x128x384, .f32⟩
  | .hbm, ⟨14, _⟩ => ⟨S4x64x128x384, .f32⟩
  | .hbm, ⟨15, _⟩ => ⟨S1x64x128x1, .f32⟩
  | .hbm, ⟨16, _⟩ => ⟨S4x64x128x384, .f32⟩
  | .hbm, ⟨17, _⟩ => ⟨S4x64x128x384, .f32⟩
  | .hbm, ⟨18, _⟩ => ⟨S4x64x128x384, .f32⟩
  | .hbm, ⟨19, _⟩ => ⟨S1x64x128x1, .f32⟩
  | .hbm, ⟨20, _⟩ => ⟨S4x64x128x384, .f32⟩
  | .hbm, ⟨21, _⟩ => ⟨S4x64x128x384, .f32⟩
  | .hbm, ⟨22, _⟩ => ⟨S1x64x128x1, .f32⟩
  | .hbm, ⟨23, _⟩ => ⟨S4x64x128x384, .f32⟩
  | .hbm, ⟨24, _⟩ => ⟨S4x64x128x384, .f32⟩
  | .hbm, ⟨25, _⟩ => ⟨S4x64x128x384, .f32⟩
  | .hbm, ⟨26, _⟩ => ⟨S4x64x384x128, .f32⟩
  | .hbm, ⟨27, _⟩ => ⟨S4x64x128x384, .f32⟩
  | .hbm, ⟨28, _⟩ => ⟨S4x64x384x128, .f32⟩
  | .hbm, ⟨29, _⟩ => ⟨S4x64x128x384, .f32⟩
  | .hbm, ⟨30, _⟩ => ⟨S4x64x128x384, .f32⟩
  | .hbm, ⟨31, _⟩ => ⟨S4x64x384x128, .f32⟩
  | .hbm, ⟨32, _⟩ => ⟨S4x64x128x384, .f32⟩
  | .hbm, ⟨33, _⟩ => ⟨S4x64x384x128, .f32⟩
  | .hbm, ⟨34, _⟩ => ⟨S4x64x128x384, .f32⟩
  | .hbm, ⟨35, _⟩ => ⟨S4x64x128x384, .f32⟩
  | .hbm, ⟨36, _⟩ => ⟨S4x64x128x384, .f32⟩
  | .hbm, ⟨37, _⟩ => ⟨S4x64x128x384, .f32⟩
  | .hbm, ⟨38, _⟩ => ⟨S4x64x128x384, .f32⟩
  | .hbm, ⟨39, _⟩ => ⟨S_, .f32⟩
  | .hbm, ⟨40, _⟩ => ⟨S4x64x128, .f32⟩
  | _, _ => ⟨S4x8x64x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Kernel4.lean ====
abbrev S4x64x128 : Shape := ⟨3, ![4, 64, 128]⟩
abbrev S128x128 : Shape := ⟨2, ![128, 128]⟩
abbrev S64x128 : Shape := ⟨2, ![64, 128]⟩
abbrev S64x64 : Shape := ⟨2, ![64, 64]⟩
abbrev S4x1x16 : Shape := ⟨3, ![4, 1, 16]⟩
abbrev S1x64x128 : Shape := ⟨3, ![1, 64, 128]⟩
abbrev S1x1x16 : Shape := ⟨3, ![1, 1, 16]⟩
abbrev S64x1 : Shape := ⟨2, ![64, 1]⟩
abbrev S64x127 : Shape := ⟨2, ![64, 127]⟩
abbrev S1x128 : Shape := ⟨2, ![1, 128]⟩
abbrev S63x128 : Shape := ⟨2, ![63, 128]⟩
abbrev S1 : Shape := ⟨1, ![1]⟩
abbrev S1x1x1 : Shape := ⟨3, ![1, 1, 1]⟩

abbrev nBuf : Space → Nat
  | .hbm => 10
  | .vmem => 10
  | .smem => 2
  | _ => 0

abbrev bufTy : (tb : Table) → Fin (tcTables nBuf tb) → BufTy
  | .hbm, ⟨0, _⟩ => ⟨S4x64x128, .f32⟩
  | .hbm, ⟨1, _⟩ => ⟨S128x128, .f32⟩
  | .hbm, ⟨2, _⟩ => ⟨S128x128, .f32⟩
  | .hbm, ⟨3, _⟩ => ⟨S64x128, .f32⟩
  | .hbm, ⟨4, _⟩ => ⟨S64x128, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S128x128, .f32⟩
  | .hbm, ⟨9, _⟩ => ⟨S4x1x16, .i32⟩
  | .local _ .vmem, ⟨0, _⟩ => ⟨S1x64x128, .f32⟩
  | .local _ .vmem, ⟨1, _⟩ => ⟨S1x64x128, .f32⟩
  | .local _ .vmem, ⟨2, _⟩ => ⟨S128x128, .f32⟩
  | .local _ .vmem, ⟨3, _⟩ => ⟨S128x128, .f32⟩
  | .local _ .vmem, ⟨4, _⟩ => ⟨S64x128, .f32⟩
  | .local _ .vmem, ⟨5, _⟩ => ⟨S64x128, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S128x128, .f32⟩
  | .local _ .smem, ⟨0, _⟩ => ⟨S1x1x16, .i32⟩
  | .local _ .smem, ⟨1, _⟩ => ⟨S1x1x16, .i32⟩
  | _, _ => ⟨S4x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.smem, 0, rfl⟩
abbrev cc0_stg9_1 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .smem S1x1x16 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S4x64x128 : Shape := ⟨3, ![4, 64, 128]⟩
abbrev S128x128 : Shape := ⟨2, ![128, 128]⟩
abbrev S64x128 : Shape := ⟨2, ![64, 128]⟩
abbrev S64x64 : Shape := ⟨2, ![64, 64]⟩
abbrev S1x64x128 : Shape := ⟨3, ![1, 64, 128]⟩
abbrev S4x128x64 : Shape := ⟨3, ![4, 128, 64]⟩
abbrev S4x8192 : Shape := ⟨2, ![4, 8192]⟩
abbrev S4x1 : Shape := ⟨2, ![4, 1]⟩
abbrev S4x8191 : Shape := ⟨2, ![4, 8191]⟩
abbrev S4x13 : Shape := ⟨2, ![4, 13]⟩
abbrev S_ : Shape := ⟨0, ![]⟩
abbrev S4x3 : Shape := ⟨2, ![4, 3]⟩
abbrev S4x16 : Shape := ⟨2, ![4, 16]⟩
abbrev S4x1x16 : Shape := ⟨3, ![4, 1, 16]⟩

abbrev nBuf : Space → Nat
  | .hbm => 45
  | .vmem => 0
  | .smem => 0
  | _ => 0

abbrev bufTy : (tb : Table) → Fin (tcTables nBuf tb) → BufTy
  | .hbm, ⟨0, _⟩ => ⟨S4x64x128, .f32⟩
  | .hbm, ⟨1, _⟩ => ⟨S128x128, .f32⟩
  | .hbm, ⟨2, _⟩ => ⟨S128x128, .f32⟩
  | .hbm, ⟨3, _⟩ => ⟨S64x128, .f32⟩
  | .hbm, ⟨4, _⟩ => ⟨S64x128, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S128x128, .f32⟩
  | .hbm, ⟨9, _⟩ => ⟨S4x64x128, .f32⟩
  | .hbm, ⟨10, _⟩ => ⟨S4x64x128, .f32⟩
  | .hbm, ⟨11, _⟩ => ⟨S1x64x128, .f32⟩
  | .hbm, ⟨12, _⟩ => ⟨S4x64x128, .f32⟩
  | .hbm, ⟨13, _⟩ => ⟨S4x64x128, .f32⟩
  | .hbm, ⟨14, _⟩ => ⟨S1x64x128, .f32⟩
  | .hbm, ⟨15, _⟩ => ⟨S4x64x128, .f32⟩
  | .hbm, ⟨16, _⟩ => ⟨S4x64x128, .f32⟩
  | .hbm, ⟨17, _⟩ => ⟨S4x64x128, .f32⟩
  | .hbm, ⟨18, _⟩ => ⟨S1x64x128, .f32⟩
  | .hbm, ⟨19, _⟩ => ⟨S4x64x128, .f32⟩
  | .hbm, ⟨20, _⟩ => ⟨S4x64x128, .f32⟩
  | .hbm, ⟨21, _⟩ => ⟨S1x64x128, .f32⟩
  | .hbm, ⟨22, _⟩ => ⟨S4x64x128, .f32⟩
  | .hbm, ⟨23, _⟩ => ⟨S4x64x128, .f32⟩
  | .hbm, ⟨24, _⟩ => ⟨S4x64x128, .f32⟩
  | .hbm, ⟨25, _⟩ => ⟨S4x128x64, .f32⟩
  | .hbm, ⟨26, _⟩ => ⟨S4x64x128, .f32⟩
  | .hbm, ⟨27, _⟩ => ⟨S4x128x64, .f32⟩
  | .hbm, ⟨28, _⟩ => ⟨S4x64x128, .f32⟩
  | .hbm, ⟨29, _⟩ => ⟨S4x64x128, .f32⟩
  | .hbm, ⟨30, _⟩ => ⟨S4x128x64, .f32⟩
  | .hbm, ⟨31, _⟩ => ⟨S4x64x128, .f32⟩
  | .hbm, ⟨32, _⟩ => ⟨S4x64x128, .f32⟩
  | .hbm, ⟨33, _⟩ => ⟨S4x8192, .f32⟩
  | .hbm, ⟨34, _⟩ => ⟨S4x8192, .f32⟩
  | .hbm, ⟨35, _⟩ => ⟨S4x1, .f32⟩
  | .hbm, ⟨36, _⟩ => ⟨S4x8191, .f32⟩
  | .hbm, ⟨37, _⟩ => ⟨S4x8192, .f32⟩
  | .hbm, ⟨38, _⟩ => ⟨S4x8192, .f32⟩
  | .hbm, ⟨39, _⟩ => ⟨S4x13, .f32⟩
  | .hbm, ⟨40, _⟩ => ⟨S4x13, .i32⟩
  | .hbm, ⟨41, _⟩ => ⟨S_, .i32⟩
  | .hbm, ⟨42, _⟩ => ⟨S4x3, .i32⟩
  | .hbm, ⟨43, _⟩ => ⟨S4x16, .i32⟩
  | .hbm, ⟨44, _⟩ => ⟨S4x1x16, .i32⟩
  | _, _ => ⟨S4x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_v0 : Ref sig .tc := ⟨.hbm, 35, rfl⟩
abbrev main_call0_v1 : Ref sig .tc := ⟨.hbm, 36, rfl⟩
abbrev main_v26 : Ref sig .tc := ⟨.hbm, 37, rfl⟩
abbrev main_v27 : Ref sig .tc := ⟨.hbm, 38, rfl⟩
abbrev main_values : Ref sig .tc := ⟨.hbm, 39, rfl⟩
abbrev main_indices : Ref sig .tc := ⟨.hbm, 40, rfl⟩
abbrev main_c : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Proof.Range.lean ====
/-
  The precondition read element by element: every one of the first thirteen delays of a row is a word below 8192. A fold of
  `and` over bits is one exactly where every bit is.
-/
module

public import proofs.«01_k».proof.Defs
public import proofs.«01_k».proof.Proof.Gen.Pre_in_range
public import Idealize.ShloMosaic.Lib.Pointwise

@[expose] public section

set_option maxRecDepth 16384

noncomputable section

open Idealize.ShloMosaic

namespace Cert.Range

open Cert.Pre_in_range

theorem and_one (a b : BitVec 1) : IntOp.andi a b = 1#1 ↔ a = 1#1 ∧ b = 1#1 := by revert a b; decide

theorem fold_ones {ι : Type} (x : ι → BitVec 1) : ∀ (l : List ι) (i : BitVec 1),
    l.foldl (fun r n => IntOp.andi r (x n)) i = 1#1 ↔ i = 1#1 ∧ ∀ n ∈ l, x n = 1#1
  | [], i => by simp
  | n :: l, i => by
    rw [List.foldl_cons, fold_ones x l, and_one]
    simp [and_assoc]

/-- A word that is at least zero and below 8192, both signed, is below 8192 unsigned. -/
theorem word_lt (a : BitVec 32) (h0 : IntOp.cmpi .sge a 0#32 = 1#1) (h1 : IntOp.cmpi .slt a 8192#32 = 1#1) : a.toNat < 8192 := by
  have e0 : (0#32 : BitVec 32).toInt = 0 := by decide
  have e1 : (8192#32 : BitVec 32).toInt = 8192 := by decide
  have b0 : (0#32 : BitVec 32).sle a = true := by
    have h : BitVec.ofBool ((0#32 : BitVec 32).sle a) = 1#1 := h0
    revert h; cases (0#32 : BitVec 32).sle a <;> simp
  have b1 : a.slt 8192#32 = true := by
    have h : BitVec.ofBool (a.slt 8192#32) = 1#1 := h1
    revert h; cases a.slt 8192#32 <;> simp
  simp only [BitVec.sle, BitVec.slt, decide_eq_true_eq, e0, e1] at b0 b1
  have h := BitVec.toInt_eq_toNat_cond a
  have := a.isLt
  split at h <;> omega

variable {F : FTy → Type} [FloatOps F]

theorem delay_lt (a0 : FVec F S4x8192x768 .f32) (a1 : FVec F S768x768 .f32) (a2 : FVec F S768 .f32) (a3 : IVec S4x16 32)
    (h : Cert.Pre_in_range.fn (F := F) a0 a1 a2 a3 = fun _ => 1#1) (y : S4x16.Idx) (hy : (y 1).val < 13) :
    (a3 y).toNat < 8192 := by
  have h0 := congrFun h (fun a => a.elim0)
  unfold Cert.Pre_in_range.fn Host.reduce at h0
  dsimp only at h0
  rw [fold_ones (fun n => andi _ _ (S4x13.rowMajor.symm n))] at h0
  have hk := h0.2 (S4x13.rowMajor (fun a => match a with | ⟨0, _⟩ => y 0 | ⟨1, _⟩ => ⟨(y 1).val, hy⟩ : S4x13.Idx))
    (List.mem_filter.2 ⟨List.mem_finRange _, by rw [decide_eq_true_eq]; exact funext fun a => a.elim0⟩)
  rw [Equiv.symm_apply_apply] at hk
  have hs : extractStridedSlice S4x13 ![0, 0] a3 Facts.slices_S4x16_S4x13_0_0
      (fun a => match a with | ⟨0, _⟩ => y 0 | ⟨1, _⟩ => ⟨(y 1).val, hy⟩ : S4x13.Idx) = a3 y := by
    refine congrArg a3 (funext fun a => Fin.ext ?_)
    match a with
    | ⟨0, _⟩ => show 0 + (y 0).val = (y 0).val; omega
    | ⟨1, _⟩ => show 0 + (y 1).val = (y 1).val; omega
  obtain ⟨hg, hl⟩ := (and_one _ _).mp hk
  rw [← hs]
  exact word_lt _ hg hl

end Cert.Range

end
-- ==== Proof.CombineRunIdeal.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.Pointwise
public import Idealize.ShloMosaic.Lib.VecWindow

@[expose] public section

set_option maxRecDepth 16384

noncomputable section

namespace Cert.KernelIdeal.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable {Ix : Type} [DecidableEq Ix] {U : Type} [URA U] {Lvl : Type} [Preorder Lvl]

local notation "𝕄" => MT nD τ sig Ix (Elt F) ℕ U Lvl

variable (𝒱₀ : Variants)

/-- The delays a body may read: the first thirteen of each row, none past the copy of the first half. -/
def InRange (x0 : Vec F S4x16 .i32) : Prop := ∀ y : S4x16.Idx, (y 1).val < 13 → BitVec.toNat (w := 32) (x0 y) ≤ 8192

/-- A word read of the first thirteen of a row is in range. -/
theorem word_le {arg3 : Memref sig .tc .smem S4x16 .i32} (harg3 : arg3.IsWhole) {x0 : Vec F S4x16 .i32} (hx : InRange x0)
    {off : Fin 2 → Nat} (inb : ∀ a, off a + S1x1.size a ≤ S4x16.size a) (h : Nat.blt (off 1) 13 = true)
    (z : (Rect.unit (s := S4x16) off S1x1.size inb).toLoadRect.shape.Idx) :
    BitVec.toNat (w := 32) (arg3.view.readAt (Elt F) (Rect.unit (s := S4x16) off S1x1.size inb).toLoadRect (harg3.unread x0) z) ≤ 8192 := by
  rw [View.readAt_apply, harg3.read_unread]
  refine hx _ ?_
  have hz : (z 1).val < 1 := (z 1).isLt
  have h' : off 1 < 13 := by simpa using h
  show off 1 + 1 * (z 1).val < 13
  omega

/-- A delay in range keeps the rows it moves inside the doubled signal. -/
theorem rows_inb (v : BitVec 32) (h : v.toNat ≤ 8192) :
    ∀ a, (![0, (Scalar.indexCast v).toNat, 0] : Fin 3 → Nat) a + S1x8192x128.size a ≤ S1x16384x128.size a := by
  intro a
  match a with
  | ⟨0, _⟩ => show 0 + 1 ≤ 1; omega
  | ⟨1, _⟩ => show v.toNat + 8192 ≤ 16384; omega
  | ⟨2, _⟩ => show 0 + 128 ≤ 128; omega

/-- Delay `n` of batch entry `b`. -/
def word (x0 : Vec F S4x16 .i32) (b : Fin 4) (n : Fin 16) : BitVec 32 := x0 (ix2 b n)

/-- The 8192 rows of the doubled signal from row `v` on. -/
def rows (q : Vec F S1x16384x128 .f32) (v : BitVec 32) : Vec F S1x8192x128 .f32 := fun y =>
  q (ix3 (0 : Fin 1) ⟨(v.toNat + (y 1).val) % 16384, Nat.mod_lt _ (by decide)⟩ (y 2))

theorem word_eq {arg3 : Memref sig .tc .smem S4x16 .i32} (harg3 : arg3.IsWhole) (x0 : Vec F S4x16 .i32)
    {off : Fin 2 → Nat} (inb : ∀ a, off a + S1x1.size a ≤ S4x16.size a) (b : Fin 4) (n : Fin 16) (h0 : off 0 = b.val) (h1 : off 1 = n.val)
    (z : (Rect.unit (s := S4x16) off S1x1.size inb).toLoadRect.shape.Idx) :
    arg3.view.readAt (Elt F) (Rect.unit (s := S4x16) off S1x1.size inb).toLoadRect (harg3.unread x0) z = x0 (ix2 b n) := by
  rw [View.readAt_apply, harg3.read_unread]
  congr 1
  funext a
  match a with
  | ⟨0, _⟩ =>
    have hz : (z 0).val < 1 := (z 0).isLt
    exact Fin.ext (by show off 0 + 1 * (z 0).val = b.val; omega)
  | ⟨1, _⟩ =>
    have hz : (z 1).val < 1 := (z 1).isLt
    exact Fin.ext (by show off 1 + 1 * (z 1).val = n.val; omega)

/-- A load of 8192 rows at a delay read from the table is `rows` at that delay. -/
theorem load_eq {arg3 : Memref sig .tc .smem S4x16 .i32} (harg3 : arg3.IsWhole) {x0 : Vec F S4x16 .i32} (hx : InRange x0)
    {arg4 : Memref sig .tc .vmem S1x16384x128 .f32} (harg4 : arg4.IsWhole) (x1 : Vec F S1x16384x128 .f32)
    {off : Fin 2 → Nat} (inb : ∀ a, off a + S1x1.size a ≤ S4x16.size a) (b : Fin 4) (n : Fin 16) (h0 : off 0 = b.val) (h1 : off 1 = n.val)
    (hn : Nat.blt n.val 13 = true)
    (z : (Rect.unit (s := S4x16) off S1x1.size inb).toLoadRect.shape.Idx)
    (inb' : ∀ a, (![0, (Scalar.indexCast (arg3.view.readAt (Elt F) (Rect.unit (s := S4x16) off S1x1.size inb).toLoadRect (harg3.unread x0) z)).toNat, 0] : Fin 3 → Nat) a + S1x8192x128.size a ≤ S1x16384x128.size a) :
    arg4.view.readAt (Elt F) (Rect.unit (s := S1x16384x128) ![0, (Scalar.indexCast (arg3.view.readAt (Elt F) (Rect.unit (s := S4x16) off S1x1.size inb).toLoadRect (harg3.unread x0) z)).toNat, 0] S1x8192x128.size inb').toLoadRect (harg4.unread x1)
      = rows x1 (word x0 b n) := by
  have hw := word_eq harg3 x0 inb b n h0 h1 z
  have hr := hx (ix2 b n) (by show n.val < 13; simpa using hn)
  funext y
  rw [View.readAt_apply, harg4.read_unread]
  unfold rows word
  congr 1
  funext a
  match a with
  | ⟨0, _⟩ =>
    have hy : (y 0).val < 1 := (y 0).isLt
    exact Fin.ext (by show 0 + 1 * (y 0).val = 0; omega)
  | ⟨1, _⟩ =>
    have hy : (y 1).val < 8192 := (y 1).isLt
    refine Fin.ext ?_
    show BitVec.toNat (w := 32) (arg3.view.readAt (Elt F) (Rect.unit (s := S4x16) off S1x1.size inb).toLoadRect (harg3.unread x0) z) + 1 * (y 1).val
      = (BitVec.toNat (w := 32) (x0 (ix2 b n)) + (y 1).val) % 16384
    have e := congrArg (BitVec.toNat (w := 32)) hw
    have hr' : BitVec.toNat (w := 32) (x0 (ix2 b n)) ≤ 8192 := hr
    rw [Nat.mod_eq_of_lt (by omega)]
    omega
  | ⟨2, _⟩ => exact Fin.ext (by show 0 + 1 * (y 2).val = (y 2).val; omega)

/-- The grid coordinate as an offset. -/
theorem coord_toNat (i : grid1.Coords) : (Scalar.indexCast (BitVec.ofNat 32 (i 0).val)).toNat = (i 0).val := by
  have h : (i 0).val < 4 := (i 0).isLt
  show (BitVec.ofNat 32 (i 0).val).toNat = _
  rw [BitVec.toNat_ofNat]
  omega

/-- The batch entry of a grid point. -/
abbrev bat (i : grid1.Coords) : Fin 4 := i 0

/-- What a grid point leaves in its output block: its rows of the input, plus the mean of the thirteen shifted runs of rows
    of `q`, as the body at such a point adds them. -/
def outA (x0 : Vec F S4x16 .i32) (q : Vec F S1x16384x128 .f32) (x3 : Vec F S1x8192x128 .f32) (b : Fin 4) : Vec F S1x8192x128 .f32 :=
  k1_pay1 (k1_pay4 (k1_pay3 (rows q (word x0 b 0)) (rows q (word x0 b 1)) (rows q (word x0 b 2)) (rows q (word x0 b 3)) (rows q (word x0 b 4)) (rows q (word x0 b 5))) (rows q (word x0 b 6)) (rows q (word x0 b 7)) (rows q (word x0 b 8)) (rows q (word x0 b 9)) (rows q (word x0 b 10)) (rows q (word x0 b 11))) (rows q (word x0 b 12)) x3

set_option maxHeartbeats 4000000 in
/-- What the body's one store leaves in the output's buffer at a point of this half, with the run itself. -/
noncomputable def runA (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : k1_cond1 i = 1#1) (h2 : ¬ k1_cond2 i = 1#1) (hx : InRange x0) :
    { L : List (View.Piece (Elt F) S1x8192x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L)) -∗ K ⟨⟩))
          ⊢ wp frame (wpE (defs₀ (F := F)) 𝒱₀ c none) E (cc1__combine_body i arg3 harg3 arg4 harg4 arg5 harg5 arg6 harg6 arg7 harg7) K } := by
  refine ⟨?_, fun E K => ?run⟩
  case run =>
    simp only [cc1__combine_body_eq_skeleton]; unfold cc1__combine_body_skel
    simp only [k1_part1_eq_skeleton, k1_part2_eq_skeleton, dif_pos h1, dif_neg h2]
    unfold k1_part1_skel k1_part2_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := exact fun _ => rows_inb _ (word_le harg3 hx _ rfl _))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

theorem runA_v0 (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : k1_cond1 i = 1#1) (h2 : ¬ k1_cond2 i = 1#1) (hx : InRange x0) :
    runA.sl.v9 c i arg3 harg3 arg4 harg4 x0 x1 h1 hx = rows x1 (word x0 (bat i) 0) :=
  load_eq harg3 hx harg4 x1 (k1_off1_inb i h1) (bat i) 0 (coord_toNat i) rfl rfl _ _

theorem runA_v1 (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : k1_cond1 i = 1#1) (h2 : ¬ k1_cond2 i = 1#1) (hx : InRange x0) :
    runA.sl.v14 c i arg3 harg3 arg4 harg4 x0 x1 h1 hx = rows x1 (word x0 (bat i) 1) :=
  load_eq harg3 hx harg4 x1 (k1_off3_inb i h1) (bat i) 1 (coord_toNat i) rfl rfl _ _

theorem runA_v2 (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : k1_cond1 i = 1#1) (h2 : ¬ k1_cond2 i = 1#1) (hx : InRange x0) :
    runA.sl.v20 c i arg3 harg3 arg4 harg4 x0 x1 h1 hx = rows x1 (word x0 (bat i) 2) :=
  load_eq harg3 hx harg4 x1 (k1_off5_inb i h1) (bat i) 2 (coord_toNat i) rfl rfl _ _

theorem runA_v3 (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : k1_cond1 i = 1#1) (h2 : ¬ k1_cond2 i = 1#1) (hx : InRange x0) :
    runA.sl.v26 c i arg3 harg3 arg4 harg4 x0 x1 h1 hx = rows x1 (word x0 (bat i) 3) :=
  load_eq harg3 hx harg4 x1 (k1_off7_inb i h1) (bat i) 3 (coord_toNat i) rfl rfl _ _

theorem runA_v4 (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : k1_cond1 i = 1#1) (h2 : ¬ k1_cond2 i = 1#1) (hx : InRange x0) :
    runA.sl.v32 c i arg3 harg3 arg4 harg4 x0 x1 h1 hx = rows x1 (word x0 (bat i) 4) :=
  load_eq harg3 hx harg4 x1 (k1_off9_inb i h1) (bat i) 4 (coord_toNat i) rfl rfl _ _

theorem runA_v5 (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : k1_cond1 i = 1#1) (h2 : ¬ k1_cond2 i = 1#1) (hx : InRange x0) :
    runA.sl.v38 c i arg3 harg3 arg4 harg4 x0 x1 h1 hx = rows x1 (word x0 (bat i) 5) :=
  load_eq harg3 hx harg4 x1 (k1_off11_inb i h1) (bat i) 5 (coord_toNat i) rfl rfl _ _

theorem runA_v6 (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : k1_cond1 i = 1#1) (h2 : ¬ k1_cond2 i = 1#1) (hx : InRange x0) :
    runA.sl.v44 c i arg3 harg3 arg4 harg4 x0 x1 h1 hx = rows x1 (word x0 (bat i) 6) :=
  load_eq harg3 hx harg4 x1 (k1_off13_inb i h1) (bat i) 6 (coord_toNat i) rfl rfl _ _

theorem runA_v7 (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : k1_cond1 i = 1#1) (h2 : ¬ k1_cond2 i = 1#1) (hx : InRange x0) :
    runA.sl.v50 c i arg3 harg3 arg4 harg4 x0 x1 h1 hx = rows x1 (word x0 (bat i) 7) :=
  load_eq harg3 hx harg4 x1 (k1_off15_inb i h1) (bat i) 7 (coord_toNat i) rfl rfl _ _

theorem runA_v8 (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : k1_cond1 i = 1#1) (h2 : ¬ k1_cond2 i = 1#1) (hx : InRange x0) :
    runA.sl.v56 c i arg3 harg3 arg4 harg4 x0 x1 h1 hx = rows x1 (word x0 (bat i) 8) :=
  load_eq harg3 hx harg4 x1 (k1_off17_inb i h1) (bat i) 8 (coord_toNat i) rfl rfl _ _

theorem runA_v9 (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : k1_cond1 i = 1#1) (h2 : ¬ k1_cond2 i = 1#1) (hx : InRange x0) :
    runA.sl.v62 c i arg3 harg3 arg4 harg4 x0 x1 h1 hx = rows x1 (word x0 (bat i) 9) :=
  load_eq harg3 hx harg4 x1 (k1_off19_inb i h1) (bat i) 9 (coord_toNat i) rfl rfl _ _

theorem runA_v10 (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : k1_cond1 i = 1#1) (h2 : ¬ k1_cond2 i = 1#1) (hx : InRange x0) :
    runA.sl.v68 c i arg3 harg3 arg4 harg4 x0 x1 h1 hx = rows x1 (word x0 (bat i) 10) :=
  load_eq harg3 hx harg4 x1 (k1_off21_inb i h1) (bat i) 10 (coord_toNat i) rfl rfl _ _

theorem runA_v11 (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : k1_cond1 i = 1#1) (h2 : ¬ k1_cond2 i = 1#1) (hx : InRange x0) :
    runA.sl.v74 c i arg3 harg3 arg4 harg4 x0 x1 h1 hx = rows x1 (word x0 (bat i) 11) :=
  load_eq harg3 hx harg4 x1 (k1_off23_inb i h1) (bat i) 11 (coord_toNat i) rfl rfl _ _

theorem runA_v12 (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : k1_cond1 i = 1#1) (h2 : ¬ k1_cond2 i = 1#1) (hx : InRange x0) :
    runA.sl.v80 c i arg3 harg3 arg4 harg4 x0 x1 h1 hx = rows x1 (word x0 (bat i) 12) :=
  load_eq harg3 hx harg4 x1 (k1_off25_inb i h1) (bat i) 12 (coord_toNat i) rfl rfl _ _

/-- The run's one piece, named. -/
theorem runA_pieces (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : k1_cond1 i = 1#1) (h2 : ¬ k1_cond2 i = 1#1) (hx : InRange x0) :
    (runA (Ix := Ix) (U := U) (Lvl := Lvl) 𝒱₀ c i arg3 harg3 arg4 harg4 arg5 harg5 arg6 harg6 arg7 harg7 x0 x1 x2 x3 h1 h2 hx).1
      = [⟨Rect.unit (s := S1x8192x128) ![0, 0, 0] S1x8192x128.size inb_S1x8192x128_S1x8192x128_0_0_0, outA x0 x1 x3 (bat i)⟩] := by
  have e3 : arg6.view.readAt (Elt F) (Rect.unit (s := S1x8192x128) ![0, 0, 0] S1x8192x128.size inb_S1x8192x128_S1x8192x128_0_0_0).toLoadRect (harg6.unread x3) = x3 := by
    funext y
    rw [View.readAt_apply]
    refine (congrArg (arg6.view.read (Elt F) (harg6.unread x3)) (funext fun a => Fin.ext ?_)).trans (congrFun (harg6.read_unread x3) y)
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  show ([⟨Rect.unit (s := S1x8192x128) ![0, 0, 0] S1x8192x128.size inb_S1x8192x128_S1x8192x128_0_0_0, k1_pay1 (k1_pay4 (k1_pay3 (runA.sl.v9 c i arg3 harg3 arg4 harg4 x0 x1 h1 hx) (runA.sl.v14 c i arg3 harg3 arg4 harg4 x0 x1 h1 hx) (runA.sl.v20 c i arg3 harg3 arg4 harg4 x0 x1 h1 hx) (runA.sl.v26 c i arg3 harg3 arg4 harg4 x0 x1 h1 hx) (runA.sl.v32 c i arg3 harg3 arg4 harg4 x0 x1 h1 hx) (runA.sl.v38 c i arg3 harg3 arg4 harg4 x0 x1 h1 hx)) (runA.sl.v44 c i arg3 harg3 arg4 harg4 x0 x1 h1 hx) (runA.sl.v50 c i arg3 harg3 arg4 harg4 x0 x1 h1 hx) (runA.sl.v56 c i arg3 harg3 arg4 harg4 x0 x1 h1 hx) (runA.sl.v62 c i arg3 harg3 arg4 harg4 x0 x1 h1 hx) (runA.sl.v68 c i arg3 harg3 arg4 harg4 x0 x1 h1 hx) (runA.sl.v74 c i arg3 harg3 arg4 harg4 x0 x1 h1 hx)) (runA.sl.v80 c i arg3 harg3 arg4 harg4 x0 x1 h1 hx) (arg6.view.readAt (Elt F) (Rect.unit (s := S1x8192x128) ![0, 0, 0] S1x8192x128.size inb_S1x8192x128_S1x8192x128_0_0_0).toLoadRect (harg6.unread x3))⟩] : List (View.Piece (Elt F) S1x8192x128 .f32)) = _
  rw [e3, runA_v0 c i arg3 harg3 arg4 harg4 arg5 harg5 arg6 harg6 arg7 harg7 x0 x1 x2 x3 h1 h2 hx, runA_v1 c i arg3 harg3 arg4 harg4 arg5 harg5 arg6 harg6 arg7 harg7 x0 x1 x2 x3 h1 h2 hx, runA_v2 c i arg3 harg3 arg4 harg4 arg5 harg5 arg6 harg6 arg7 harg7 x0 x1 x2 x3 h1 h2 hx, runA_v3 c i arg3 harg3 arg4 harg4 arg5 harg5 arg6 harg6 arg7 harg7 x0 x1 x2 x3 h1 h2 hx, runA_v4 c i arg3 harg3 arg4 harg4 arg5 harg5 arg6 harg6 arg7 harg7 x0 x1 x2 x3 h1 h2 hx, runA_v5 c i arg3 harg3 arg4 harg4 arg5 harg5 arg6 harg6 arg7 harg7 x0 x1 x2 x3 h1 h2 hx, runA_v6 c i arg3 harg3 arg4 harg4 arg5 harg5 arg6 harg6 arg7 harg7 x0 x1 x2 x3 h1 h2 hx, runA_v7 c i arg3 harg3 arg4 harg4 arg5 harg5 arg6 harg6 arg7 harg7 x0 x1 x2 x3 h1 h2 hx, runA_v8 c i arg3 harg3 arg4 harg4 arg5 harg5 arg6 harg6 arg7 harg7 x0 x1 x2 x3 h1 h2 hx, runA_v9 c i arg3 harg3 arg4 harg4 arg5 harg5 arg6 harg6 arg7 harg7 x0 x1 x2 x3 h1 h2 hx, runA_v10 c i arg3 harg3 arg4 harg4 arg5 harg5 arg6 harg6 arg7 harg7 x0 x1 x2 x3 h1 h2 hx, runA_v11 c i arg3 harg3 arg4 harg4 arg5 harg5 arg6 harg6 arg7 harg7 x0 x1 x2 x3 h1 h2 hx, runA_v12 c i arg3 harg3 arg4 harg4 arg5 harg5 arg6 harg6 arg7 harg7 x0 x1 x2 x3 h1 h2 hx]
  rfl

/-- It covers the block. -/
theorem coverA (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : k1_cond1 i = 1#1) (h2 : ¬ k1_cond2 i = 1#1) (hx : InRange x0) (y : S1x8192x128.Idx) :
    ∃ pc ∈ (runA (Ix := Ix) (U := U) (Lvl := Lvl) 𝒱₀ c i arg3 harg3 arg4 harg4 arg5 harg5 arg6 harg6 arg7 harg7 x0 x1 x2 x3 h1 h2 hx).1, y ∈ pc.1.set := by
  rw [runA_pieces 𝒱₀ c i arg3 harg3 arg4 harg4 arg5 harg5 arg6 harg6 arg7 harg7 x0 x1 x2 x3 h1 h2 hx]
  refine ⟨_, List.mem_singleton_self _, ?_⟩
  refine (Rect.mem_set_unit (inb := inb_S1x8192x128_S1x8192x128_0_0_0)).mpr fun a => ?_
  match a with
  | ⟨0, _⟩ => exact ⟨Nat.zero_le _, by have h : (y 0).val < 1 := (y 0).isLt; show (y 0).val < 0 + 1; omega⟩
  | ⟨1, _⟩ => exact ⟨Nat.zero_le _, by have h : (y 1).val < 8192 := (y 1).isLt; show (y 1).val < 0 + 8192; omega⟩
  | ⟨2, _⟩ => exact ⟨Nat.zero_le _, by have h : (y 2).val < 128 := (y 2).isLt; show (y 2).val < 0 + 128; omega⟩

/-- What a grid point leaves in its output block: its rows of the input, plus the mean of the thirteen shifted runs of rows
    of `q`, as the body at such a point adds them. -/
def outB (x0 : Vec F S4x16 .i32) (q : Vec F S1x16384x128 .f32) (x3 : Vec F S1x8192x128 .f32) (b : Fin 4) : Vec F S1x8192x128 .f32 :=
  k1_pay2 (k1_pay6 (k1_pay5 (rows q (word x0 b 0)) (rows q (word x0 b 1)) (rows q (word x0 b 2)) (rows q (word x0 b 3)) (rows q (word x0 b 4)) (rows q (word x0 b 5))) (rows q (word x0 b 6)) (rows q (word x0 b 7)) (rows q (word x0 b 8)) (rows q (word x0 b 9)) (rows q (word x0 b 10)) (rows q (word x0 b 11))) (rows q (word x0 b 12)) x3

set_option maxHeartbeats 4000000 in
/-- What the body's one store leaves in the output's buffer at a point of this half, with the run itself. -/
noncomputable def runB (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : ¬ k1_cond1 i = 1#1) (h2 : k1_cond2 i = 1#1) (hx : InRange x0) :
    { L : List (View.Piece (Elt F) S1x8192x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L)) -∗ K ⟨⟩))
          ⊢ wp frame (wpE (defs₀ (F := F)) 𝒱₀ c none) E (cc1__combine_body i arg3 harg3 arg4 harg4 arg5 harg5 arg6 harg6 arg7 harg7) K } := by
  refine ⟨?_, fun E K => ?run⟩
  case run =>
    simp only [cc1__combine_body_eq_skeleton]; unfold cc1__combine_body_skel
    simp only [k1_part3_eq_skeleton, k1_part4_eq_skeleton, dif_neg h1, dif_pos h2]
    unfold k1_part3_skel k1_part4_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := exact fun _ => rows_inb _ (word_le harg3 hx _ rfl _))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

theorem runB_v0 (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : ¬ k1_cond1 i = 1#1) (h2 : k1_cond2 i = 1#1) (hx : InRange x0) :
    runB.sl.v9 c i arg3 harg3 arg5 harg5 x0 x2 h2 hx = rows x2 (word x0 (bat i) 0) :=
  load_eq harg3 hx harg5 x2 (k1_off27_inb i h2) (bat i) 0 (coord_toNat i) rfl rfl _ _

theorem runB_v1 (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : ¬ k1_cond1 i = 1#1) (h2 : k1_cond2 i = 1#1) (hx : InRange x0) :
    runB.sl.v14 c i arg3 harg3 arg5 harg5 x0 x2 h2 hx = rows x2 (word x0 (bat i) 1) :=
  load_eq harg3 hx harg5 x2 (k1_off29_inb i h2) (bat i) 1 (coord_toNat i) rfl rfl _ _

theorem runB_v2 (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : ¬ k1_cond1 i = 1#1) (h2 : k1_cond2 i = 1#1) (hx : InRange x0) :
    runB.sl.v20 c i arg3 harg3 arg5 harg5 x0 x2 h2 hx = rows x2 (word x0 (bat i) 2) :=
  load_eq harg3 hx harg5 x2 (k1_off31_inb i h2) (bat i) 2 (coord_toNat i) rfl rfl _ _

theorem runB_v3 (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : ¬ k1_cond1 i = 1#1) (h2 : k1_cond2 i = 1#1) (hx : InRange x0) :
    runB.sl.v26 c i arg3 harg3 arg5 harg5 x0 x2 h2 hx = rows x2 (word x0 (bat i) 3) :=
  load_eq harg3 hx harg5 x2 (k1_off33_inb i h2) (bat i) 3 (coord_toNat i) rfl rfl _ _

theorem runB_v4 (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : ¬ k1_cond1 i = 1#1) (h2 : k1_cond2 i = 1#1) (hx : InRange x0) :
    runB.sl.v32 c i arg3 harg3 arg5 harg5 x0 x2 h2 hx = rows x2 (word x0 (bat i) 4) :=
  load_eq harg3 hx harg5 x2 (k1_off35_inb i h2) (bat i) 4 (coord_toNat i) rfl rfl _ _

theorem runB_v5 (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : ¬ k1_cond1 i = 1#1) (h2 : k1_cond2 i = 1#1) (hx : InRange x0) :
    runB.sl.v38 c i arg3 harg3 arg5 harg5 x0 x2 h2 hx = rows x2 (word x0 (bat i) 5) :=
  load_eq harg3 hx harg5 x2 (k1_off37_inb i h2) (bat i) 5 (coord_toNat i) rfl rfl _ _

theorem runB_v6 (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : ¬ k1_cond1 i = 1#1) (h2 : k1_cond2 i = 1#1) (hx : InRange x0) :
    runB.sl.v44 c i arg3 harg3 arg5 harg5 x0 x2 h2 hx = rows x2 (word x0 (bat i) 6) :=
  load_eq harg3 hx harg5 x2 (k1_off39_inb i h2) (bat i) 6 (coord_toNat i) rfl rfl _ _

theorem runB_v7 (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : ¬ k1_cond1 i = 1#1) (h2 : k1_cond2 i = 1#1) (hx : InRange x0) :
    runB.sl.v50 c i arg3 harg3 arg5 harg5 x0 x2 h2 hx = rows x2 (word x0 (bat i) 7) :=
  load_eq harg3 hx harg5 x2 (k1_off41_inb i h2) (bat i) 7 (coord_toNat i) rfl rfl _ _

theorem runB_v8 (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : ¬ k1_cond1 i = 1#1) (h2 : k1_cond2 i = 1#1) (hx : InRange x0) :
    runB.sl.v56 c i arg3 harg3 arg5 harg5 x0 x2 h2 hx = rows x2 (word x0 (bat i) 8) :=
  load_eq harg3 hx harg5 x2 (k1_off43_inb i h2) (bat i) 8 (coord_toNat i) rfl rfl _ _

theorem runB_v9 (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : ¬ k1_cond1 i = 1#1) (h2 : k1_cond2 i = 1#1) (hx : InRange x0) :
    runB.sl.v62 c i arg3 harg3 arg5 harg5 x0 x2 h2 hx = rows x2 (word x0 (bat i) 9) :=
  load_eq harg3 hx harg5 x2 (k1_off45_inb i h2) (bat i) 9 (coord_toNat i) rfl rfl _ _

theorem runB_v10 (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : ¬ k1_cond1 i = 1#1) (h2 : k1_cond2 i = 1#1) (hx : InRange x0) :
    runB.sl.v68 c i arg3 harg3 arg5 harg5 x0 x2 h2 hx = rows x2 (word x0 (bat i) 10) :=
  load_eq harg3 hx harg5 x2 (k1_off47_inb i h2) (bat i) 10 (coord_toNat i) rfl rfl _ _

theorem runB_v11 (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : ¬ k1_cond1 i = 1#1) (h2 : k1_cond2 i = 1#1) (hx : InRange x0) :
    runB.sl.v74 c i arg3 harg3 arg5 harg5 x0 x2 h2 hx = rows x2 (word x0 (bat i) 11) :=
  load_eq harg3 hx harg5 x2 (k1_off49_inb i h2) (bat i) 11 (coord_toNat i) rfl rfl _ _

theorem runB_v12 (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : ¬ k1_cond1 i = 1#1) (h2 : k1_cond2 i = 1#1) (hx : InRange x0) :
    runB.sl.v80 c i arg3 harg3 arg5 harg5 x0 x2 h2 hx = rows x2 (word x0 (bat i) 12) :=
  load_eq harg3 hx harg5 x2 (k1_off51_inb i h2) (bat i) 12 (coord_toNat i) rfl rfl _ _

/-- The run's one piece, named. -/
theorem runB_pieces (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : ¬ k1_cond1 i = 1#1) (h2 : k1_cond2 i = 1#1) (hx : InRange x0) :
    (runB (Ix := Ix) (U := U) (Lvl := Lvl) 𝒱₀ c i arg3 harg3 arg4 harg4 arg5 harg5 arg6 harg6 arg7 harg7 x0 x1 x2 x3 h1 h2 hx).1
      = [⟨Rect.unit (s := S1x8192x128) ![0, 0, 0] S1x8192x128.size inb_S1x8192x128_S1x8192x128_0_0_0, outB x0 x2 x3 (bat i)⟩] := by
  have e3 : arg6.view.readAt (Elt F) (Rect.unit (s := S1x8192x128) ![0, 0, 0] S1x8192x128.size inb_S1x8192x128_S1x8192x128_0_0_0).toLoadRect (harg6.unread x3) = x3 := by
    funext y
    rw [View.readAt_apply]
    refine (congrArg (arg6.view.read (Elt F) (harg6.unread x3)) (funext fun a => Fin.ext ?_)).trans (congrFun (harg6.read_unread x3) y)
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  show ([⟨Rect.unit (s := S1x8192x128) ![0, 0, 0] S1x8192x128.size inb_S1x8192x128_S1x8192x128_0_0_0, k1_pay2 (k1_pay6 (k1_pay5 (runB.sl.v9 c i arg3 harg3 arg5 harg5 x0 x2 h2 hx) (runB.sl.v14 c i arg3 harg3 arg5 harg5 x0 x2 h2 hx) (runB.sl.v20 c i arg3 harg3 arg5 harg5 x0 x2 h2 hx) (runB.sl.v26 c i arg3 harg3 arg5 harg5 x0 x2 h2 hx) (runB.sl.v32 c i arg3 harg3 arg5 harg5 x0 x2 h2 hx) (runB.sl.v38 c i arg3 harg3 arg5 harg5 x0 x2 h2 hx)) (runB.sl.v44 c i arg3 harg3 arg5 harg5 x0 x2 h2 hx) (runB.sl.v50 c i arg3 harg3 arg5 harg5 x0 x2 h2 hx) (runB.sl.v56 c i arg3 harg3 arg5 harg5 x0 x2 h2 hx) (runB.sl.v62 c i arg3 harg3 arg5 harg5 x0 x2 h2 hx) (runB.sl.v68 c i arg3 harg3 arg5 harg5 x0 x2 h2 hx) (runB.sl.v74 c i arg3 harg3 arg5 harg5 x0 x2 h2 hx)) (runB.sl.v80 c i arg3 harg3 arg5 harg5 x0 x2 h2 hx) (arg6.view.readAt (Elt F) (Rect.unit (s := S1x8192x128) ![0, 0, 0] S1x8192x128.size inb_S1x8192x128_S1x8192x128_0_0_0).toLoadRect (harg6.unread x3))⟩] : List (View.Piece (Elt F) S1x8192x128 .f32)) = _
  rw [e3, runB_v0 c i arg3 harg3 arg4 harg4 arg5 harg5 arg6 harg6 arg7 harg7 x0 x1 x2 x3 h1 h2 hx, runB_v1 c i arg3 harg3 arg4 harg4 arg5 harg5 arg6 harg6 arg7 harg7 x0 x1 x2 x3 h1 h2 hx, runB_v2 c i arg3 harg3 arg4 harg4 arg5 harg5 arg6 harg6 arg7 harg7 x0 x1 x2 x3 h1 h2 hx, runB_v3 c i arg3 harg3 arg4 harg4 arg5 harg5 arg6 harg6 arg7 harg7 x0 x1 x2 x3 h1 h2 hx, runB_v4 c i arg3 harg3 arg4 harg4 arg5 harg5 arg6 harg6 arg7 harg7 x0 x1 x2 x3 h1 h2 hx, runB_v5 c i arg3 harg3 arg4 harg4 arg5 harg5 arg6 harg6 arg7 harg7 x0 x1 x2 x3 h1 h2 hx, runB_v6 c i arg3 harg3 arg4 harg4 arg5 harg5 arg6 harg6 arg7 harg7 x0 x1 x2 x3 h1 h2 hx, runB_v7 c i arg3 harg3 arg4 harg4 arg5 harg5 arg6 harg6 arg7 harg7 x0 x1 x2 x3 h1 h2 hx, runB_v8 c i arg3 harg3 arg4 harg4 arg5 harg5 arg6 harg6 arg7 harg7 x0 x1 x2 x3 h1 h2 hx, runB_v9 c i arg3 harg3 arg4 harg4 arg5 harg5 arg6 harg6 arg7 harg7 x0 x1 x2 x3 h1 h2 hx, runB_v10 c i arg3 harg3 arg4 harg4 arg5 harg5 arg6 harg6 arg7 harg7 x0 x1 x2 x3 h1 h2 hx, runB_v11 c i arg3 harg3 arg4 harg4 arg5 harg5 arg6 harg6 arg7 harg7 x0 x1 x2 x3 h1 h2 hx, runB_v12 c i arg3 harg3 arg4 harg4 arg5 harg5 arg6 harg6 arg7 harg7 x0 x1 x2 x3 h1 h2 hx]
  rfl

/-- It covers the block. -/
theorem coverB (c : Dev nD) (i : grid1.Coords) (arg3 : Memref sig .tc .smem S4x16 .i32) (harg3 : arg3.IsWhole) (arg4 : Memref sig .tc .vmem S1x16384x128 .f32) (harg4 : arg4.IsWhole) (arg5 : Memref sig .tc .vmem S1x16384x128 .f32) (harg5 : arg5.IsWhole) (arg6 : Memref sig .tc .vmem S1x8192x128 .f32) (harg6 : arg6.IsWhole) (arg7 : Memref sig .tc .vmem S1x8192x128 .f32) (harg7 : arg7.IsWhole)
    (x0 : Vec F S4x16 .i32) (x1 x2 : Vec F S1x16384x128 .f32) (x3 : Vec F S1x8192x128 .f32)
    (h1 : ¬ k1_cond1 i = 1#1) (h2 : k1_cond2 i = 1#1) (hx : InRange x0) (y : S1x8192x128.Idx) :
    ∃ pc ∈ (runB (Ix := Ix) (U := U) (Lvl := Lvl) 𝒱₀ c i arg3 harg3 arg4 harg4 arg5 harg5 arg6 harg6 arg7 harg7 x0 x1 x2 x3 h1 h2 hx).1, y ∈ pc.1.set := by
  rw [runB_pieces 𝒱₀ c i arg3 harg3 arg4 harg4 arg5 harg5 arg6 harg6 arg7 harg7 x0 x1 x2 x3 h1 h2 hx]
  refine ⟨_, List.mem_singleton_self _, ?_⟩
  refine (Rect.mem_set_unit (inb := inb_S1x8192x128_S1x8192x128_0_0_0)).mpr fun a => ?_
  match a with
  | ⟨0, _⟩ => exact ⟨Nat.zero_le _, by have h : (y 0).val < 1 := (y 0).isLt; show (y 0).val < 0 + 1; omega⟩
  | ⟨1, _⟩ => exact ⟨Nat.zero_le _, by have h : (y 1).val < 8192 := (y 1).isLt; show (y 1).val < 0 + 8192; omega⟩
  | ⟨2, _⟩ => exact ⟨Nat.zero_le _, by have h : (y 2).val < 128 := (y 2).isLt; show (y 2).val < 0 + 128; omega⟩

variable (V : (c : Dev nD) → (b : Ref sig .tc) → Buf (Elt F) ((c : Thread nD τ).loc b)) (D : Dev nD → CellTallies nD τ sig Ix)

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the output's buffer holds after point `t`: the first half's rows where the third coordinate is zero, the second
    half's otherwise. -/
def outAt (c : Dev nD) (t : Fin cfg1.N) : Vec F S1x8192x128 .f32 :=
  if k1_cond1 (grid1.coords t) = 1#1 then outA (blk V c 0 t) (blk V c 1 t) (blk V c 3 t) (bat (grid1.coords t))
  else outB (blk V c 0 t) (blk V c 2 t) (blk V c 3 t) (bat (grid1.coords t))

/-- Exactly one of the two conditions holds at a point. -/
theorem cond_iff : ∀ t : Fin cfg1.N, k1_cond2 (grid1.coords t) = 1#1 ↔ ¬ k1_cond1 (grid1.coords t) = 1#1 :=
  (by decide +kernel : ∀ t : Fin grid1.N, k1_cond2 (grid1.coords t) = 1#1 ↔ ¬ k1_cond1 (grid1.coords t) = 1#1)

/-- The region's proof data: arrays as found, inputs left in place, the output at `outAt`. -/
def dat (c : Dev nD) : Dat τ (Elt F) Ix ℕ U Lvl cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => outAt V c t
  Φ _ := iprop(Pipeline.scopedRest (Ix := Ix) (Name := ℕ) (U := U) (Lvl := Lvl) (Val := Elt F) spec1 c ∗ ∃ r, prngReg c r)
  q _ := fullShare
  owed _ := D c

variable (ι : Ix)

local notation "𝕕" => dat (Ix := Ix) (U := U) (Lvl := Lvl) V D

theorem A_eq (c : Dev nD) (w : Fin cfg1.W) : (𝕕 c).A w = V c (Pipeline.arrRef spec1 w) := by
  dsimp only [dat]

theorem after0 (c : Dev nD) (t : Fin cfg1.N) : (𝕕 c).after 0 t = blk V c 0 t := by dsimp only [dat]
theorem after1 (c : Dev nD) (t : Fin cfg1.N) : (𝕕 c).after 1 t = blk V c 1 t := by dsimp only [dat]
theorem after2 (c : Dev nD) (t : Fin cfg1.N) : (𝕕 c).after 2 t = blk V c 2 t := by dsimp only [dat]
theorem after3 (c : Dev nD) (t : Fin cfg1.N) : (𝕕 c).after 3 t = blk V c 3 t := by dsimp only [dat]
theorem after4 (c : Dev nD) (t : Fin cfg1.N) : (𝕕 c).after 4 t = outAt V c t := by dsimp only [dat]

theorem before0 (c : Dev nD) (t : Fin cfg1.N) (d) : (𝕕 c).before 0 t d = blk V c 0 t :=
  ((𝕕 c).before_in_eq_fetched 0 rfl (fun _ => rfl) (fun _ _ _ => rfl) (fun t => by rw [after0 V D c]; unfold Dat.blockOf blk; rw [A_eq V D c 0]; try rfl) t d).trans
    (by unfold Dat.fetched Dat.blockOf blk; rw [A_eq V D c 0]; try rfl)
theorem before1 (c : Dev nD) (t : Fin cfg1.N) (d) : (𝕕 c).before 1 t d = blk V c 1 t :=
  ((𝕕 c).before_in_eq_fetched 1 rfl (fun _ => rfl) (fun _ _ _ => rfl) (fun t => by rw [after1 V D c]; unfold Dat.blockOf blk; rw [A_eq V D c 1]; try rfl) t d).trans
    (by unfold Dat.fetched Dat.blockOf blk; rw [A_eq V D c 1]; try rfl)
theorem before2 (c : Dev nD) (t : Fin cfg1.N) (d) : (𝕕 c).before 2 t d = blk V c 2 t :=
  ((𝕕 c).before_in_eq_fetched 2 rfl (fun _ => rfl) (fun _ _ _ => rfl) (fun t => by rw [after2 V D c]; unfold Dat.blockOf blk; rw [A_eq V D c 2]; try rfl) t d).trans
    (by unfold Dat.fetched Dat.blockOf blk; rw [A_eq V D c 2]; try rfl)
theorem before3 (c : Dev nD) (t : Fin cfg1.N) (d) : (𝕕 c).before 3 t d = blk V c 3 t :=
  ((𝕕 c).before_in_eq_fetched 3 rfl (fun _ => rfl) (fun _ _ _ => rfl) (fun t => by rw [after3 V D c]; unfold Dat.blockOf blk; rw [A_eq V D c 3]; try rfl) t d).trans
    (by unfold Dat.fetched Dat.blockOf blk; rw [A_eq V D c 3]; try rfl)
abbrev ms0 (t : Fin cfg1.N) : Memref sig .tc .smem S4x16 .i32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x16384x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x16384x128 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x8192x128 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x8192x128 .f32 := win1_4.stage (cfg1.slots t 4)
abbrev hs4 (t : Fin cfg1.N) : (ms4 t).IsWhole := hstage1_4 ((cfg1.slots t 4).cast nbuf1_4)

/-- What the body is called with at point `t`, -/
def bodyPre (c : Dev nD) (t : Fin cfg1.N) : sProp 𝕄 :=
  iprop((𝕕 c).Φ t.castSucc ∗ (𝕕 c).owesAt ι t.castSucc
    ∗ (∃ d, owns (c : Thread nD τ) (ms0 t) fullShare ((𝕕 c).before 0 t d))
    ∗ (∃ d, owns (c : Thread nD τ) (ms1 t) fullShare ((𝕕 c).before 1 t d))
    ∗ (∃ d, owns (c : Thread nD τ) (ms2 t) fullShare ((𝕕 c).before 2 t d))
    ∗ (∃ d, owns (c : Thread nD τ) (ms3 t) fullShare ((𝕕 c).before 3 t d))
    ∗ (∃ d, owns (c : Thread nD τ) (ms4 t) fullShare ((𝕕 c).before 4 t d)))

/-- and what it returns. -/
def bodyPost (c : Dev nD) (t : Fin cfg1.N) : sProp 𝕄 :=
  iprop((𝕕 c).Φ t.succ ∗ (𝕕 c).owesAt ι t.succ
    ∗ owns (c : Thread nD τ) (ms0 t) fullShare ((𝕕 c).after 0 t)
    ∗ owns (c : Thread nD τ) (ms1 t) fullShare ((𝕕 c).after 1 t)
    ∗ owns (c : Thread nD τ) (ms2 t) fullShare ((𝕕 c).after 2 t)
    ∗ owns (c : Thread nD τ) (ms3 t) fullShare ((𝕕 c).after 3 t)
    ∗ owns (c : Thread nD τ) (ms4 t) fullShare ((𝕕 c).after 4 t))

/-- Reading the buffer back after one write of the whole block gives what was written. -/
theorem out_read (arg7 : Memref sig .tc .vmem S1x8192x128 .f32) (f : arg7.view.ty.Contents (Elt F)) (v : Vec F S1x8192x128 .f32)
    (L : List (View.Piece (Elt F) S1x8192x128 .f32))
    (hL : L = [⟨Rect.unit (s := S1x8192x128) ![0, 0, 0] S1x8192x128.size inb_S1x8192x128_S1x8192x128_0_0_0, v⟩]) :
    arg7.view.read (Elt F) (arg7.view.writes (Elt F) f L) = v := by
  subst hL
  exact View.read_writes_full arg7.view f inb_S1x8192x128_S1x8192x128_0_0_0 v []

/-- The body at any point, where the delays are in range. -/
theorem sound_body (hV : ∀ c t, InRange (blk V c 0 t)) (c : Dev nD) (t : Fin cfg1.N) :
    bodyPre (U := U) (Lvl := Lvl) V D ι c t ⊢ wp frame (wpE (defs₀ (F := F)) 𝒱₀ c none) Set.univ (bodyAt1 t) (fun _ => bodyPost (U := U) (Lvl := Lvl) V D ι c t) := by
  unfold bodyPre bodyPost bodyAt1
  simp only [before0, before1, before2, before3]
  rw [show (𝕕 c).Φ t.succ = (𝕕 c).Φ t.castSucc from rfl,
    show (𝕕 c).owesAt ι t.succ = (𝕕 c).owesAt ι t.castSucc from rfl,
    after0, after1, after2, after3, after4]
  unfold outAt
  iintro ⟨HΦ, Ho, ⟨%d0, H0⟩, ⟨%d1, H1⟩, ⟨%d2, H2⟩, ⟨%d3, H3⟩, ⟨%d4, H4⟩⟩
  by_cases h1 : k1_cond1 (grid1.coords t) = 1#1
  · rw [if_pos h1]
    have h2 : ¬ k1_cond2 (grid1.coords t) = 1#1 := fun h => (cond_iff t).mp h h1
    iapply ((runA (Ix := Ix) (U := U) (Lvl := Lvl) 𝒱₀ c (grid1.coords t) (ms0 t) (hs0 t) (ms1 t) (hs1 t) (ms2 t) (hs2 t) (ms3 t) (hs3 t) (ms4 t) (hs4 t) (blk V c 0 t) (blk V c 1 t) (blk V c 2 t) (blk V c 3 t) h1 h2 (hV c t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact out_read (ms4 t) _ _ _ (runA_pieces (Ix := Ix) (U := U) (Lvl := Lvl) 𝒱₀ c (grid1.coords t) (ms0 t) (hs0 t) (ms1 t) (hs1 t) (ms2 t) (hs2 t) (ms3 t) (hs3 t) (ms4 t) (hs4 t) (blk V c 0 t) (blk V c 1 t) (blk V c 2 t) (blk V c 3 t) h1 h2 (hV c t))
  · rw [if_neg h1]
    have h2 : k1_cond2 (grid1.coords t) = 1#1 := (cond_iff t).mpr h1
    iapply ((runB (Ix := Ix) (U := U) (Lvl := Lvl) 𝒱₀ c (grid1.coords t) (ms0 t) (hs0 t) (ms1 t) (hs1 t) (ms2 t) (hs2 t) (ms3 t) (hs3 t) (ms4 t) (hs4 t) (blk V c 0 t) (blk V c 1 t) (blk V c 2 t) (blk V c 3 t) h1 h2 (hV c t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact out_read (ms4 t) _ _ _ (runB_pieces (Ix := Ix) (U := U) (Lvl := Lvl) 𝒱₀ c (grid1.coords t) (ms0 t) (hs0 t) (ms1 t) (hs1 t) (ms2 t) (hs2 t) (ms3 t) (hs3 t) (ms4 t) (hs4 t) (blk V c 0 t) (blk V c 1 t) (blk V c 2 t) (blk V c 3 t) h1 h2 (hV c t))

theorem defs₀_row (t : Fin cfg1.N) :
    defs₀ (F := F) .tc cfg1.body (cfg1.bodyArgs t (cfg1.slots t)) = bodyAt1 t := by
  unfold defs₀; rw [Defs.onTc_tc]

/-- The output is stored at every point. -/
theorem idle4 : ∀ t : Fin cfg1.N, cfg1.idle 4 (cfg1.grid.coords t) = false :=
  (by decide +kernel : ∀ t : Fin grid1.N, idle1 4 (grid1.coords t) = false)

/-- The library's body obligation at every point, where the delays are in range. -/
theorem body_obligation (hV : ∀ c t, InRange (blk V c 0 t)) (c : Dev nD) : BodyObligation (𝕕 c) (defs₀ (F := F)) 𝒱₀ ι Set.univ := fun t => by
  rw [bigSep_W1, bigSep_W1, defs₀_row]
  refine triple_restated (sound_body (U := U) (Lvl := Lvl) 𝒱₀ V D ι hV c t) rfl .rfl fun _ => ?_
  rw [idle4 t]
  exact .rfl

end Cert.KernelIdeal.Combine

end
-- ==== Proof.LaunchedIdeal.lean ====
module

public import proofs.«01_k».proof.Proof.Gen.KernelIdeal.Regions
public import proofs.«01_k».proof.Proof.Gen.Own.KernelIdeal.K0.Frame
public import proofs.«01_k».proof.Proof.CombineRunIdeal
public import Idealize.ShloMosaic.Lib.Pipeline.RegionArrays
public import Idealize.ShloMosaic.Lib.Pipeline.Frame

@[expose] public section

set_option maxRecDepth 16384

noncomputable section

namespace Cert.KernelIdeal.Launched

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-! ## What the two calls leave -/

/-- The buffers as the projection finds them. -/
abbrev Ve0 (c : Dev nD) (b : Ref sig .tc) : Buf (Elt F) ((c : Thread nD τ).loc b) := V1 m c (Proc.devRef .tc b)

/-- The projection's run on one core, which owes nothing. -/
abbrev RunProj (c : Dev nD) : Dat τ (Elt F) Unit ℕ (UR sig nD τ) ℕ cfg0 c := Cert.KernelIdeal.Own.K0.dat Variants.none (Ve0 m) (fun _ => 0) c

/-- The buffers after the projection: the two halves are what its run wrote. -/
def X2 (c : Dev nD) : Valuation τ sig (Elt F) :=
  Function.update (Function.update (V1 m c) main_v3_0 ((RunProj m c).arrAt 3 cfg0.N)) main_v3_1 ((RunProj m c).arrAt 4 cfg0.N)

/-- The unknowns of the launch's valuations, as the projection settles them. -/
def outs2 : Outs (F := F) := fun _ r c => X2 m c (Proc.devRef .tc r)

/-- The buffers as the combination finds them. -/
abbrev Ve1 (c : Dev nD) (b : Ref sig .tc) : Buf (Elt F) ((c : Thread nD τ).loc b) := V3 m (outs2 m) c (Proc.devRef .tc b)

/-- The combination's run on one core, which owes nothing. -/
abbrev RunComb (c : Dev nD) : Dat τ (Elt F) Unit ℕ (UR sig nD τ) ℕ cfg1 c := Cert.KernelIdeal.Combine.dat (Ve1 m) (fun _ => 0) c

/-- The buffers after the combination. -/
def X4 (c : Dev nD) : Valuation τ sig (Elt F) := Function.update (V3 m (outs2 m) c) main_v6 ((RunComb m c).arrAt 4 cfg1.N)

/-- The unknowns of the launch's valuations, as both calls settle them. -/
def outs : Outs (F := F)
  | 2, r, c => X2 m c (Proc.devRef .tc r)
  | _, r, c => X4 m c (Proc.devRef .tc r)

theorem V2_outs (c : Dev nD) : V2 m (outs m) c = V2 m (outs2 m) c := by
  simp only [V2, outs, outs2]

theorem V3_outs (c : Dev nD) : V3 m (outs m) c = V3 m (outs2 m) c :=
  congrArg (StableHlo.after hostOps1) (V2_outs m c)

theorem found (c : Dev nD) (r : Ref sig .tc) : Ve1 m c r = V3 m (outs m) c (Proc.devRef .tc r) :=
  (congrFun (V3_outs m c) (Proc.devRef .tc r)).symm

theorem left0 (c : Dev nD) : V2 m (outs m) c (Proc.devRef .tc main_v3_0) = (RunProj m c).arrAt 3 cfg0.N := by
  simp only [V2, Function.update_of_ne (StableHlo.devRef_ne_of_ne (by decide : (main_v3_0 : Ref sig .tc) ≠ main_v3_1)), Function.update_self, outs, X2]

theorem left1 (c : Dev nD) : V2 m (outs m) c (Proc.devRef .tc main_v3_1) = (RunProj m c).arrAt 4 cfg0.N := by
  simp only [V2, Function.update_self, outs, X2]

theorem left2 (c : Dev nD) : V4 m (outs m) c (Proc.devRef .tc main_v6) = (RunComb m c).arrAt 4 cfg1.N := by
  simp only [V4, Function.update_self, outs, X4]

/-! ## The calls' arrays -/

theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))

theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))

theorem arr0_sub : Pipeline.arrRefs (τ := τ) spec0 ⊆ Pipeline.ucRefs τ sig := Pipeline.arrRefs_sub_ucRefs spec0 (by decide)

theorem arr1_sub : Pipeline.arrRefs (τ := τ) spec1 ⊆ Pipeline.ucRefs τ sig := Pipeline.arrRefs_sub_ucRefs spec1 (by decide)

/-- The buffers that a call is not given keep their contents over it. -/
theorem rest0 (c : Dev nD) : ∀ b ∈ Pipeline.ucRefs τ sig \ Pipeline.arrRefs (τ := τ) spec0, V2 m (outs m) c b = V1 m c b := fun b hb => by
  have hn := (Finset.mem_sdiff.mp hb).2
  have h0 : b ≠ Proc.devRef .tc main_v3_0 := fun h => hn (h ▸ arr0_mem 3)
  have h1 : b ≠ Proc.devRef .tc main_v3_1 := fun h => hn (h ▸ arr0_mem 4)
  simp only [V2, Function.update_of_ne h0, Function.update_of_ne h1]

theorem rest1 (c : Dev nD) : ∀ b ∈ Pipeline.ucRefs τ sig \ Pipeline.arrRefs (τ := τ) spec1, V4 m (outs m) c b = V3 m (outs m) c b := fun b hb => by
  have hn := (Finset.mem_sdiff.mp hb).2
  have h0 : b ≠ Proc.devRef .tc main_v6 := fun h => hn (h ▸ arr1_mem 4)
  simp only [V4, Function.update_of_ne h0]

/-! ## The calls' records -/

/-- The two calls' runs. -/
def runs : (p : Fin 2) → (c : Dev nD) → Dat τ (Elt F) Unit ℕ (UR sig nD τ) ℕ (cfgs p) c
  | ⟨0, _⟩ => fun c => RunProj m c
  | ⟨1, _⟩ => fun c => RunComb m c

/-- The one wait index, at every semaphore of a TensorCore. -/
abbrev L (g : GSem nD τ sig) : Finset Unit := if g.1.2 = .tc then {()} else ∅

/-- One level. -/
abbrev lv (_ : GSem nD τ sig) (_ : Unit) : ℕ := 0

theorem cut (p : Fin 2) : Pipeline.LevelCut (pcfgs (F := F)) adm () L lv p (fun _ => 0) (fun _ => 0) where
  hι := fun _ _ _ => by simp [L]
  hιb := fun _ _ _ => le_refl _
  hD := fun _ _ _ h => absurd h (lt_irrefl _)

/-- What rides beside the buffers between two items: the generator's register, and that the core owes nothing. -/
def Ride (_ : Fin 3) (c : Dev nD) : sProp 𝕄 :=
  iprop((∃ r, prngReg c r) ∗ ∃ W, owes (c : Thread nD τ) (0 : CellTallies nD τ sig Unit) W)

/-- The delays as the combination is given them at a grid point. -/
def Ranged : Prop := ∀ (c : Dev nD) (t : Fin cfg1.N), Cert.KernelIdeal.Combine.InRange (Cert.KernelIdeal.Combine.blk (Ve1 m) c 0 t)

set_option backward.isDefEq.respectTransparency.types false in
/-- The projection's record. -/
def R0 : RegionSeg (pcfgs (F := F)) adm (runs m) () defs₀ Variants.none L lv 0 :=
  Pipeline.RegionSeg.ofHeld (pcfgs (F := F)) adm (runs m) () defs₀ Variants.none L lv 0 (fun _ => 0)
    (fun c => iprop(∃ r, prngReg c r)) (fun c => iprop(∃ r, prngReg c r))
    launch0.toP rfl
    (fun c => (Cert.KernelIdeal.Own.K0.body_obligation (U := UR sig nD τ) (Lvl := ℕ) Variants.none (Ve0 m) (fun _ => 0) () c).loose) (fun _ _ => rfl) (fun _ => rfl)
    (fun c => (runs m 0 c).share_full fun _ => rfl) (fun _ => .rfl) (fun _ => .rfl) (fun _ => 0) (cut 0)
    (fun c => iprop(StableHlo.held (c : Thread nD τ) (Pipeline.ucRefs τ sig \ Pipeline.arrRefs (τ := τ) spec0) (V1 m c)))
    (V1 m) (V2 m (outs m)) (fun _ _ => rfl)
    (fun c => fun
      | 0 => ((runs m 0 c).arrAt_in 0 rfl _).trans ((Cert.KernelIdeal.Own.K0.A_eq (U := UR sig nD τ) (Lvl := ℕ) Variants.none (Ve0 m) (fun _ => 0) c 0).trans (V2_of m (outs m) c (Pipeline.arrRef spec0 0) (by decide)).symm)
      | 1 => ((runs m 0 c).arrAt_in 1 rfl _).trans ((Cert.KernelIdeal.Own.K0.A_eq (U := UR sig nD τ) (Lvl := ℕ) Variants.none (Ve0 m) (fun _ => 0) c 1).trans (V2_of m (outs m) c (Pipeline.arrRef spec0 1) (by decide)).symm)
      | 2 => ((runs m 0 c).arrAt_in 2 rfl _).trans ((Cert.KernelIdeal.Own.K0.A_eq (U := UR sig nD τ) (Lvl := ℕ) Variants.none (Ve0 m) (fun _ => 0) c 2).trans (V2_of m (outs m) c (Pipeline.arrRef spec0 2) (by decide)).symm)
      | 3 => (left0 m c).symm
      | 4 => (left1 m c).symm)

set_option backward.isDefEq.respectTransparency.types false in
/-- The combination's record, where the delays are in range. -/
def R1 (hR : Ranged m) : RegionSeg (pcfgs (F := F)) adm (runs m) () defs₀ Variants.none L lv 1 :=
  Pipeline.RegionSeg.ofHeld (pcfgs (F := F)) adm (runs m) () defs₀ Variants.none L lv 1 (fun _ => 0)
    (fun c => iprop(∃ r, prngReg c r)) (fun c => iprop(∃ r, prngReg c r))
    launch1.toP rfl
    (fun c => (Cert.KernelIdeal.Combine.body_obligation (U := UR sig nD τ) (Lvl := ℕ) Variants.none (Ve1 m) (fun _ => 0) () hR c).loose) (fun _ _ => rfl) (fun _ => rfl)
    (fun c => (runs m 1 c).share_full fun _ => rfl) (fun _ => .rfl) (fun _ => .rfl) (fun _ => 0) (cut 1)
    (fun c => iprop(StableHlo.held (c : Thread nD τ) (Pipeline.ucRefs τ sig \ Pipeline.arrRefs (τ := τ) spec1) (V3 m (outs m) c)))
    (V3 m (outs m)) (V4 m (outs m)) (fun c w => (Cert.KernelIdeal.Combine.A_eq (U := UR sig nD τ) (Lvl := ℕ) (Ve1 m) (fun _ => 0) c w).trans (found m c (Pipeline.arrRef spec1 w)))
    (fun c => fun
      | 0 => ((runs m 1 c).arrAt_in 0 rfl _).trans ((Cert.KernelIdeal.Combine.A_eq (U := UR sig nD τ) (Lvl := ℕ) (Ve1 m) (fun _ => 0) c 0).trans ((found m c (Pipeline.arrRef spec1 0)).trans (V4_of m (outs m) c (Pipeline.arrRef spec1 0) (by decide)).symm))
      | 1 => ((runs m 1 c).arrAt_in 1 rfl _).trans ((Cert.KernelIdeal.Combine.A_eq (U := UR sig nD τ) (Lvl := ℕ) (Ve1 m) (fun _ => 0) c 1).trans ((found m c (Pipeline.arrRef spec1 1)).trans (V4_of m (outs m) c (Pipeline.arrRef spec1 1) (by decide)).symm))
      | 2 => ((runs m 1 c).arrAt_in 2 rfl _).trans ((Cert.KernelIdeal.Combine.A_eq (U := UR sig nD τ) (Lvl := ℕ) (Ve1 m) (fun _ => 0) c 2).trans ((found m c (Pipeline.arrRef spec1 2)).trans (V4_of m (outs m) c (Pipeline.arrRef spec1 2) (by decide)).symm))
      | 3 => ((runs m 1 c).arrAt_in 3 rfl _).trans ((Cert.KernelIdeal.Combine.A_eq (U := UR sig nD τ) (Lvl := ℕ) (Ve1 m) (fun _ => 0) c 3).trans ((found m c (Pipeline.arrRef spec1 3)).trans (V4_of m (outs m) c (Pipeline.arrRef spec1 3) (by decide)).symm))
      | 4 => (left2 m c).symm)

/-- The buffers split at the call's arrays. -/
theorem pre0 (c : Dev nD) :
    iprop(StableHlo.held (c : Thread nD τ) (Pipeline.ucRefs τ sig) (V1 m c) ∗ Ride 0 c) ⊢ (R0 m).pre c := by
  unfold Ride
  show _ ⊢ iprop(StableHlo.held (c : Thread nD τ) (Pipeline.arrRefs (τ := τ) spec0) (V1 m c) ∗ (∃ r, prngReg c r)
    ∗ StableHlo.held (c : Thread nD τ) (Pipeline.ucRefs τ sig \ Pipeline.arrRefs (τ := τ) spec0) (V1 m c)
    ∗ ∃ W, owes (c : Thread nD τ) (0 : CellTallies nD τ sig Unit) W)
  rw [StableHlo.held_sub_split (c : Thread nD τ) arr0_sub (V1 m c)]
  iintro ⟨⟨Ha, Hr⟩, ⟨Hp, Ho⟩⟩
  isplitl [Ha]; · iexact Ha
  isplitl [Hp]; · iexact Hp
  isplitl [Hr]; · iexact Hr
  iexact Ho

/-- The call's arrays rejoined with the other buffers. -/
theorem post0 (c : Dev nD) :
    (R0 m).post c ⊢ iprop(StableHlo.held (c : Thread nD τ) (Pipeline.ucRefs τ sig) (V2 m (outs m) c) ∗ Ride 1 c) := by
  unfold Ride
  show iprop(StableHlo.held (c : Thread nD τ) (Pipeline.arrRefs (τ := τ) spec0) (V2 m (outs m) c) ∗ (∃ r, prngReg c r)
    ∗ StableHlo.held (c : Thread nD τ) (Pipeline.ucRefs τ sig \ Pipeline.arrRefs (τ := τ) spec0) (V1 m c)
    ∗ ∃ W, owes (c : Thread nD τ) (0 : CellTallies nD τ sig Unit) W) ⊢ _
  rw [StableHlo.held_sub_split (c : Thread nD τ) arr0_sub (V2 m (outs m) c),
    StableHlo.held_congr (c : Thread nD τ) (S := Pipeline.ucRefs τ sig \ Pipeline.arrRefs (τ := τ) spec0) (rest0 m c)]
  iintro ⟨Ha, Hp, Hr, Ho⟩
  isplitl [Ha Hr]; · isplitl [Ha] <;> iassumption
  isplitl [Hp]; · iexact Hp
  iexact Ho

/-- The buffers split at the call's arrays. -/
theorem pre1 (hR : Ranged m) (c : Dev nD) :
    iprop(StableHlo.held (c : Thread nD τ) (Pipeline.ucRefs τ sig) (V3 m (outs m) c) ∗ Ride 1 c) ⊢ (R1 m hR).pre c := by
  unfold Ride
  show _ ⊢ iprop(StableHlo.held (c : Thread nD τ) (Pipeline.arrRefs (τ := τ) spec1) (V3 m (outs m) c) ∗ (∃ r, prngReg c r)
    ∗ StableHlo.held (c : Thread nD τ) (Pipeline.ucRefs τ sig \ Pipeline.arrRefs (τ := τ) spec1) (V3 m (outs m) c)
    ∗ ∃ W, owes (c : Thread nD τ) (0 : CellTallies nD τ sig Unit) W)
  rw [StableHlo.held_sub_split (c : Thread nD τ) arr1_sub (V3 m (outs m) c)]
  iintro ⟨⟨Ha, Hr⟩, ⟨Hp, Ho⟩⟩
  isplitl [Ha]; · iexact Ha
  isplitl [Hp]; · iexact Hp
  isplitl [Hr]; · iexact Hr
  iexact Ho

/-- The call's arrays rejoined with the other buffers. -/
theorem post1 (hR : Ranged m) (c : Dev nD) :
    (R1 m hR).post c ⊢ iprop(StableHlo.held (c : Thread nD τ) (Pipeline.ucRefs τ sig) (V4 m (outs m) c) ∗ Ride 2 c) := by
  unfold Ride
  show iprop(StableHlo.held (c : Thread nD τ) (Pipeline.arrRefs (τ := τ) spec1) (V4 m (outs m) c) ∗ (∃ r, prngReg c r)
    ∗ StableHlo.held (c : Thread nD τ) (Pipeline.ucRefs τ sig \ Pipeline.arrRefs (τ := τ) spec1) (V3 m (outs m) c)
    ∗ ∃ W, owes (c : Thread nD τ) (0 : CellTallies nD τ sig Unit) W) ⊢ _
  rw [StableHlo.held_sub_split (c : Thread nD τ) arr1_sub (V4 m (outs m) c),
    StableHlo.held_congr (c : Thread nD τ) (S := Pipeline.ucRefs τ sig \ Pipeline.arrRefs (τ := τ) spec1) (rest1 m c)]
  iintro ⟨Ha, Hp, Hr, Ho⟩
  isplitl [Ha Hr]; · isplitl [Ha] <;> iassumption
  isplitl [Hp]; · iexact Hp
  iexact Ho

/-! ## The whole program -/

/-- Each core's first state, from what the launch deals it. -/
theorem start (ρ : Dev nD → PrngReg) :
    iprop((bigSep Finset.univ fun c : Dev nD => iprop(unscopedSems0 c ∗ owes (c : Thread nD τ) (0 : CellTallies nD τ sig Unit) ∅
        ∗ Pipeline.launchCred (fun _ => 0) c ∗ prngReg c (ρ c) ∗ emp)) ∗ levAts L lv)
      ⊢ (|={Set.univ}=> bigSep Finset.univ (Ride (F := F) 0) : sProp 𝕄) :=
  Pipeline.initEach L lv fun c => by
    unfold Ride
    iintro ⟨⟨-, Ho, -, Hp, -⟩, -⟩
    imodintro
    isplitl [Hp]; · iexists _; iexact Hp
    iexists _; iexact Ho

set_option backward.isDefEq.respectTransparency.types false in
/-- Where the delays are in range, every execution ends with the combination's array in the result's place, the
    arguments as they were and every semaphore at zero. -/
theorem run (ρ : Dev nD → PrngReg) (hR : Ranged m) :
    θ_run defs (onTc (τ := τ) (main (F := F))) ⟨m, fun _ => 0, ρ⟩ (fun r => (∀ c : Dev nD,
      r.2.mem ((c.tc : Thread nD τ).loc main_v6) = (RunComb m c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine Pipeline.θ_run_regions_kit_dev_sems (pcfgs (F := F)) adm (runs m) () cellOf_inj emb₁ defs₀ Variants.none L lv m ρ main
    (segs m (outs m) Variants.none L lv Ride () (runs m) (R0 m) (R1 m hR))
    (fun c Q => by
      rewrite [main_chain c, Seg.run_eq_chain,
        show (segs m (outs m) Variants.none L lv Ride () (runs m) (R0 m) (R1 m hR) c).map Seg.prog = [
          StableHlo.seq hostOps0, Prog.lift (.customCall (Pipeline.entry 0) ()),
          StableHlo.seq hostOps1, Prog.lift (.customCall (Pipeline.entry 1) ())] from rfl]
      dsimp (config := { failIfUnchanged := false }) only
      exact .rfl)
    (fun c => by simp only [segs, Seg.pipes_host, Seg.pipes_region, Seg.pipes_nil]; decide)
    (fun _ => 0) (fun g hg => if_neg hg) (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Ride 0 c))
    (Tₙ := fun c => StableHlo.held (c : Thread nD τ) (Pipeline.ucRefs τ sig) (V4 m (outs m) c))
    (hch := fun c => ⟨.rfl, pre0 m c, post0 m c, pre1 m hR c, (post1 m hR c).trans (sep_mono .rfl (by unfold Ride; iintro ⟨-, Ho⟩; iexact Ho))⟩)
    (hinit := ?_)
    (QY := fun c s => s.mem ((c.tc : Thread nD τ).loc main_v6) = (RunComb m c).arrAt 4 cfg1.N
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅
              ∗ Pipeline.launchCred (fun _ => 0) c ∗ prngReg c (ρ c) ∗ emp)) : sProp 𝕄) := by
      rw [← bigSep_sep']
      exact bigSep_mono fun c _ => by
        rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (start ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨(h (Proc.devRef .tc main_v6) (Finset.mem_filter.mpr ⟨StableHlo.devRef_mem_tcRefs main_v6, by decide⟩)).trans (left2 m c),
        (h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c),
        (h (Proc.devRef .tc main_arg2) (Finset.mem_filter.mpr ⟨StableHlo.devRef_mem_tcRefs main_arg2, by decide⟩)).trans (V4_main_arg2 m (outs m) c),
        (h (Proc.devRef .tc main_arg3) (Finset.mem_filter.mpr ⟨StableHlo.devRef_mem_tcRefs main_arg3, by decide⟩)).trans (V4_main_arg3 m (outs m) c)⟩
    · iexact HSI

end Cert.KernelIdeal.Launched

end
-- ==== Proof.DelaysIdeal.lean ====
/-
  The delays as the combination finds them are the argument's, whole, at every grid point; the precondition puts them in the
  range its loads need.
-/
module

public import proofs.«01_k».proof.Defs
public import proofs.«01_k».proof.Proof.LaunchedIdeal
public import proofs.«01_k».proof.Proof.Range

@[expose] public section

set_option maxRecDepth 16384

noncomputable section

namespace Cert.KernelIdeal.Delays

open Cert.KernelIdeal Cert.KernelIdeal.Gen Cert.KernelIdeal.Launched Cert.KernelIdeal.Combine
open Idealize.ShloMosaic Idealize.ShloMosaic.TcCoe Idealize.SL.Sem

variable {F : FTy → Type} [FloatOps F] [Named F]

variable (m : (ℓ : Loc nD τ sig) → Buf (Elt F) ℓ)

/-- The delays reach the combination as launched. -/
theorem arrived (c : Dev nD) : Ve1 m c main_arg3 = m ((c : Thread nD τ).loc main_arg3) :=
  (V3_of m (outs2 m) c main_arg3 (by decide)).trans <| (V2_of m (outs2 m) c main_arg3 (by decide)).trans <| (V1_of m c main_arg3 (by decide)).trans rfl

theorem idx0 : ∀ t : Fin cfg1.N, win1_0.index t 0 = 0 ∧ win1_0.index t 1 = 0 :=
  (by decide +kernel : ∀ t : Fin grid1.N, win1_0.index t 0 = 0 ∧ win1_0.index t 1 = 0)

/-- The block of delays is the whole array, at every point. -/
theorem delays (c : Dev nD) (t : Fin cfg1.N) (y : S4x16.Idx) :
    blk (Ve1 m) c 0 t y = (m ((c : Thread nD τ).loc main_arg3) : Vec F S4x16 .i32) y := by
  obtain ⟨h0, h1⟩ := idx0 t
  have e : blk (Ve1 m) c 0 t y = (Ve1 m c main_arg3 : Vec F S4x16 .i32) y := by
    show (Ve1 m c main_arg3 : Vec F S4x16 .i32) ((win1_0.rect t).idx y) = _
    congr 1
    funext a; apply Fin.ext
    match a with
    | ⟨0, _⟩ => show win1_0.index t 0 * 4 + 1 * (y 0).val = (y 0).val; omega
    | ⟨1, _⟩ => show win1_0.index t 1 * 16 + 1 * (y 1).val = (y 1).val; omega
  rw [e, arrived]

/-- The precondition, as the bound each delay meets. -/
theorem bound (c : Dev nD)
    (h : Cert.Pre_in_range.fn (F := F) (m ((c.tc : Thread nD τ).loc main_arg0)) (m ((c.tc : Thread nD τ).loc main_arg1)) (m ((c.tc : Thread nD τ).loc main_arg2)) (m ((c.tc : Thread nD τ).loc main_arg3)) = fun _ => 1#1)
    (y : S4x16.Idx) (hy : (y 1).val < 13) : BitVec.toNat (w := 32) ((m ((c.tc : Thread nD τ).loc main_arg3) : Vec F S4x16 .i32) y) < 8192 :=
  Cert.Range.delay_lt _ _ _ _ h y hy

theorem ranged
    (h : ∀ c : Dev nD, Cert.Pre_in_range.fn (F := F) (m ((c.tc : Thread nD τ).loc main_arg0)) (m ((c.tc : Thread nD τ).loc main_arg1)) (m ((c.tc : Thread nD τ).loc main_arg2)) (m ((c.tc : Thread nD τ).loc main_arg3)) = fun _ => 1#1) :
    Ranged m := fun c t y hy => by
  rw [delays]
  exact le_of_lt (bound m c (h c) y hy)

end Cert.KernelIdeal.Delays

end
-- ==== Proof.Reference.lean ====
/-
  The reference's result at one index, where the delays are in range: the input's element plus the thirteenth part of the sum
  of thirteen projections of the row's tokens, each token the delay further on, round the end of the row.
-/
module

public import proofs.«01_k».proof.Defs
public import proofs.«01_k».proof.Proof.Range
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.Mix

/-- Feature `e` of the projection of token `t` of batch `g`. -/
def proj (x : Vec Ideal ⟨3, ![4, 8192, 768]⟩ .f32) (W : Vec Ideal ⟨2, ![768, 768]⟩ .f32) (b : Vec Ideal ⟨1, ![768]⟩ .f32)
    (g : Fin 4) (t : Fin 8192) (e : Fin 768) : EReal :=
  (∑ k : Fin 768, x (ix3 g t k) * W (ix2 e k)) + b (ix1 e)

/-- The token a delay leads to from `t`, round the end of the row. -/
def later (t : Fin 8192) (d : BitVec 32) : Fin 8192 := ⟨(t.val + d.toNat) % 8192, Nat.mod_lt _ (by decide)⟩

/-- The sum of the projections of the thirteen tokens that the batch's first thirteen delays lead to from `t`. -/
def total (x : Vec Ideal ⟨3, ![4, 8192, 768]⟩ .f32) (W : Vec Ideal ⟨2, ![768, 768]⟩ .f32) (b : Vec Ideal ⟨1, ![768]⟩ .f32)
    (s : IVec ⟨2, ![4, 16]⟩ 32) (g : Fin 4) (t : Fin 8192) (e : Fin 768) : EReal :=
  ∑ i : Fin 13, proj x W b g (later t (s (ix2 g ⟨i.val, by have := i.isLt; omega⟩))) e

end Cert.Mix

namespace Cert.ReferenceIdeal.Mixed

open Cert.ReferenceIdeal Cert.ReferenceIdeal.Gen Cert.Mix

variable (x : Vec Ideal S4x8192x768 .f32) (W : Vec Ideal S768x768 .f32) (b : Vec Ideal S768 .f32) (s : IVec S4x16 32)

/-- The projected tokens. -/
def q : Vec Ideal S4x8192x768 .f32 :=
  addf (φ := .f32) (Host.dotGeneral (F := Ideal) (φ₁ := .f32) (φ₂ := .f32) dot_S4x8192x768_S768x768_S4x8192x768_2_0_01_1_n_n none x (transpose (α := Elt Ideal .f32) S768x768 [1, 0] W transposes_S768x768_S768x768_1_0))
    (broadcastInDim S4x8192x768 ![0, 1, 2] bcast_S1x1x768_S4x8192x768_0_1_2 (broadcastInDim S1x1x768 ![2] bcast_S768_S1x1x768_2 b))

theorem q_apply (g : Fin 4) (t : Fin 8192) (e : Fin 768) : q x W b (ix3 g t e) = proj x W b g t e := by
  pointwise [q, proj]

/-- Token plus delay. -/
def far : IVec S4x13x8192 32 :=
  addi (broadcastInDim S4x13x8192 ![0, 1, 2] bcast_S1x1x8192_S4x13x8192_0_1_2 (broadcastInDim S1x1x8192 ![2] bcast_S8192_S1x1x8192_2 (iotaInDim S8192 32 0))) (broadcastInDim S4x13x8192 ![0, 1, 2] bcast_S4x13x1_S4x13x8192_0_1_2 (broadcastInDim S4x13x1 ![0, 1] bcast_S4x13_S4x13x1_0_1 (extractStridedSlice S4x13 ![0, 0] s slices_S4x16_S4x13_0_0)))

/-- The row's length, as the remainder's lowering guards it against zero. -/
def len : IVec S_ 32 :=
  select (cmpi .eq (id (constantI S_ 32 8192#32)) (constantI S_ 32 0#32)) (constantI S_ 32 1#32) (id (constantI S_ 32 8192#32))

/-- The remainder by the length that has the dividend's sign. -/
def rest : IVec S4x13x8192 32 := Host.remsi (far s) (broadcastInDim S4x13x8192 ![] bcast_S_S4x13x8192 len)

/-- The remainder by the length that has the length's sign. -/
def tok : IVec S4x13x8192 32 :=
  select (andi (cmpi .ne (cmpi .slt (rest s) (broadcastInDim S4x13x8192 ![] bcast_S_S4x13x8192 (constantI S_ 32 0#32))) (broadcastInDim S4x13x8192 ![] bcast_S_S4x13x8192 (cmpi .slt len (constantI S_ 32 0#32)))) (cmpi .ne (rest s) (broadcastInDim S4x13x8192 ![] bcast_S_S4x13x8192 (constantI S_ 32 0#32)))) (addi (rest s) (broadcastInDim S4x13x8192 ![] bcast_S_S4x13x8192 len)) (rest s)

/-- The index gathered at: a negative one counts from the end. -/
def pos : IVec S4x13x8192x1 32 :=
  select (cmpi .slt (broadcastInDim S4x13x8192x1 ![0, 1, 2] bcast_S4x13x8192_S4x13x8192x1_0_1_2 (tok s)) (broadcastInDim S4x13x8192x1 ![] bcast_S_S4x13x8192x1 (constantI S_ 32 0#32))) (addi (broadcastInDim S4x13x8192x1 ![0, 1, 2] bcast_S4x13x8192_S4x13x8192x1_0_1_2 (tok s)) (broadcastInDim S4x13x8192x1 ![] bcast_S_S4x13x8192x1 (constantI S_ 32 8192#32))) (broadcastInDim S4x13x8192x1 ![0, 1, 2] bcast_S4x13x8192_S4x13x8192x1_0_1_2 (tok s))

/-- Whether each index is one of the row's. -/
def inside : IVec S4x13x8192x1 1 :=
  andi (cmpi .sge (pos s) (broadcastInDim S4x13x8192x1 ![] bcast_S_S4x13x8192x1 (constantI S_ 32 0#32))) (cmpi .sle (pos s) (broadcastInDim S4x13x8192x1 ![0, 1, 2, 3] bcast_S1x1x1x1_S4x13x8192x1_0_1_2_3 (broadcastInDim S1x1x1x1 ![3] bcast_S1_S1x1x1x1_3 (constantI S1 32 8191#32))))

/-- The shifted projections. -/
def shifted : Vec Ideal S4x13x8192x768 .f32 :=
  select (broadcastInDim S4x13x8192x768 ![0, 1, 2] bcast_S4x13x8192_S4x13x8192x768_0_1_2 (Host.reduce IntOp.andi (inside s) (constantI S_ 1 1#1) reducesTo_S4x13x8192x1_S4x13x8192_d3 h_S_)) (Host.gather gather_S4x8192x768_S4x13x8192x1_S4x13x8192x768_3_1_0_0_1_3_11768 (shapeCast (α := Elt Ideal .f32) S4x8192x768 (broadcastInDim S4x1x8192x768 ![0, 2, 3] bcast_S4x8192x768_S4x1x8192x768_0_2_3 (q x W b)) shapeCasts_S4x1x8192x768_S4x8192x768) (pos s)) (broadcastInDim S4x13x8192x768 ![] bcast_S_S4x13x8192x768 (constant (F := Ideal) S_ .f32 0x7FC00000#32))

/-- The whole result, in these terms. -/
def res : Vec Ideal S4x8192x768 .f32 :=
  addf (φ := .f32) (Host.divf (φ := .f32) (Host.reduceAdd (F := Ideal) (φ := .f32) (shifted x W b s) (constant (F := Ideal) S_ .f32 0x00000000#32) reducesTo_S4x13x8192x768_S4x8192x768_d1 h_S_) (broadcastInDim S4x8192x768 ![] bcast_S_S4x8192x768 (constant (F := Ideal) S_ .f32 0x41500000#32))) x

theorem res_eq (m : (ℓ : Loc nD τ sig) → Buf (Elt Ideal) ℓ) (c : Dev nD) :
    Cert.ReferenceIdeal.Value.res_main_v19 m c
      = res (m ((c.tc : Thread nD τ).loc main_arg0)) (m ((c.tc : Thread nD τ).loc main_arg1)) (m ((c.tc : Thread nD τ).loc main_arg2)) (m ((c.tc : Thread nD τ).loc main_arg3)) := by
  unfold Cert.ReferenceIdeal.Value.res_main_v19 res shifted inside pos tok rest len far q
  rfl

theorem far_apply (g : Fin 4) (i : Fin 13) (t : Fin 8192) :
    far s (ix3 g i t) = IntOp.addi (BitVec.ofNat 32 t.val) (s (ix2 g ⟨i.val, by have := i.isLt; omega⟩)) := by
  pointwise [far]

theorem len_apply (j : S_.Idx) : len j = 8192#32 := by
  show Scalar.select (IntOp.cmpi .eq 8192#32 0#32) 1#32 8192#32 = 8192#32
  decide

/-- A token plus a delay, neither wrapping the word. -/
theorem far_toNat (t : Fin 8192) (d : BitVec 32) (hd : d.toNat < 8192) :
    (IntOp.addi (BitVec.ofNat 32 t.val) d).toNat = t.val + d.toNat := by
  have ht := t.isLt
  show (BitVec.ofNat 32 t.val + d).toNat = _
  rw [BitVec.toNat_add, BitVec.toNat_ofNat]
  omega

theorem msb_small (w : BitVec 32) (h : w.toNat < 16384) : w.msb = false := BitVec.msb_eq_false_iff_two_mul_lt.mpr (by omega)

/-- The remainder by 8192 of a small word. -/
theorem rem_toNat (w : BitVec 32) (h : w.toNat < 16384) : (IntOp.remsi .host w 8192#32).toNat = w.toNat % 8192 := by
  have hc : ¬ IntOp.SDivCorner w 8192#32 := by
    intro hc; rcases hc with hc | ⟨_, hc⟩ <;> exact absurd hc (by decide)
  unfold IntOp.remsi
  rw [if_neg hc, BitVec.srem_eq, msb_small w h, show (8192#32 : BitVec 32).msb = false from by decide]
  show (w % 8192#32).toNat = _
  rw [BitVec.toNat_umod]
  rfl

theorem toInt_small (w : BitVec 32) (h : w.toNat < 16384) : w.toInt = w.toNat := by
  rw [BitVec.toInt_eq_toNat_cond]; split <;> omega

theorem slt_zero (w : BitVec 32) (h : w.toNat < 16384) : IntOp.cmpi .slt w 0#32 = 0#1 := by
  have e : w.slt 0#32 = false := by
    simp only [BitVec.slt, toInt_small w h, decide_eq_false_iff_not]
    have : (0#32 : BitVec 32).toInt = 0 := by decide
    omega
  show BitVec.ofBool (w.slt 0#32) = 0#1
  rw [e]; rfl

theorem sge_zero (w : BitVec 32) (h : w.toNat < 16384) : IntOp.cmpi .sge w 0#32 = 1#1 := by
  have e : (0#32 : BitVec 32).sle w = true := by
    simp only [BitVec.sle, toInt_small w h, decide_eq_true_eq]
    have : (0#32 : BitVec 32).toInt = 0 := by decide
    omega
  show BitVec.ofBool ((0#32 : BitVec 32).sle w) = 1#1
  rw [e]; rfl

theorem sle_last (w : BitVec 32) (h : w.toNat < 8192) : IntOp.cmpi .sle w 8191#32 = 1#1 := by
  have e : w.sle 8191#32 = true := by
    simp only [BitVec.sle, toInt_small w (by omega), decide_eq_true_eq]
    have : (8191#32 : BitVec 32).toInt = 8191 := by decide
    omega
  show BitVec.ofBool (w.sle 8191#32) = 1#1
  rw [e]; rfl

variable (hs : ∀ y : S4x16.Idx, (y 1).val < 13 → (s y).toNat < 8192)

include hs in
theorem rest_toNat (g : Fin 4) (i : Fin 13) (t : Fin 8192) :
    (rest s (ix3 g i t)).toNat = (later t (s (ix2 g ⟨i.val, by have := i.isLt; omega⟩))).val := by
  have hd := hs (ix2 g ⟨i.val, by have := i.isLt; omega⟩) i.isLt
  have hf := far_toNat t _ hd
  have ht := t.isLt
  show (IntOp.remsi .host (far s (ix3 g i t)) (len _)).toNat = _
  rw [len_apply, far_apply, rem_toNat _ (by omega), hf]
  rfl

include hs in
theorem tok_toNat (g : Fin 4) (i : Fin 13) (t : Fin 8192) :
    (tok s (ix3 g i t)).toNat = (later t (s (ix2 g ⟨i.val, by have := i.isLt; omega⟩))).val := by
  have hr := rest_toNat s hs g i t
  have hl := (later t (s (ix2 g ⟨i.val, by have := i.isLt; omega⟩))).isLt
  have e : tok s (ix3 g i t) = rest s (ix3 g i t) := by
    unfold tok
    rw [show len = fun _ => 8192#32 from funext len_apply]
    show Scalar.select (IntOp.andi (IntOp.cmpi .ne (IntOp.cmpi .slt (rest s (ix3 g i t)) 0#32) (IntOp.cmpi .slt 8192#32 0#32))
      (IntOp.cmpi .ne (rest s (ix3 g i t)) 0#32)) (IntOp.addi (rest s (ix3 g i t)) 8192#32) (rest s (ix3 g i t)) = _
    rw [slt_zero _ (by omega)]
    have h0 : IntOp.cmpi .ne (0#1) (IntOp.cmpi .slt 8192#32 0#32) = 0#1 := by decide
    rw [h0]
    have h1 : ∀ b : BitVec 1, IntOp.andi 0#1 b = 0#1 := by decide
    rw [h1]
    rfl
  rw [e, hr]

include hs in
theorem pos_toNat (g : Fin 4) (i : Fin 13) (t : Fin 8192) (u : Fin 1) :
    (pos s (ix4 g i t u)).toNat = (later t (s (ix2 g ⟨i.val, by have := i.isLt; omega⟩))).val := by
  have hr := tok_toNat s hs g i t
  have hl := (later t (s (ix2 g ⟨i.val, by have := i.isLt; omega⟩))).isLt
  have e : pos s (ix4 g i t u) = Scalar.select (IntOp.cmpi .slt (tok s (ix3 g i t)) 0#32) (IntOp.addi (tok s (ix3 g i t)) 8192#32) (tok s (ix3 g i t)) := by
    pointwise [pos]
  rw [e, slt_zero _ (by omega), ← hr]
  rfl

include hs in
theorem inside_one (y : S4x13x8192x1.Idx) : inside s y = 1#1 := by
  idx_vars y
  have hr := pos_toNat s hs y0 y1 y2 y3
  have hl := (later y2 (s (ix2 y0 ⟨y1.val, by have := y1.isLt; omega⟩))).isLt
  have e : inside s (ix4 y0 y1 y2 y3) = IntOp.andi (IntOp.cmpi .sge (pos s (ix4 y0 y1 y2 y3)) 0#32) (IntOp.cmpi .sle (pos s (ix4 y0 y1 y2 y3)) 8191#32) := by
    pointwise [inside]
  rw [e, sge_zero _ (by omega), sle_last _ (by omega)]
  rfl

include hs in
theorem mask_one (y : S4x13x8192.Idx) :
    Host.reduce IntOp.andi (inside s) (constantI S_ 1 1#1) reducesTo_S4x13x8192x1_S4x13x8192_d3 h_S_ y = 1#1 := by
  unfold Host.reduce
  exact (Cert.Range.fold_ones (fun n => inside s (S4x13x8192x1.rowMajor.symm n)) _ _).mpr ⟨rfl, fun n _ => inside_one s hs _⟩

/-- The gather read at one index: the row the start index names, clamped to the last. -/
theorem gather_apply {α : Type} (z : S4x8192x768.Idx → α) (idx : IVec S4x13x8192x1 32) (g : Fin 4) (i : Fin 13) (t : Fin 8192) (e : Fin 768) :
    Host.gather gather_S4x8192x768_S4x13x8192x1_S4x13x8192x768_3_1_0_0_1_3_11768 z idx (ix4 g i t e)
      = z (ix3 g ⟨min (idx (ix4 g i t 0)).toInt.toNat 8191, by omega⟩ e) := by
  unfold Host.gather
  refine congrArg z (funext fun a => Fin.ext ?_)
  have hi : gather_S4x8192x768_S4x13x8192x1_S4x13x8192x768_3_1_0_0_1_3_11768.siIdx (ix4 g i t e) ⟨0, by decide⟩ = ix4 g i t 0 := by
    funext k; apply Fin.ext
    match k with
    | ⟨0, _⟩ => rfl
    | ⟨1, _⟩ => rfl
    | ⟨2, _⟩ => rfl
    | ⟨3, _⟩ => rfl
  match a with
  | ⟨0, _⟩ => show 0 + g.val + 0 = g.val; omega
  | ⟨1, _⟩ =>
    show min (idx (gather_S4x8192x768_S4x13x8192x1_S4x13x8192x768_3_1_0_0_1_3_11768.siIdx (ix4 g i t e) ⟨0, by decide⟩)).toInt.toNat (8192 - 1) + 0 + 0 = _
    rw [hi]
    rfl
  | ⟨2, _⟩ => show 0 + 0 + e.val = e.val; omega

include hs in
theorem shifted_apply (g : Fin 4) (i : Fin 13) (t : Fin 8192) (e : Fin 768) :
    shifted x W b s (ix4 g i t e) = proj x W b g (later t (s (ix2 g ⟨i.val, by have := i.isLt; omega⟩))) e := by
  have hr := pos_toNat s hs g i t 0
  have hl := (later t (s (ix2 g ⟨i.val, by have := i.isLt; omega⟩))).isLt
  unfold shifted
  show Scalar.select (Host.reduce IntOp.andi (inside s) (constantI S_ 1 1#1) reducesTo_S4x13x8192x1_S4x13x8192_d3 h_S_ _) _ _ = _
  rw [mask_one s hs, gather_apply]
  show shapeCast (α := Elt Ideal .f32) S4x8192x768 (broadcastInDim S4x1x8192x768 ![0, 2, 3] bcast_S4x8192x768_S4x1x8192x768_0_2_3 (q x W b)) shapeCasts_S4x1x8192x768_S4x8192x768 _ = _
  have ht : min (pos s (ix4 g i t 0)).toInt.toNat 8191 = (later t (s (ix2 g ⟨i.val, by have := i.isLt; omega⟩))).val := by
    rw [toInt_small _ (by omega), hr]; omega
  have hz : ∀ (r : Fin 8192), shapeCast (α := Elt Ideal .f32) S4x8192x768 (broadcastInDim S4x1x8192x768 ![0, 2, 3] bcast_S4x8192x768_S4x1x8192x768_0_2_3 (q x W b)) shapeCasts_S4x1x8192x768_S4x8192x768 (ix3 g r e) = proj x W b g r e := by
    intro r
    rw [← q_apply]
    pointwise
  rw [hz]
  congr 1
  exact Fin.ext ht

/-- `13.0` denotes the real 13. -/
theorem thirteen : Ideal.ofBits .f32 0x41500000#32 = ((13 : ℝ) : EReal) := by
  simp [Ideal.ofBits, Ideal.ieee, -EReal.coe_mul]; norm_num

include hs in
theorem res_apply (g : Fin 4) (t : Fin 8192) (e : Fin 768) :
    res x W b s (ix3 g t e) = total x W b s g t e * ((1 / 13 : ℝ) : EReal) + x (ix3 g t e) := by
  have hsum : Host.reduceAdd (F := Ideal) (φ := .f32) (shifted x W b s) (constant (F := Ideal) S_ .f32 0x00000000#32) reducesTo_S4x13x8192x768_S4x8192x768_d1 h_S_ (ix3 g t e)
      = ∑ i : Fin 13, shifted x W b s (ix4 g i t e) := by
    pointwise
  unfold res total
  show Ideal.div (Host.reduceAdd (F := Ideal) (φ := .f32) (shifted x W b s) (constant (F := Ideal) S_ .f32 0x00000000#32) reducesTo_S4x13x8192x768_S4x8192x768_d1 h_S_ (ix3 g t e)) (Ideal.ofBits .f32 0x41500000#32) + x (ix3 g t e) = _
  rw [hsum, thirteen, Ideal.div_coe (by norm_num : (13 : ℝ) ≠ 0)]
  simp only [shifted_apply x W b s hs]

end Cert.ReferenceIdeal.Mixed

end
-- ==== Proof.Thirteen.lean ====
/-
  What one point of the combination leaves: the input's element plus the thirteenth part of thirteen rows' sum.
-/
module

public import proofs.«01_k».proof.Defs
public import proofs.«01_k».proof.Proof.CombineRunIdeal
import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Combination

open Cert.KernelIdeal Cert.KernelIdeal.Gen Cert.KernelIdeal.Combine

/-- The kernel's named reciprocal denotes the rational 1/13. -/
theorem inv13 : Named.named (F := Ideal) κ "inv13" (φ := .f32) 0x3D9D89D9#32 = ((1 / 13 : ℝ) : EReal) :=
  IdealRules.named_const.ideal_named_scalar _ _ _ _ rfl

/-- Thirteen runs of rows, added one after another, scaled and added to the input's rows. -/
theorem paysA (R0 R1 R2 R3 R4 R5 R6 R7 R8 R9 R10 R11 R12 X : Vec Ideal S1x8192x128 .f32) (r : Fin 8192) (l : Fin 128) :
    k1_pay1 (k1_pay4 (k1_pay3 R0 R1 R2 R3 R4 R5) R6 R7 R8 R9 R10 R11) R12 X (ix3 0 r l)
      = X (ix3 0 r l) + (R0 (ix3 0 r l) + R1 (ix3 0 r l) + R2 (ix3 0 r l) + R3 (ix3 0 r l) + R4 (ix3 0 r l) + R5 (ix3 0 r l) + R6 (ix3 0 r l) + R7 (ix3 0 r l) + R8 (ix3 0 r l) + R9 (ix3 0 r l) + R10 (ix3 0 r l) + R11 (ix3 0 r l) + R12 (ix3 0 r l)) * ((1 / 13 : ℝ) : EReal) := by
  rw [← inv13]
  pointwise [k1_pay1, k1_pay3, k1_pay4]

/-- Thirteen runs of rows, added one after another, scaled and added to the input's rows. -/
theorem paysB (R0 R1 R2 R3 R4 R5 R6 R7 R8 R9 R10 R11 R12 X : Vec Ideal S1x8192x128 .f32) (r : Fin 8192) (l : Fin 128) :
    k1_pay2 (k1_pay6 (k1_pay5 R0 R1 R2 R3 R4 R5) R6 R7 R8 R9 R10 R11) R12 X (ix3 0 r l)
      = X (ix3 0 r l) + (R0 (ix3 0 r l) + R1 (ix3 0 r l) + R2 (ix3 0 r l) + R3 (ix3 0 r l) + R4 (ix3 0 r l) + R5 (ix3 0 r l) + R6 (ix3 0 r l) + R7 (ix3 0 r l) + R8 (ix3 0 r l) + R9 (ix3 0 r l) + R10 (ix3 0 r l) + R11 (ix3 0 r l) + R12 (ix3 0 r l)) * ((1 / 13 : ℝ) : EReal) := by
  rw [← inv13]
  pointwise [k1_pay2, k1_pay5, k1_pay6]

/-- A sum of thirteen, added one after another. -/
theorem sum13 (f : Fin 13 → EReal) :
    f 0 + f 1 + f 2 + f 3 + f 4 + f 5 + f 6 + f 7 + f 8 + f 9 + f 10 + f 11 + f 12 = ∑ i : Fin 13, f i := by
  simp only [Fin.sum_univ_castSucc, Fin.sum_univ_zero, zero_add]
  rfl

theorem outA_apply (x0 : Vec Ideal S4x16 .i32) (z : Vec Ideal S1x16384x128 .f32) (x3 : Vec Ideal S1x8192x128 .f32) (g : Fin 4) (r : Fin 8192) (l : Fin 128) :
    outA x0 z x3 g (ix3 0 r l)
      = x3 (ix3 0 r l) + (∑ i : Fin 13, rows z (word x0 g ⟨i.val, by have := i.isLt; omega⟩) (ix3 0 r l)) * ((1 / 13 : ℝ) : EReal) := by
  rw [← sum13]
  unfold outA
  exact paysA _ _ _ _ _ _ _ _ _ _ _ _ _ x3 r l

theorem outB_apply (x0 : Vec Ideal S4x16 .i32) (z : Vec Ideal S1x16384x128 .f32) (x3 : Vec Ideal S1x8192x128 .f32) (g : Fin 4) (r : Fin 8192) (l : Fin 128) :
    outB x0 z x3 g (ix3 0 r l)
      = x3 (ix3 0 r l) + (∑ i : Fin 13, rows z (word x0 g ⟨i.val, by have := i.isLt; omega⟩) (ix3 0 r l)) * ((1 / 13 : ℝ) : EReal) := by
  rw [← sum13]
  unfold outB
  exact paysB _ _ _ _ _ _ _ _ _ _ _ _ _ x3 r l

end Cert.KernelIdeal.Combination

end
-- ==== Proof.Projection.lean ====
/-
  The projection call inside the whole run: both result arrays hold, at (batch, copy, time, feature), the inner product of the
  token's row with the feature's row of `W`, plus the feature's bias.
-/
module

public import proofs.«01_k».proof.Defs
public import proofs.«01_k».proof.Proof.LaunchedIdeal
public import proofs.«01_k».proof.Proof.Reference
public import Idealize.ShloMosaic.Lib.Pointwise
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.KernelIdeal.Projection

open Cert.KernelIdeal Cert.KernelIdeal.Gen Cert.KernelIdeal.Launched Cert.Mix

/-- The first result: the lower half of the features, held twice. -/
def GA (x : Vec Ideal S4x8192x768 .f32) (W : Vec Ideal S768x768 .f32) (b : Vec Ideal S768 .f32) :
    Vec Ideal S4x2x8192x384 .f32 :=
  fun y => proj x W b (y 0) (y 2) ⟨(y 3).val, by have h : (y 3).val < 384 := (y 3).isLt; omega⟩

/-- The second result: the upper half of the features, held twice. -/
def GB (x : Vec Ideal S4x8192x768 .f32) (W : Vec Ideal S768x768 .f32) (b : Vec Ideal S768 .f32) :
    Vec Ideal S4x2x8192x384 .f32 :=
  fun y => proj x W b (y 0) (y 2) ⟨384 + (y 3).val, by have h : (y 3).val < 384 := (y 3).isLt; omega⟩

/-- The body's value: the block's rows times the transposed weights, plus the bias row. -/
theorem pay_apply (P0 : Vec Ideal S1024x768 .f32) (P1 : Vec Ideal S768x768 .f32) (P2 : Vec Ideal S1x768 .f32)
    (r : Fin 1024) (e : Fin 768) :
    k0_pay1 P0 P1 P2 (ix2 r e) = (∑ k : Fin 768, P0 (ix2 r k) * P1 (ix2 k e)) + P2 (ix2 0 e) := by
  pointwise [k0_pay1]

variable (m : (ℓ : Loc nD τ sig) → Buf (Elt Ideal) ℓ)

abbrev X (c : Dev nD) : Vec Ideal S4x8192x768 .f32 := m ((c : Thread nD τ).loc main_arg0)
abbrev Wt (c : Dev nD) : Vec Ideal S768x768 .f32 := m ((c : Thread nD τ).loc main_arg1)
abbrev Bi (c : Dev nD) : Vec Ideal S768 .f32 := m ((c : Thread nD τ).loc main_arg2)

theorem V_rows (c : Dev nD) : Ve0 m c main_v0 = shapeCast S32768x768 (X m c) shapeCasts_S4x8192x768_S32768x768 := by
  show StableHlo.after hostOps0 (fun b => m (c, b)) main_v0 = _
  after_results
  rfl

theorem V_weights (c : Dev nD) : Ve0 m c main_v1 = transpose S768x768 [1, 0] (Wt m c) transposes_S768x768_S768x768_1_0 := by
  show StableHlo.after hostOps0 (fun b => m (c, b)) main_v1 = _
  after_results

theorem V_bias (c : Dev nD) : Ve0 m c main_v2 = shapeCast S1x768 (Bi m c) shapeCasts_S768_S1x768 := by
  show StableHlo.after hostOps0 (fun b => m (c, b)) main_v2 = _
  after_results
  rfl

/-- The block a window holds at a point of the projection. -/
abbrev iblk0 (c : Dev nD) (w : Fin cfg0.W) (t : Fin cfg0.N) : ((cfg0.win w).xblock (cfg0.grid.coords t)).Idx → Elt Ideal (cfg0.win w).elt :=
  Cert.KernelIdeal.Own.K0.iblk (Ve0 m) c w t

/-- Where the windows stand at each of the 32 points. -/
theorem idx_facts : ∀ t : Fin cfg0.N,
    win0_0.index t 0 = t.val ∧ win0_0.index t 1 = 0 ∧ win0_1.index t 0 = 0 ∧ win0_1.index t 1 = 0
    ∧ win0_2.index t 0 = 0 ∧ win0_2.index t 1 = 0
    ∧ win0_3.index t 0 = t.val / 8 ∧ win0_3.index t 1 = 0 ∧ win0_3.index t 2 = t.val % 8 ∧ win0_3.index t 3 = 0
    ∧ win0_4.index t 0 = t.val / 8 ∧ win0_4.index t 1 = 0 ∧ win0_4.index t 2 = t.val % 8 ∧ win0_4.index t 3 = 0 :=
  (by decide +kernel : ∀ t : Fin grid0.N,
    win0_0.index t 0 = t.val ∧ win0_0.index t 1 = 0 ∧ win0_1.index t 0 = 0 ∧ win0_1.index t 1 = 0
    ∧ win0_2.index t 0 = 0 ∧ win0_2.index t 1 = 0
    ∧ win0_3.index t 0 = t.val / 8 ∧ win0_3.index t 1 = 0 ∧ win0_3.index t 2 = t.val % 8 ∧ win0_3.index t 3 = 0
    ∧ win0_4.index t 0 = t.val / 8 ∧ win0_4.index t 1 = 0 ∧ win0_4.index t 2 = t.val % 8 ∧ win0_4.index t 3 = 0)

theorem lt32 (t : Fin cfg0.N) : t.val < 32 := lt_of_lt_of_eq t.isLt N_0

/-- The block of tokens of point `t`. -/
theorem rows_apply (c : Dev nD) (t : Fin cfg0.N) (r : Fin 1024) (k : Fin 768) :
    iblk0 m c 0 t (ix2 r k)
      = X m c (ix3 ⟨t.val / 8, by have := lt32 t; omega⟩ ⟨1024 * (t.val % 8) + r.val, by have := r.isLt; omega⟩ k) := by
  have ht := lt32 t
  obtain ⟨h0, h1, -⟩ := idx_facts t
  have e : iblk0 m c 0 t (ix2 r k) = Ve0 m c main_v0 (ix2 ⟨1024 * t.val + r.val, by have := r.isLt; omega⟩ k) := by
    show Ve0 m c main_v0 ((win0_0.rect t).idx (ix2 r k)) = _
    congr 1
    funext a; apply Fin.ext
    match a with
    | ⟨0, _⟩ => show win0_0.index t 0 * 1024 + 1 * r.val = 1024 * t.val + r.val; omega
    | ⟨1, _⟩ => show win0_0.index t 1 * 768 + 1 * k.val = k.val; omega
  rw [e, V_rows]
  pointwise
  congr 2 <;> apply Fin.ext <;> simp only [] <;> omega

theorem weights_apply (c : Dev nD) (t : Fin cfg0.N) (k e : Fin 768) : iblk0 m c 1 t (ix2 k e) = Wt m c (ix2 e k) := by
  obtain ⟨-, -, h0, h1, -⟩ := idx_facts t
  have h : iblk0 m c 1 t (ix2 k e) = Ve0 m c main_v1 (ix2 k e) := by
    show Ve0 m c main_v1 ((win0_1.rect t).idx (ix2 k e)) = _
    congr 1
    funext a; apply Fin.ext
    match a with
    | ⟨0, _⟩ => show win0_1.index t 0 * 768 + 1 * k.val = k.val; omega
    | ⟨1, _⟩ => show win0_1.index t 1 * 768 + 1 * e.val = e.val; omega
  rw [h, V_weights]
  pointwise

theorem bias_apply (c : Dev nD) (t : Fin cfg0.N) (e : Fin 768) : iblk0 m c 2 t (ix2 0 e) = Bi m c (ix1 e) := by
  obtain ⟨-, -, -, -, h0, h1, -⟩ := idx_facts t
  have h : iblk0 m c 2 t (ix2 0 e) = Ve0 m c main_v2 (ix2 0 e) := by
    show Ve0 m c main_v2 ((win0_2.rect t).idx (ix2 0 e)) = _
    congr 1
    funext a; apply Fin.ext
    match a with
    | ⟨0, _⟩ => show win0_2.index t 0 * 1 + 1 * 0 = 0; omega
    | ⟨1, _⟩ => show win0_2.index t 1 * 768 + 1 * e.val = e.val; omega
  rw [h, V_bias]
  pointwise

/-- The body's value at point `t` is the projection of the point's tokens. -/
theorem point_value (c : Dev nD) (t : Fin cfg0.N) (r : Fin 1024) (e : Fin 768) :
    k0_pay1 (iblk0 m c 0 t) (iblk0 m c 1 t) (iblk0 m c 2 t) (ix2 r e)
      = proj (X m c) (Wt m c) (Bi m c) ⟨t.val / 8, by have := lt32 t; omega⟩ ⟨1024 * (t.val % 8) + r.val, by have := r.isLt; omega⟩ e := by
  rw [pay_apply (iblk0 m c 0 t) (iblk0 m c 1 t) (iblk0 m c 2 t) r e, bias_apply]
  unfold proj
  congr 1
  refine Finset.sum_congr rfl fun k _ => ?_
  rw [rows_apply, weights_apply]

/-! ## What the body stores: one value, twice in each output -/

theorem read_1024x768 {arg : Memref sig .tc .vmem S1024x768 .f32} (harg : arg.IsWhole) (x : Vec Ideal S1024x768 .f32) :
    arg.view.readAt (Elt Ideal) (Rect.unit (s := S1024x768) ![0, 0] S1024x768.size inb_S1024x768_S1024x768_0_0).toLoadRect (harg.unread x) = x := by
  funext y
  rw [View.readAt_apply]
  refine (congrArg (arg.view.read (Elt Ideal) (harg.unread x)) (funext fun a => Fin.ext ?_)).trans (congrFun (harg.read_unread x) y)
  match a with
  | ⟨0, _⟩ => show 0 + 1 * (y 0).val = (y 0).val; omega
  | ⟨1, _⟩ => show 0 + 1 * (y 1).val = (y 1).val; omega

theorem read_768x768 {arg : Memref sig .tc .vmem S768x768 .f32} (harg : arg.IsWhole) (x : Vec Ideal S768x768 .f32) :
    arg.view.readAt (Elt Ideal) (Rect.unit (s := S768x768) ![0, 0] S768x768.size inb_S768x768_S768x768_0_0).toLoadRect (harg.unread x) = x := by
  funext y
  rw [View.readAt_apply]
  refine (congrArg (arg.view.read (Elt Ideal) (harg.unread x)) (funext fun a => Fin.ext ?_)).trans (congrFun (harg.read_unread x) y)
  match a with
  | ⟨0, _⟩ => show 0 + 1 * (y 0).val = (y 0).val; omega
  | ⟨1, _⟩ => show 0 + 1 * (y 1).val = (y 1).val; omega

theorem read_1x768 {arg : Memref sig .tc .vmem S1x768 .f32} (harg : arg.IsWhole) (x : Vec Ideal S1x768 .f32) :
    arg.view.readAt (Elt Ideal) (Rect.unit (s := S1x768) ![0, 0] S1x768.size inb_S1x768_S1x768_0_0).toLoadRect (harg.unread x) = x := by
  funext y
  rw [View.readAt_apply]
  refine (congrArg (arg.view.read (Elt Ideal) (harg.unread x)) (funext fun a => Fin.ext ?_)).trans (congrFun (harg.read_unread x) y)
  match a with
  | ⟨0, _⟩ => show 0 + 1 * (y 0).val = (y 0).val; omega
  | ⟨1, _⟩ => show 0 + 1 * (y 1).val = (y 1).val; omega

/-- The two stores into output 3's block. -/
theorem stores3 (c : Dev nD) (i : grid0.Coords) (arg2 : Memref sig .tc .vmem S1024x768 .f32) (harg2 : arg2.IsWhole) (arg3 : Memref sig .tc .vmem S768x768 .f32) (harg3 : arg3.IsWhole) (arg4 : Memref sig .tc .vmem S1x768 .f32) (harg4 : arg4.IsWhole) (arg5 : Memref sig .tc .vmem S1x2x1024x384 .f32) (harg5 : arg5.IsWhole) (arg6 : Memref sig .tc .vmem S1x2x1024x384 .f32) (harg6 : arg6.IsWhole)
    (x0 : Vec Ideal S1024x768 .f32) (x1 : Vec Ideal S768x768 .f32) (x2 : Vec Ideal S1x768 .f32) :
    (Cert.KernelIdeal.Own.K0.kernelRun0_A (Ix := Unit) (U := UR sig nD τ) (Lvl := ℕ) Variants.none c i arg2 harg2 arg3 harg3 arg4 harg4 arg5 harg5 arg6 harg6 x0 x1 x2).1
      = [⟨Rect.unit (s := S1x2x1024x384) ![0, 1, 0, 0] S1x1x1024x384.size inb_S1x2x1024x384_S1x1x1024x384_0_1_0_0, k0_pay5 x0 x1 x2⟩,
        ⟨Rect.unit (s := S1x2x1024x384) ![0, 0, 0, 0] S1x1x1024x384.size inb_S1x2x1024x384_S1x1x1024x384_0_0_0_0, k0_pay4 x0 x1 x2⟩] := by
  show ([⟨Rect.unit (s := S1x2x1024x384) ![0, 1, 0, 0] S1x1x1024x384.size inb_S1x2x1024x384_S1x1x1024x384_0_1_0_0, k0_pay5 (arg2.view.readAt (Elt Ideal) (Rect.unit (s := S1024x768) ![0, 0] S1024x768.size inb_S1024x768_S1024x768_0_0).toLoadRect (harg2.unread x0)) (arg3.view.readAt (Elt Ideal) (Rect.unit (s := S768x768) ![0, 0] S768x768.size inb_S768x768_S768x768_0_0).toLoadRect (harg3.unread x1)) (arg4.view.readAt (Elt Ideal) (Rect.unit (s := S1x768) ![0, 0] S1x768.size inb_S1x768_S1x768_0_0).toLoadRect (harg4.unread x2))⟩,
        ⟨Rect.unit (s := S1x2x1024x384) ![0, 0, 0, 0] S1x1x1024x384.size inb_S1x2x1024x384_S1x1x1024x384_0_0_0_0, k0_pay4 (arg2.view.readAt (Elt Ideal) (Rect.unit (s := S1024x768) ![0, 0] S1024x768.size inb_S1024x768_S1024x768_0_0).toLoadRect (harg2.unread x0)) (arg3.view.readAt (Elt Ideal) (Rect.unit (s := S768x768) ![0, 0] S768x768.size inb_S768x768_S768x768_0_0).toLoadRect (harg3.unread x1)) (arg4.view.readAt (Elt Ideal) (Rect.unit (s := S1x768) ![0, 0] S1x768.size inb_S1x768_S1x768_0_0).toLoadRect (harg4.unread x2))⟩] : List (View.Piece (Elt Ideal) S1x2x1024x384 .f32)) = _
  rw [read_1024x768, read_768x768, read_1x768]

/-- The two stores into output 4's block. -/
theorem stores4 (c : Dev nD) (i : grid0.Coords) (arg2 : Memref sig .tc .vmem S1024x768 .f32) (harg2 : arg2.IsWhole) (arg3 : Memref sig .tc .vmem S768x768 .f32) (harg3 : arg3.IsWhole) (arg4 : Memref sig .tc .vmem S1x768 .f32) (harg4 : arg4.IsWhole) (arg5 : Memref sig .tc .vmem S1x2x1024x384 .f32) (harg5 : arg5.IsWhole) (arg6 : Memref sig .tc .vmem S1x2x1024x384 .f32) (harg6 : arg6.IsWhole)
    (x0 : Vec Ideal S1024x768 .f32) (x1 : Vec Ideal S768x768 .f32) (x2 : Vec Ideal S1x768 .f32) :
    (Cert.KernelIdeal.Own.K0.kernelRun0_A (Ix := Unit) (U := UR sig nD τ) (Lvl := ℕ) Variants.none c i arg2 harg2 arg3 harg3 arg4 harg4 arg5 harg5 arg6 harg6 x0 x1 x2).2.1
      = [⟨Rect.unit (s := S1x2x1024x384) ![0, 1, 0, 0] S1x1x1024x384.size inb_S1x2x1024x384_S1x1x1024x384_0_1_0_0, k0_pay7 x0 x1 x2⟩,
        ⟨Rect.unit (s := S1x2x1024x384) ![0, 0, 0, 0] S1x1x1024x384.size inb_S1x2x1024x384_S1x1x1024x384_0_0_0_0, k0_pay6 x0 x1 x2⟩] := by
  show ([⟨Rect.unit (s := S1x2x1024x384) ![0, 1, 0, 0] S1x1x1024x384.size inb_S1x2x1024x384_S1x1x1024x384_0_1_0_0, k0_pay7 (arg2.view.readAt (Elt Ideal) (Rect.unit (s := S1024x768) ![0, 0] S1024x768.size inb_S1024x768_S1024x768_0_0).toLoadRect (harg2.unread x0)) (arg3.view.readAt (Elt Ideal) (Rect.unit (s := S768x768) ![0, 0] S768x768.size inb_S768x768_S768x768_0_0).toLoadRect (harg3.unread x1)) (arg4.view.readAt (Elt Ideal) (Rect.unit (s := S1x768) ![0, 0] S1x768.size inb_S1x768_S1x768_0_0).toLoadRect (harg4.unread x2))⟩,
        ⟨Rect.unit (s := S1x2x1024x384) ![0, 0, 0, 0] S1x1x1024x384.size inb_S1x2x1024x384_S1x1x1024x384_0_0_0_0, k0_pay6 (arg2.view.readAt (Elt Ideal) (Rect.unit (s := S1024x768) ![0, 0] S1024x768.size inb_S1024x768_S1024x768_0_0).toLoadRect (harg2.unread x0)) (arg3.view.readAt (Elt Ideal) (Rect.unit (s := S768x768) ![0, 0] S768x768.size inb_S768x768_S768x768_0_0).toLoadRect (harg3.unread x1)) (arg4.view.readAt (Elt Ideal) (Rect.unit (s := S1x768) ![0, 0] S1x768.size inb_S1x768_S1x768_0_0).toLoadRect (harg4.unread x2))⟩] : List (View.Piece (Elt Ideal) S1x2x1024x384 .f32)) = _
  rw [read_1024x768, read_768x768, read_1x768]

theorem k0_pay5_apply (P0 : Vec Ideal S1024x768 .f32) (P1 : Vec Ideal S768x768 .f32) (P2 : Vec Ideal S1x768 .f32) (u v : Fin 1) (r : Fin 1024) (e : Fin 384) :
    k0_pay5 P0 P1 P2 (ix4 u v r e) = k0_pay1 P0 P1 P2 (ix2 r ⟨e.val, by have := e.isLt; omega⟩) := by
  pointwise [k0_pay5, k0_pay2]

theorem k0_pay4_apply (P0 : Vec Ideal S1024x768 .f32) (P1 : Vec Ideal S768x768 .f32) (P2 : Vec Ideal S1x768 .f32) (u v : Fin 1) (r : Fin 1024) (e : Fin 384) :
    k0_pay4 P0 P1 P2 (ix4 u v r e) = k0_pay1 P0 P1 P2 (ix2 r ⟨e.val, by have := e.isLt; omega⟩) := by
  pointwise [k0_pay4, k0_pay2]

/-- Output 3's block, read back: the body's value at the index's time and feature, in both copies. -/
theorem block3 (c : Dev nD) (i : grid0.Coords) (arg2 : Memref sig .tc .vmem S1024x768 .f32) (harg2 : arg2.IsWhole) (arg3 : Memref sig .tc .vmem S768x768 .f32) (harg3 : arg3.IsWhole) (arg4 : Memref sig .tc .vmem S1x768 .f32) (harg4 : arg4.IsWhole) (arg5 : Memref sig .tc .vmem S1x2x1024x384 .f32) (harg5 : arg5.IsWhole) (arg6 : Memref sig .tc .vmem S1x2x1024x384 .f32) (harg6 : arg6.IsWhole)
    (x0 : Vec Ideal S1024x768 .f32) (x1 : Vec Ideal S768x768 .f32) (x2 : Vec Ideal S1x768 .f32) (y : S1x2x1024x384.Idx) :
    Cert.KernelIdeal.Own.K0.out0_A_3 (Ix := Unit) (U := UR sig nD τ) (Lvl := ℕ) Variants.none c i arg2 harg2 arg3 harg3 arg4 harg4 arg5 harg5 arg6 harg6 x0 x1 x2 y
      = k0_pay1 x0 x1 x2 (ix2 (y 2) ⟨(y 3).val, by have h : (y 3).val < 384 := (y 3).isLt; omega⟩) := by
  unfold Cert.KernelIdeal.Own.K0.out0_A_3
  rw [stores3]
  have h0 : (y 0).val < 1 := (y 0).isLt
  have h1 : (y 1).val < 2 := (y 1).isLt
  by_cases hc : (y 1).val = 1
  · refine (View.read_writes_cons_unit_of_mem _ _ _ _ _ y (ix4 0 0 (y 2) (y 3) : S1x1x1024x384.Idx) rfl fun a => ?_).trans (k0_pay5_apply x0 x1 x2 0 0 (y 2) (y 3))
    match a with
    | ⟨0, _⟩ => show (y 0).val = 0 + 0; omega
    | ⟨1, _⟩ => show (y 1).val = 1 + 0; omega
    | ⟨2, _⟩ => show (y 2).val = 0 + (y 2).val; omega
    | ⟨3, _⟩ => show (y 3).val = 0 + (y 3).val; omega
  · refine (View.read_writes_cons_unit_of_not_mem _ _ _ _ _ y rfl 1 (Or.inl ?_)).trans ?_
    · show (y 1).val < 1; omega
    refine (View.read_writes_cons_unit_of_mem _ _ _ _ _ y (ix4 0 0 (y 2) (y 3) : S1x1x1024x384.Idx) rfl fun a => ?_).trans (k0_pay4_apply x0 x1 x2 0 0 (y 2) (y 3))
    match a with
    | ⟨0, _⟩ => show (y 0).val = 0 + 0; omega
    | ⟨1, _⟩ => show (y 1).val = 0 + 0; omega
    | ⟨2, _⟩ => show (y 2).val = 0 + (y 2).val; omega
    | ⟨3, _⟩ => show (y 3).val = 0 + (y 3).val; omega

theorem k0_pay7_apply (P0 : Vec Ideal S1024x768 .f32) (P1 : Vec Ideal S768x768 .f32) (P2 : Vec Ideal S1x768 .f32) (u v : Fin 1) (r : Fin 1024) (e : Fin 384) :
    k0_pay7 P0 P1 P2 (ix4 u v r e) = k0_pay1 P0 P1 P2 (ix2 r ⟨384 + e.val, by have := e.isLt; omega⟩) := by
  pointwise [k0_pay7, k0_pay3]

theorem k0_pay6_apply (P0 : Vec Ideal S1024x768 .f32) (P1 : Vec Ideal S768x768 .f32) (P2 : Vec Ideal S1x768 .f32) (u v : Fin 1) (r : Fin 1024) (e : Fin 384) :
    k0_pay6 P0 P1 P2 (ix4 u v r e) = k0_pay1 P0 P1 P2 (ix2 r ⟨384 + e.val, by have := e.isLt; omega⟩) := by
  pointwise [k0_pay6, k0_pay3]

/-- Output 4's block, read back: the body's value at the index's time and feature, in both copies. -/
theorem block4 (c : Dev nD) (i : grid0.Coords) (arg2 : Memref sig .tc .vmem S1024x768 .f32) (harg2 : arg2.IsWhole) (arg3 : Memref sig .tc .vmem S768x768 .f32) (harg3 : arg3.IsWhole) (arg4 : Memref sig .tc .vmem S1x768 .f32) (harg4 : arg4.IsWhole) (arg5 : Memref sig .tc .vmem S1x2x1024x384 .f32) (harg5 : arg5.IsWhole) (arg6 : Memref sig .tc .vmem S1x2x1024x384 .f32) (harg6 : arg6.IsWhole)
    (x0 : Vec Ideal S1024x768 .f32) (x1 : Vec Ideal S768x768 .f32) (x2 : Vec Ideal S1x768 .f32) (y : S1x2x1024x384.Idx) :
    Cert.KernelIdeal.Own.K0.out0_A_4 (Ix := Unit) (U := UR sig nD τ) (Lvl := ℕ) Variants.none c i arg2 harg2 arg3 harg3 arg4 harg4 arg5 harg5 arg6 harg6 x0 x1 x2 y
      = k0_pay1 x0 x1 x2 (ix2 (y 2) ⟨384 + (y 3).val, by have h : (y 3).val < 384 := (y 3).isLt; omega⟩) := by
  unfold Cert.KernelIdeal.Own.K0.out0_A_4
  rw [stores4]
  have h0 : (y 0).val < 1 := (y 0).isLt
  have h1 : (y 1).val < 2 := (y 1).isLt
  by_cases hc : (y 1).val = 1
  · refine (View.read_writes_cons_unit_of_mem _ _ _ _ _ y (ix4 0 0 (y 2) (y 3) : S1x1x1024x384.Idx) rfl fun a => ?_).trans (k0_pay7_apply x0 x1 x2 0 0 (y 2) (y 3))
    match a with
    | ⟨0, _⟩ => show (y 0).val = 0 + 0; omega
    | ⟨1, _⟩ => show (y 1).val = 1 + 0; omega
    | ⟨2, _⟩ => show (y 2).val = 0 + (y 2).val; omega
    | ⟨3, _⟩ => show (y 3).val = 0 + (y 3).val; omega
  · refine (View.read_writes_cons_unit_of_not_mem _ _ _ _ _ y rfl 1 (Or.inl ?_)).trans ?_
    · show (y 1).val < 1; omega
    refine (View.read_writes_cons_unit_of_mem _ _ _ _ _ y (ix4 0 0 (y 2) (y 3) : S1x1x1024x384.Idx) rfl fun a => ?_).trans (k0_pay6_apply x0 x1 x2 0 0 (y 2) (y 3))
    match a with
    | ⟨0, _⟩ => show (y 0).val = 0 + 0; omega
    | ⟨1, _⟩ => show (y 1).val = 0 + 0; omega
    | ⟨2, _⟩ => show (y 2).val = 0 + (y 2).val; omega
    | ⟨3, _⟩ => show (y 3).val = 0 + (y 3).val; omega

/-- What point `t` leaves in output 3's buffer. -/
theorem leftA (c : Dev nD) (t : Fin cfg0.N) (y : S1x2x1024x384.Idx) :
    (Cert.KernelIdeal.Own.K0.outsAt0 (Ix := Unit) (U := UR sig nD τ) (Lvl := ℕ) Variants.none (Ve0 m) c t).1 y
      = proj (X m c) (Wt m c) (Bi m c) ⟨t.val / 8, by have := lt32 t; omega⟩
          ⟨1024 * (t.val % 8) + (y 2).val, by have h : (y 2).val < 1024 := (y 2).isLt; omega⟩ ⟨(y 3).val, by have h : (y 3).val < 384 := (y 3).isLt; omega⟩ := by
  unfold Cert.KernelIdeal.Own.K0.outsAt0
  dsimp only
  rw [block3]
  exact point_value m c t (y 2) ⟨(y 3).val, by have h : (y 3).val < 384 := (y 3).isLt; omega⟩

theorem flushedA (c : Dev nD) (t : Fin cfg0.N) :
    (RunProj m c).flushed 3 t = (win0_3.blk t).view.read (Elt Ideal) (GA (X m c) (Wt m c) (Bi m c)) := by
  obtain ⟨-, -, -, -, -, -, h0, h1, h2, h3, -⟩ := idx_facts t
  show (cfg0.win 3).cut (grid0.coords t) ((RunProj m c).after 3 t) = _
  rw [Cert.KernelIdeal.Own.K0.after0_3]
  funext y
  refine (leftA m c t y).trans ?_
  show _ = GA (X m c) (Wt m c) (Bi m c) ((win0_3.rect t).idx y)
  unfold GA
  congr 1 <;> apply Fin.ext
  · show t.val / 8 = win0_3.index t 0 * 1 + 1 * (y 0).val
    have : (y 0).val < 1 := (y 0).isLt
    omega
  · show 1024 * (t.val % 8) + (y 2).val = win0_3.index t 2 * 1024 + 1 * (y 2).val
    omega
  · show (y 3).val = win0_3.index t 3 * 384 + 1 * (y 3).val
    omega

/-- What point `t` leaves in output 4's buffer. -/
theorem leftB (c : Dev nD) (t : Fin cfg0.N) (y : S1x2x1024x384.Idx) :
    (Cert.KernelIdeal.Own.K0.outsAt0 (Ix := Unit) (U := UR sig nD τ) (Lvl := ℕ) Variants.none (Ve0 m) c t).2 y
      = proj (X m c) (Wt m c) (Bi m c) ⟨t.val / 8, by have := lt32 t; omega⟩
          ⟨1024 * (t.val % 8) + (y 2).val, by have h : (y 2).val < 1024 := (y 2).isLt; omega⟩ ⟨384 + (y 3).val, by have h : (y 3).val < 384 := (y 3).isLt; omega⟩ := by
  unfold Cert.KernelIdeal.Own.K0.outsAt0
  dsimp only
  rw [block4]
  exact point_value m c t (y 2) ⟨384 + (y 3).val, by have h : (y 3).val < 384 := (y 3).isLt; omega⟩

theorem flushedB (c : Dev nD) (t : Fin cfg0.N) :
    (RunProj m c).flushed 4 t = (win0_4.blk t).view.read (Elt Ideal) (GB (X m c) (Wt m c) (Bi m c)) := by
  obtain ⟨-, -, -, -, -, -, -, -, -, -, h0, h1, h2, h3⟩ := idx_facts t
  show (cfg0.win 4).cut (grid0.coords t) ((RunProj m c).after 4 t) = _
  rw [Cert.KernelIdeal.Own.K0.after0_4]
  funext y
  refine (leftB m c t y).trans ?_
  show _ = GB (X m c) (Wt m c) (Bi m c) ((win0_4.rect t).idx y)
  unfold GB
  congr 1 <;> apply Fin.ext
  · show t.val / 8 = win0_4.index t 0 * 1 + 1 * (y 0).val
    have : (y 0).val < 1 := (y 0).isLt
    omega
  · show 1024 * (t.val % 8) + (y 2).val = win0_4.index t 2 * 1024 + 1 * (y 2).val
    omega
  · show 384 + (y 3).val = 384 + (win0_4.index t 3 * 384 + 1 * (y 3).val)
    omega

/-- The point whose block holds a given batch and time. -/
def pt (i : S4x2x8192x384.Idx) : Fin cfg0.N :=
  ⟨8 * (i 0).val + (i 2).val / 1024, by
    have h0 : (i 0).val < 4 := (i 0).isLt
    have h2 : (i 2).val < 8192 := (i 2).isLt
    have hN : cfg0.N = 32 := N_0
    omega⟩

theorem coverA (i : S4x2x8192x384.Idx) : i ∈ ((cfg0.win 3).blk (pt i)).view.set := by
  obtain ⟨-, -, -, -, -, -, e0, e1, e2, e3, -⟩ := idx_facts (pt i)
  have h0 : (i 0).val < 4 := (i 0).isLt
  have h1 : (i 1).val < 2 := (i 1).isLt
  have h2 : (i 2).val < 8192 := (i 2).isLt
  have h3 : (i 3).val < 384 := (i 3).isLt
  have hp : (pt i).val = 8 * (i 0).val + (i 2).val / 1024 := rfl
  show i ∈ ((View.whole main_v3_0).slice (win0_3.rect (pt i))).set
  rw [View.set_slice_whole, Rect.mem_set_unit]
  intro a
  match a with
  | ⟨0, _⟩ => show win0_3.index (pt i) 0 * 1 ≤ (i 0).val ∧ (i 0).val < win0_3.index (pt i) 0 * 1 + 1; omega
  | ⟨1, _⟩ => show win0_3.index (pt i) 1 * 2 ≤ (i 1).val ∧ (i 1).val < win0_3.index (pt i) 1 * 2 + 2; omega
  | ⟨2, _⟩ => show win0_3.index (pt i) 2 * 1024 ≤ (i 2).val ∧ (i 2).val < win0_3.index (pt i) 2 * 1024 + 1024; omega
  | ⟨3, _⟩ => show win0_3.index (pt i) 3 * 384 ≤ (i 3).val ∧ (i 3).val < win0_3.index (pt i) 3 * 384 + 384; omega

theorem coverB (i : S4x2x8192x384.Idx) : i ∈ ((cfg0.win 4).blk (pt i)).view.set := by
  obtain ⟨-, -, -, -, -, -, -, -, -, -, e0, e1, e2, e3⟩ := idx_facts (pt i)
  have h0 : (i 0).val < 4 := (i 0).isLt
  have h1 : (i 1).val < 2 := (i 1).isLt
  have h2 : (i 2).val < 8192 := (i 2).isLt
  have h3 : (i 3).val < 384 := (i 3).isLt
  have hp : (pt i).val = 8 * (i 0).val + (i 2).val / 1024 := rfl
  show i ∈ ((View.whole main_v3_1).slice (win0_4.rect (pt i))).set
  rw [View.set_slice_whole, Rect.mem_set_unit]
  intro a
  match a with
  | ⟨0, _⟩ => show win0_4.index (pt i) 0 * 1 ≤ (i 0).val ∧ (i 0).val < win0_4.index (pt i) 0 * 1 + 1; omega
  | ⟨1, _⟩ => show win0_4.index (pt i) 1 * 2 ≤ (i 1).val ∧ (i 1).val < win0_4.index (pt i) 1 * 2 + 2; omega
  | ⟨2, _⟩ => show win0_4.index (pt i) 2 * 1024 ≤ (i 2).val ∧ (i 2).val < win0_4.index (pt i) 2 * 1024 + 1024; omega
  | ⟨3, _⟩ => show win0_4.index (pt i) 3 * 384 ≤ (i 3).val ∧ (i 3).val < win0_4.index (pt i) 3 * 384 + 384; omega

theorem finalA (c : Dev nD) : (RunProj m c).arrAt 3 cfg0.N = GA (X m c) (Wt m c) (Bi m c) :=
  (RunProj m c).arrAt_eq_of_cover 3 (GA (X m c) (Wt m c) (Bi m c)) (fun t _ => flushedA m c t)
    fun i => ⟨pt i, flush0_3 _, coverA i⟩

theorem finalB (c : Dev nD) : (RunProj m c).arrAt 4 cfg0.N = GB (X m c) (Wt m c) (Bi m c) :=
  (RunProj m c).arrAt_eq_of_cover 4 (GB (X m c) (Wt m c) (Bi m c)) (fun t _ => flushedB m c t)
    fun i => ⟨pt i, flush0_4 _, coverB i⟩

end Cert.KernelIdeal.Projection

end
-- ==== Proof.Found.lean ====
/-
  What the combination finds: the doubled halves of the projection, the input, and the blocks of each at a point.
-/
module

public import proofs.«01_k».proof.Defs
public import proofs.«01_k».proof.Proof.DelaysIdeal
public import proofs.«01_k».proof.Proof.Projection
import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Combination

open Cert.KernelIdeal Cert.KernelIdeal.Gen Cert.KernelIdeal.Launched Cert.KernelIdeal.Combine Cert.KernelIdeal.Delays
open Cert.KernelIdeal.Projection Cert.Mix

variable (m : (ℓ : Loc nD τ sig) → Buf (Elt Ideal) ℓ)

abbrev Dl (c : Dev nD) : IVec S4x16 32 := m ((c : Thread nD τ).loc main_arg3)

/-! ## What the combination finds -/

theorem foundX (c : Dev nD) : Ve1 m c main_arg0 = X m c :=
  (V3_of m (outs2 m) c main_arg0 (by decide)).trans <| (V2_of m (outs2 m) c main_arg0 (by decide)).trans <| (V1_of m c main_arg0 (by decide)).trans rfl

theorem afterA (c : Dev nD) : V2 m (outs2 m) c main_v3_0 = GA (X m c) (Wt m c) (Bi m c) := by
  rw [← V2_outs]
  exact (left0 m c).trans (finalA m c)

theorem afterB (c : Dev nD) : V2 m (outs2 m) c main_v3_1 = GB (X m c) (Wt m c) (Bi m c) := by
  rw [← V2_outs]
  exact (left1 m c).trans (finalB m c)

theorem foundA (c : Dev nD) : Ve1 m c main_v4 = shapeCast S4x16384x384 (GA (X m c) (Wt m c) (Bi m c)) shapeCasts_S4x2x8192x384_S4x16384x384 := by
  rw [← afterA]
  show StableHlo.after hostOps1 (V2 m (outs2 m) c) main_v4 = _
  after_results
  rfl

theorem foundB (c : Dev nD) : Ve1 m c main_v5 = shapeCast S4x16384x384 (GB (X m c) (Wt m c) (Bi m c)) shapeCasts_S4x2x8192x384_S4x16384x384 := by
  rw [← afterB]
  show StableHlo.after hostOps1 (V2 m (outs2 m) c) main_v5 = _
  after_results
  rfl

/-- A row of the doubled lower half is the projection of the token it copies. -/
theorem foundA_apply (c : Dev nD) (g : Fin 4) (n : Fin 16384) (e : Fin 384) :
    (Ve1 m c main_v4 : Vec Ideal S4x16384x384 .f32) (ix3 g n e)
      = proj (X m c) (Wt m c) (Bi m c) g ⟨n.val % 8192, Nat.mod_lt _ (by decide)⟩ ⟨e.val, by have := e.isLt; omega⟩ := by
  rw [foundA]
  pointwise [GA]

/-- A row of the doubled upper half likewise. -/
theorem foundB_apply (c : Dev nD) (g : Fin 4) (n : Fin 16384) (e : Fin 384) :
    (Ve1 m c main_v5 : Vec Ideal S4x16384x384 .f32) (ix3 g n e)
      = proj (X m c) (Wt m c) (Bi m c) g ⟨n.val % 8192, Nat.mod_lt _ (by decide)⟩ ⟨384 + e.val, by have := e.isLt; omega⟩ := by
  rw [foundB]
  pointwise [GB]

/-! ## The windows at each of the 24 points -/

theorem idx_facts : ∀ t : Fin cfg1.N,
    win1_1.index t 0 = t.val / 6 ∧ win1_1.index t 1 = 0 ∧ win1_1.index t 2 = t.val / 2 % 3
    ∧ win1_2.index t 0 = t.val / 6 ∧ win1_2.index t 1 = 0 ∧ win1_2.index t 2 = t.val / 2 % 3
    ∧ win1_3.index t 0 = t.val / 6 ∧ win1_3.index t 1 = 0 ∧ win1_3.index t 2 = t.val % 2 * 3 + t.val / 2 % 3
    ∧ win1_4.index t 0 = t.val / 6 ∧ win1_4.index t 1 = 0 ∧ win1_4.index t 2 = t.val % 2 * 3 + t.val / 2 % 3
    ∧ (k1_cond1 (grid1.coords t) = 1#1 ↔ t.val % 2 = 0) ∧ (bat (grid1.coords t)).val = t.val / 6 :=
  (by decide +kernel : ∀ t : Fin grid1.N,
    win1_1.index t 0 = t.val / 6 ∧ win1_1.index t 1 = 0 ∧ win1_1.index t 2 = t.val / 2 % 3
    ∧ win1_2.index t 0 = t.val / 6 ∧ win1_2.index t 1 = 0 ∧ win1_2.index t 2 = t.val / 2 % 3
    ∧ win1_3.index t 0 = t.val / 6 ∧ win1_3.index t 1 = 0 ∧ win1_3.index t 2 = t.val % 2 * 3 + t.val / 2 % 3
    ∧ win1_4.index t 0 = t.val / 6 ∧ win1_4.index t 1 = 0 ∧ win1_4.index t 2 = t.val % 2 * 3 + t.val / 2 % 3
    ∧ (k1_cond1 (grid1.coords t) = 1#1 ↔ t.val % 2 = 0) ∧ (bat (grid1.coords t)).val = t.val / 6)

theorem lt24 (t : Fin cfg1.N) : t.val < 24 := lt_of_lt_of_eq t.isLt N_1

/-- The point's batch entry, and the feature its lane `l` holds. -/
def bt (t : Fin cfg1.N) : Fin 4 := ⟨t.val / 6, by have := lt24 t; omega⟩
def ft (t : Fin cfg1.N) (l : Fin 128) : Fin 768 :=
  ⟨(t.val % 2 * 3 + t.val / 2 % 3) * 128 + l.val, by have := l.isLt; have := lt24 t; omega⟩

theorem read1 (V : (c : Dev nD) → (b : Ref sig .tc) → Buf (Elt Ideal) ((c : Thread nD τ).loc b)) (c : Dev nD) (t : Fin cfg1.N) (y : S1x16384x128.Idx) :
    blk V c 1 t y = (V c main_v4 : Vec Ideal S4x16384x384 .f32) ((win1_1.rect t).idx y) := rfl

theorem read2 (V : (c : Dev nD) → (b : Ref sig .tc) → Buf (Elt Ideal) ((c : Thread nD τ).loc b)) (c : Dev nD) (t : Fin cfg1.N) (y : S1x16384x128.Idx) :
    blk V c 2 t y = (V c main_v5 : Vec Ideal S4x16384x384 .f32) ((win1_2.rect t).idx y) := rfl

theorem read3 (V : (c : Dev nD) → (b : Ref sig .tc) → Buf (Elt Ideal) ((c : Thread nD τ).loc b)) (c : Dev nD) (t : Fin cfg1.N) (y : S1x8192x128.Idx) :
    blk V c 3 t y = (V c main_arg0 : Vec Ideal S4x8192x768 .f32) ((win1_3.rect t).idx y) := rfl

theorem blk3_apply (c : Dev nD) (t : Fin cfg1.N) (r : Fin 8192) (l : Fin 128) :
    blk (Ve1 m) c 3 t (ix3 0 r l) = X m c (ix3 (bt t) r (ft t l)) := by
  obtain ⟨-, -, -, -, -, -, h0, h1, h2, -⟩ := idx_facts t
  have e : blk (Ve1 m) c 3 t (ix3 0 r l) = (Ve1 m c main_arg0 : Vec Ideal S4x8192x768 .f32) (ix3 (bt t) r (ft t l)) := by
    refine (read3 (Ve1 m) c t _).trans (congrArg (Ve1 m c main_arg0 : Vec Ideal S4x8192x768 .f32) (funext fun a => Fin.ext ?_))
    match a with
    | ⟨0, _⟩ => show win1_3.index t 0 * 1 + 1 * 0 = t.val / 6; omega
    | ⟨1, _⟩ => show win1_3.index t 1 * 8192 + 1 * r.val = r.val; omega
    | ⟨2, _⟩ => show win1_3.index t 2 * 128 + 1 * l.val = (t.val % 2 * 3 + t.val / 2 % 3) * 128 + l.val; omega
  rw [e, foundX]

theorem blk1_apply (c : Dev nD) (t : Fin cfg1.N) (hp : t.val % 2 = 0) (n : Fin 16384) (l : Fin 128) :
    blk (Ve1 m) c 1 t (ix3 0 n l)
      = proj (X m c) (Wt m c) (Bi m c) (bt t) ⟨n.val % 8192, Nat.mod_lt _ (by decide)⟩ (ft t l) := by
  obtain ⟨h0, h1, h2, -⟩ := idx_facts t
  have hl := l.isLt
  have e : blk (Ve1 m) c 1 t (ix3 0 n l) = (Ve1 m c main_v4 : Vec Ideal S4x16384x384 .f32) (ix3 (bt t) n ⟨t.val / 2 % 3 * 128 + l.val, by omega⟩) := by
    refine (read1 (Ve1 m) c t _).trans (congrArg (Ve1 m c main_v4 : Vec Ideal S4x16384x384 .f32) (funext fun a => Fin.ext ?_))
    match a with
    | ⟨0, _⟩ => show win1_1.index t 0 * 1 + 1 * 0 = t.val / 6; omega
    | ⟨1, _⟩ => show win1_1.index t 1 * 16384 + 1 * n.val = n.val; omega
    | ⟨2, _⟩ => show win1_1.index t 2 * 128 + 1 * l.val = t.val / 2 % 3 * 128 + l.val; omega
  refine e.trans ((foundA_apply m c (bt t) n _).trans (congrArg (proj (X m c) (Wt m c) (Bi m c) (bt t) _) (Fin.ext ?_)))
  show (t.val / 2 % 3 * 128 + l.val) = (t.val % 2 * 3 + t.val / 2 % 3) * 128 + l.val
  omega

theorem blk2_apply (c : Dev nD) (t : Fin cfg1.N) (hp : ¬ t.val % 2 = 0) (n : Fin 16384) (l : Fin 128) :
    blk (Ve1 m) c 2 t (ix3 0 n l)
      = proj (X m c) (Wt m c) (Bi m c) (bt t) ⟨n.val % 8192, Nat.mod_lt _ (by decide)⟩ (ft t l) := by
  obtain ⟨-, -, -, h0, h1, h2, -⟩ := idx_facts t
  have hl := l.isLt
  have e : blk (Ve1 m) c 2 t (ix3 0 n l) = (Ve1 m c main_v5 : Vec Ideal S4x16384x384 .f32) (ix3 (bt t) n ⟨t.val / 2 % 3 * 128 + l.val, by omega⟩) := by
    refine (read2 (Ve1 m) c t _).trans (congrArg (Ve1 m c main_v5 : Vec Ideal S4x16384x384 .f32) (funext fun a => Fin.ext ?_))
    match a with
    | ⟨0, _⟩ => show win1_2.index t 0 * 1 + 1 * 0 = t.val / 6; omega
    | ⟨1, _⟩ => show win1_2.index t 1 * 16384 + 1 * n.val = n.val; omega
    | ⟨2, _⟩ => show win1_2.index t 2 * 128 + 1 * l.val = t.val / 2 % 3 * 128 + l.val; omega
  refine e.trans ((foundB_apply m c (bt t) n _).trans (congrArg (proj (X m c) (Wt m c) (Bi m c) (bt t) _) (Fin.ext ?_)))
  show 384 + (t.val / 2 % 3 * 128 + l.val) = (t.val % 2 * 3 + t.val / 2 % 3) * 128 + l.val
  omega

end Cert.KernelIdeal.Combination

end
-- ==== Proof.Combination.lean ====
/-
  The combination call inside the whole run: its array holds, at (batch, time, feature), the input's element plus the
  thirteenth part of the sum of the thirteen shifted projections.
-/
module

public import proofs.«01_k».proof.Defs
public import proofs.«01_k».proof.Proof.DelaysIdeal
public import proofs.«01_k».proof.Proof.Thirteen
public import proofs.«01_k».proof.Proof.Found
public import proofs.«01_k».proof.Proof.Projection

@[expose] public section

set_option maxRecDepth 16384

noncomputable section

open Idealize.ShloMosaic Idealize.ShloMosaic.TcCoe Idealize.SL.Sem
open Idealize.ShloMosaic.Pipeline (Dat)

namespace Cert.KernelIdeal.Combination

open Cert.KernelIdeal Cert.KernelIdeal.Gen Cert.KernelIdeal.Launched Cert.KernelIdeal.Combine Cert.KernelIdeal.Delays
open Cert.KernelIdeal.Projection Cert.Mix

variable (m : (ℓ : Loc nD τ sig) → Buf (Elt Ideal) ℓ)

/-- What the whole array ends holding. -/
def G (c : Dev nD) : Vec Ideal S4x8192x768 .f32 := fun y =>
  X m c y + total (X m c) (Wt m c) (Bi m c) (Dl m c) (y 0) (y 1) (y 2) * ((1 / 13 : ℝ) : EReal)

variable (hd : ∀ (c : Dev nD) (y : S4x16.Idx), (y 1).val < 13 → (Dl m c y).toNat < 8192)

theorem word_apply (c : Dev nD) (t : Fin cfg1.N) (n : Fin 16) :
    word (blk (Ve1 m) c 0 t) (bat (grid1.coords t)) n = Dl m c (ix2 (bt t) n) := by
  have hb : bat (grid1.coords t) = bt t := Fin.ext (idx_facts t).2.2.2.2.2.2.2.2.2.2.2.2.2
  unfold word
  rw [hb]
  exact delays m c t (ix2 (bt t) n)

include hd in
theorem rowsA (c : Dev nD) (t : Fin cfg1.N) (hp : t.val % 2 = 0) (i : Fin 13) (r : Fin 8192) (l : Fin 128) :
    rows (blk (Ve1 m) c 1 t) (word (blk (Ve1 m) c 0 t) (bat (grid1.coords t)) ⟨i.val, by have := i.isLt; omega⟩) (ix3 0 r l)
      = proj (X m c) (Wt m c) (Bi m c) (bt t) (later r (Dl m c (ix2 (bt t) ⟨i.val, by have := i.isLt; omega⟩))) (ft t l) := by
  rw [word_apply]
  have h := hd c (ix2 (bt t) ⟨i.val, by have := i.isLt; omega⟩) i.isLt
  have hr := r.isLt
  refine (blk1_apply m c t hp _ l).trans (congrArg (fun k => proj (X m c) (Wt m c) (Bi m c) (bt t) k (ft t l)) (Fin.ext ?_))
  show ((Dl m c (ix2 (bt t) ⟨i.val, by have := i.isLt; omega⟩)).toNat + r.val) % 16384 % 8192 = (r.val + (Dl m c (ix2 (bt t) ⟨i.val, by have := i.isLt; omega⟩)).toNat) % 8192
  omega

include hd in
theorem rowsB (c : Dev nD) (t : Fin cfg1.N) (hp : ¬ t.val % 2 = 0) (i : Fin 13) (r : Fin 8192) (l : Fin 128) :
    rows (blk (Ve1 m) c 2 t) (word (blk (Ve1 m) c 0 t) (bat (grid1.coords t)) ⟨i.val, by have := i.isLt; omega⟩) (ix3 0 r l)
      = proj (X m c) (Wt m c) (Bi m c) (bt t) (later r (Dl m c (ix2 (bt t) ⟨i.val, by have := i.isLt; omega⟩))) (ft t l) := by
  rw [word_apply]
  have h := hd c (ix2 (bt t) ⟨i.val, by have := i.isLt; omega⟩) i.isLt
  have hr := r.isLt
  refine (blk2_apply m c t hp _ l).trans (congrArg (fun k => proj (X m c) (Wt m c) (Bi m c) (bt t) k (ft t l)) (Fin.ext ?_))
  show ((Dl m c (ix2 (bt t) ⟨i.val, by have := i.isLt; omega⟩)).toNat + r.val) % 16384 % 8192 = (r.val + (Dl m c (ix2 (bt t) ⟨i.val, by have := i.isLt; omega⟩)).toNat) % 8192
  omega

include hd in
/-- What point `t` leaves in the output's buffer. -/
theorem out_value (c : Dev nD) (t : Fin cfg1.N) (r : Fin 8192) (l : Fin 128) :
    outAt (Ve1 m) c t (ix3 0 r l) = G m c (ix3 (bt t) r (ft t l)) := by
  have hc := (idx_facts t).2.2.2.2.2.2.2.2.2.2.2.2.1
  unfold outAt
  by_cases h : k1_cond1 (grid1.coords t) = 1#1
  · rw [if_pos h]
    refine (outA_apply _ _ _ _ r l).trans ?_
    rw [blk3_apply]
    simp only [rowsA m hd c t (hc.mp h)]
    rfl
  · rw [if_neg h]
    refine (outB_apply _ _ _ _ r l).trans ?_
    rw [blk3_apply]
    simp only [rowsB m hd c t (fun hp => h (hc.mpr hp))]
    rfl

include hd in
theorem flushed (c : Dev nD) (t : Fin cfg1.N) :
    (RunComb m c).flushed 4 t = (win1_4.blk t).view.read (Elt Ideal) (G m c) := by
  obtain ⟨-, -, -, -, -, -, -, -, -, h0, h1, h2, -⟩ := idx_facts t
  show (cfg1.win 4).cut (grid1.coords t) ((RunComb m c).after 4 t) = _
  rw [after4]
  have hv : ∀ y : S1x8192x128.Idx, outAt (Ve1 m) c t y = G m c ((win1_4.rect t).idx y) := by
    intro y
    have y0 : (y 0).val < 1 := (y 0).isLt
    have ey : y = ix3 0 (y 1) (y 2) := by
      funext a; apply Fin.ext
      match a with
      | ⟨0, _⟩ => show (y 0).val = 0; omega
      | ⟨1, _⟩ => rfl
      | ⟨2, _⟩ => rfl
    refine (congrArg _ ey).trans ((out_value m hd c t (y 1) (y 2)).trans (congrArg (G m c) (funext fun a => Fin.ext ?_)))
    match a with
    | ⟨0, _⟩ => show t.val / 6 = win1_4.index t 0 * 1 + 1 * (y 0).val; omega
    | ⟨1, _⟩ => show (y 1).val = win1_4.index t 1 * 8192 + 1 * (y 1).val; omega
    | ⟨2, _⟩ => show (t.val % 2 * 3 + t.val / 2 % 3) * 128 + (y 2).val = win1_4.index t 2 * 128 + 1 * (y 2).val; omega
  funext y
  exact hv y

/-- The point whose block holds a given batch and feature. -/
def pt (i : S4x8192x768.Idx) : Fin cfg1.N :=
  ⟨6 * (i 0).val + 2 * ((i 2).val / 128 % 3) + (i 2).val / 384, by
    have h0 : (i 0).val < 4 := (i 0).isLt
    have h2 : (i 2).val < 768 := (i 2).isLt
    have hN : cfg1.N = 24 := N_1
    omega⟩

theorem cover (i : S4x8192x768.Idx) : i ∈ ((cfg1.win 4).blk (pt i)).view.set := by
  obtain ⟨-, -, -, -, -, -, -, -, -, e0, e1, e2, -⟩ := idx_facts (pt i)
  have h0 : (i 0).val < 4 := (i 0).isLt
  have h1 : (i 1).val < 8192 := (i 1).isLt
  have h2 : (i 2).val < 768 := (i 2).isLt
  have hp : (pt i).val = 6 * (i 0).val + 2 * ((i 2).val / 128 % 3) + (i 2).val / 384 := rfl
  have hq : (i 2).val / 128 / 3 = (i 2).val / 384 := Nat.div_div_eq_div_mul _ 128 3
  have hh : (pt i).val % 2 = (i 2).val / 384 := by omega
  have hj : (pt i).val / 2 % 3 = (i 2).val / 128 % 3 := by omega
  have hb : (pt i).val / 6 = (i 0).val := by omega
  rw [hh, hj] at e2
  rw [hb] at e0
  show i ∈ ((View.whole main_v6).slice (win1_4.rect (pt i))).set
  rw [View.set_slice_whole, Rect.mem_set_unit]
  intro a
  match a with
  | ⟨0, _⟩ => show win1_4.index (pt i) 0 * 1 ≤ (i 0).val ∧ (i 0).val < win1_4.index (pt i) 0 * 1 + 1; omega
  | ⟨1, _⟩ => show win1_4.index (pt i) 1 * 8192 ≤ (i 1).val ∧ (i 1).val < win1_4.index (pt i) 1 * 8192 + 8192; omega
  | ⟨2, _⟩ => show win1_4.index (pt i) 2 * 128 ≤ (i 2).val ∧ (i 2).val < win1_4.index (pt i) 2 * 128 + 128; omega

include hd in
theorem final (c : Dev nD) : (RunComb m c).arrAt 4 cfg1.N = G m c :=
  (RunComb m c).arrAt_eq_of_cover 4 (G m c) (fun t _ => flushed m hd c t) fun i => ⟨pt i, flush1_4 _, cover i⟩

end Cert.KernelIdeal.Combination

end
-- ==== Proof.Stage1.lean ====
/-
  The first stage of the transform: 64-point transforms, with the cosines and negative sines given as tables, of the complex
  series whose real part is the lower half of the features and whose imaginary part is the upper half, one series for each
  feature and each residue of the time modulo 128.
-/
module

public import proofs.«01_k».proof.Defs
public import proofs.«01_k».proof.Proof.Gen.Kernel2Ideal.Value
public import proofs.«01_k».proof.Proof.Gen.Reference2Ideal.Run
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Series

open Cert.Kernel2Ideal

/-- The sample at time `128 n + p` of one feature of one batch entry. -/
def sample (q : Vec Ideal S4x16384x384 .f32) (g : Fin 4) (p : Fin 128) (d : Fin 384) (n : Fin 64) : EReal :=
  q (ix3 g ⟨128 * n.val + p.val, by have := n.isLt; have := p.isLt; omega⟩ d)

/-- One row of a table against the series of one residue. -/
def against (C : Vec Ideal S64x64 .f32) (q : Vec Ideal S4x16384x384 .f32) (g : Fin 4) (k : Fin 64) (p : Fin 128) (d : Fin 384) : EReal :=
  ∑ n : Fin 64, C (ix2 k n) * sample q g p d n

/-- The residue and the feature that column `l` of group `u` holds. -/
def res (u : Fin 8) (l : Fin 6144) : Fin 128 := ⟨16 * u.val + l.val / 384, by have := u.isLt; have := l.isLt; omega⟩
def feat (l : Fin 6144) : Fin 384 := ⟨l.val % 384, by omega⟩

/-- The transform's real and imaginary parts, sixteen residues to a group. -/
def GR (qa qb : Vec Ideal S4x16384x384 .f32) (C S : Vec Ideal S64x64 .f32) : Vec Ideal S4x8x64x6144 .f32 := fun y =>
  against C qa (y 0) (y 2) (res (y 1) (y 3)) (feat (y 3)) - against S qb (y 0) (y 2) (res (y 1) (y 3)) (feat (y 3))

def GI (qa qb : Vec Ideal S4x16384x384 .f32) (C S : Vec Ideal S64x64 .f32) : Vec Ideal S4x8x64x6144 .f32 := fun y =>
  against C qb (y 0) (y 2) (res (y 1) (y 3)) (feat (y 3)) + against S qa (y 0) (y 2) (res (y 1) (y 3)) (feat (y 3))

end Cert.Series

namespace Cert.Kernel2Ideal.Stage

open Cert.Kernel2Ideal Cert.Kernel2Ideal.Gen Cert.Series

theorem payR (P0 P1 : Vec Ideal S1x64x6144 .f32) (C S : Vec Ideal S64x64 .f32) (u v : Fin 1) (k : Fin 64) (l : Fin 6144) :
    k0_pay3 P0 P1 C S (ix4 u v k l) = (∑ n : Fin 64, C (ix2 k n) * P0 (ix3 0 n l)) - ∑ n : Fin 64, S (ix2 k n) * P1 (ix3 0 n l) := by
  pointwise [k0_pay3, k0_pay1, k0_pay2]

theorem payI (P0 P1 : Vec Ideal S1x64x6144 .f32) (C S : Vec Ideal S64x64 .f32) (u v : Fin 1) (k : Fin 64) (l : Fin 6144) :
    k0_pay4 P0 P1 C S (ix4 u v k l) = (∑ n : Fin 64, C (ix2 k n) * P1 (ix3 0 n l)) + ∑ n : Fin 64, S (ix2 k n) * P0 (ix3 0 n l) := by
  pointwise [k0_pay4, k0_pay1, k0_pay2]

variable (m : (ℓ : Loc nD τ sig) → Buf (Elt Ideal) ℓ)

abbrev QA (c : Dev nD) : Vec Ideal S4x16384x384 .f32 := m ((c : Thread nD τ).loc main_arg0)
abbrev QB (c : Dev nD) : Vec Ideal S4x16384x384 .f32 := m ((c : Thread nD τ).loc main_arg1)
abbrev Co (c : Dev nD) : Vec Ideal S64x64 .f32 := m ((c : Thread nD τ).loc main_arg2)
abbrev Si (c : Dev nD) : Vec Ideal S64x64 .f32 := m ((c : Thread nD τ).loc main_arg3)

theorem V_a (c : Dev nD) : V m c main_v0 = shapeCast S4x128x49152 (QA m c) shapeCasts_S4x16384x384_S4x128x49152 := by
  show StableHlo.after hostOps0 (fun b => m (c, b)) main_v0 = _
  after_results
  rfl

theorem V_b (c : Dev nD) : V m c main_v1 = shapeCast S4x128x49152 (QB m c) shapeCasts_S4x16384x384_S4x128x49152 := by
  show StableHlo.after hostOps0 (fun b => m (c, b)) main_v1 = _
  after_results
  rfl

/-- A row of the reshaped half holds 128 consecutive times. -/
theorem cast_apply (q : Vec Ideal S4x16384x384 .f32) (g : Fin 4) (n : Fin 128) (e : Fin 49152) :
    shapeCast S4x128x49152 q shapeCasts_S4x16384x384_S4x128x49152 (ix3 g n e)
      = q (ix3 g ⟨128 * n.val + e.val / 384, by have := n.isLt; have := e.isLt; omega⟩ ⟨e.val % 384, by omega⟩) := by
  pointwise
  congr 2 <;> apply Fin.ext <;> simp only [] <;> omega

theorem idx_facts : ∀ t : Fin cfg0.N,
    win0_0.index t 0 = t.val / 8 ∧ win0_0.index t 1 = 0 ∧ win0_0.index t 2 = t.val % 8
    ∧ win0_1.index t 0 = t.val / 8 ∧ win0_1.index t 1 = 0 ∧ win0_1.index t 2 = t.val % 8
    ∧ win0_2.index t 0 = 0 ∧ win0_2.index t 1 = 0 ∧ win0_3.index t 0 = 0 ∧ win0_3.index t 1 = 0
    ∧ win0_4.index t 0 = t.val / 8 ∧ win0_4.index t 1 = t.val % 8 ∧ win0_4.index t 2 = 0 ∧ win0_4.index t 3 = 0
    ∧ win0_5.index t 0 = t.val / 8 ∧ win0_5.index t 1 = t.val % 8 ∧ win0_5.index t 2 = 0 ∧ win0_5.index t 3 = 0 :=
  (by decide +kernel : ∀ t : Fin grid0.N,
    win0_0.index t 0 = t.val / 8 ∧ win0_0.index t 1 = 0 ∧ win0_0.index t 2 = t.val % 8
    ∧ win0_1.index t 0 = t.val / 8 ∧ win0_1.index t 1 = 0 ∧ win0_1.index t 2 = t.val % 8
    ∧ win0_2.index t 0 = 0 ∧ win0_2.index t 1 = 0 ∧ win0_3.index t 0 = 0 ∧ win0_3.index t 1 = 0
    ∧ win0_4.index t 0 = t.val / 8 ∧ win0_4.index t 1 = t.val % 8 ∧ win0_4.index t 2 = 0 ∧ win0_4.index t 3 = 0
    ∧ win0_5.index t 0 = t.val / 8 ∧ win0_5.index t 1 = t.val % 8 ∧ win0_5.index t 2 = 0 ∧ win0_5.index t 3 = 0)

theorem lt32 (t : Fin cfg0.N) : t.val < 32 := lt_of_lt_of_eq t.isLt N_0

def bt (t : Fin cfg0.N) : Fin 4 := ⟨t.val / 8, by have := lt32 t; omega⟩
def gr (t : Fin cfg0.N) : Fin 8 := ⟨t.val % 8, by omega⟩

theorem read_a (U : (c : Dev nD) → (b : Ref sig .tc) → Buf (Elt Ideal) ((c : Thread nD τ).loc b)) (c : Dev nD) (t : Fin cfg0.N) (y : S1x64x6144.Idx) :
    ((cfg0.win 0).blk t).view.read (Elt Ideal) (U c (Pipeline.arrRef spec0 0)) y = (U c main_v0 : Vec Ideal S4x128x49152 .f32) ((win0_0.rect t).idx y) := rfl

theorem blk_a (c : Dev nD) (t : Fin cfg0.N) (n : Fin 64) (l : Fin 6144) :
    iblk m c 0 t (ix3 0 n l) = sample (QA m c) (bt t) (res (gr t) l) (feat l) n := by
  obtain ⟨h0, h1, h2, -⟩ := idx_facts t
  have hn := n.isLt
  have hl := l.isLt
  have e : iblk m c 0 t (ix3 0 n l) = (V m c main_v0 : Vec Ideal S4x128x49152 .f32)
      (ix3 (bt t) ⟨n.val, by omega⟩ ⟨6144 * (t.val % 8) + l.val, by omega⟩) := by
    refine (read_a (V m) c t _).trans (congrArg (V m c main_v0 : Vec Ideal S4x128x49152 .f32) (funext fun a => Fin.ext ?_))
    match a with
    | ⟨0, _⟩ => show win0_0.index t 0 * 1 + 1 * 0 = t.val / 8; omega
    | ⟨1, _⟩ => show win0_0.index t 1 * 64 + 1 * n.val = n.val; omega
    | ⟨2, _⟩ => show win0_0.index t 2 * 6144 + 1 * l.val = 6144 * (t.val % 8) + l.val; omega
  refine e.trans ((congrFun (V_a m c) _).trans ((cast_apply _ _ _ _).trans (congrArg (QA m c) (funext fun a => Fin.ext ?_))))
  match a with
  | ⟨0, _⟩ => rfl
  | ⟨1, _⟩ => show 128 * n.val + (6144 * (t.val % 8) + l.val) / 384 = 128 * n.val + (16 * (t.val % 8) + l.val / 384); omega
  | ⟨2, _⟩ => show (6144 * (t.val % 8) + l.val) % 384 = l.val % 384; omega

theorem read_b (U : (c : Dev nD) → (b : Ref sig .tc) → Buf (Elt Ideal) ((c : Thread nD τ).loc b)) (c : Dev nD) (t : Fin cfg0.N) (y : S1x64x6144.Idx) :
    ((cfg0.win 1).blk t).view.read (Elt Ideal) (U c (Pipeline.arrRef spec0 1)) y = (U c main_v1 : Vec Ideal S4x128x49152 .f32) ((win0_1.rect t).idx y) := rfl

theorem blk_b (c : Dev nD) (t : Fin cfg0.N) (n : Fin 64) (l : Fin 6144) :
    iblk m c 1 t (ix3 0 n l) = sample (QB m c) (bt t) (res (gr t) l) (feat l) n := by
  obtain ⟨-, -, -, h0, h1, h2, -⟩ := idx_facts t
  have hn := n.isLt
  have hl := l.isLt
  have e : iblk m c 1 t (ix3 0 n l) = (V m c main_v1 : Vec Ideal S4x128x49152 .f32)
      (ix3 (bt t) ⟨n.val, by omega⟩ ⟨6144 * (t.val % 8) + l.val, by omega⟩) := by
    refine (read_b (V m) c t _).trans (congrArg (V m c main_v1 : Vec Ideal S4x128x49152 .f32) (funext fun a => Fin.ext ?_))
    match a with
    | ⟨0, _⟩ => show win0_1.index t 0 * 1 + 1 * 0 = t.val / 8; omega
    | ⟨1, _⟩ => show win0_1.index t 1 * 64 + 1 * n.val = n.val; omega
    | ⟨2, _⟩ => show win0_1.index t 2 * 6144 + 1 * l.val = 6144 * (t.val % 8) + l.val; omega
  refine e.trans ((congrFun (V_b m c) _).trans ((cast_apply _ _ _ _).trans (congrArg (QB m c) (funext fun a => Fin.ext ?_))))
  match a with
  | ⟨0, _⟩ => rfl
  | ⟨1, _⟩ => show 128 * n.val + (6144 * (t.val % 8) + l.val) / 384 = 128 * n.val + (16 * (t.val % 8) + l.val / 384); omega
  | ⟨2, _⟩ => show (6144 * (t.val % 8) + l.val) % 384 = l.val % 384; omega

theorem blk_c (c : Dev nD) (t : Fin cfg0.N) (y : S64x64.Idx) : iblk m c 2 t y = Co m c y := by
  obtain ⟨-, -, -, -, -, -, h0, h1, -⟩ := idx_facts t
  have e : iblk m c 2 t y = (V m c main_arg2 : Vec Ideal S64x64 .f32) y := by
    show (V m c main_arg2 : Vec Ideal S64x64 .f32) ((win0_2.rect t).idx y) = _
    refine congrArg (V m c main_arg2 : Vec Ideal S64x64 .f32) (funext fun a => Fin.ext ?_)
    match a with
    | ⟨0, _⟩ => show win0_2.index t 0 * 64 + 1 * (y 0).val = (y 0).val; omega
    | ⟨1, _⟩ => show win0_2.index t 1 * 64 + 1 * (y 1).val = (y 1).val; omega
  exact e.trans (congrFun (V_main_arg2 m c) y)

theorem blk_s (c : Dev nD) (t : Fin cfg0.N) (y : S64x64.Idx) : iblk m c 3 t y = Si m c y := by
  obtain ⟨-, -, -, -, -, -, -, -, h0, h1, -⟩ := idx_facts t
  have e : iblk m c 3 t y = (V m c main_arg3 : Vec Ideal S64x64 .f32) y := by
    show (V m c main_arg3 : Vec Ideal S64x64 .f32) ((win0_3.rect t).idx y) = _
    refine congrArg (V m c main_arg3 : Vec Ideal S64x64 .f32) (funext fun a => Fin.ext ?_)
    match a with
    | ⟨0, _⟩ => show win0_3.index t 0 * 64 + 1 * (y 0).val = (y 0).val; omega
    | ⟨1, _⟩ => show win0_3.index t 1 * 64 + 1 * (y 1).val = (y 1).val; omega
  exact e.trans (congrFun (V_main_arg3 m c) y)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- What point `t` leaves in output 4's buffer. -/
theorem valueR (c : Dev nD) (t : Fin cfg0.N) (u v : Fin 1) (k : Fin 64) (l : Fin 6144) :
    k0_pay3 (iblk m c 0 t) (iblk m c 1 t) (iblk m c 2 t) (iblk m c 3 t) (ix4 u v k l)
      = GR (QA m c) (QB m c) (Co m c) (Si m c) (ix4 (bt t) (gr t) k l) := by
  refine (payR (iblk m c 0 t) (iblk m c 1 t) (iblk m c 2 t) (iblk m c 3 t) u v k l).trans ?_
  simp only [blk_a m c t, blk_b m c t, blk_c m c t, blk_s m c t]
  rfl

theorem blockR (c : Dev nD) (t : Fin cfg0.N) (y : S1x1x64x6144.Idx) :
    out0_4 (iblk m c 0 t) (iblk m c 1 t) (iblk m c 2 t) (iblk m c 3 t) y
      = GR (QA m c) (QB m c) (Co m c) (Si m c) ((win0_4.rect t).idx y) := by
  obtain ⟨-, -, -, -, -, -, -, -, -, -, h0, h1, h2, h3, -⟩ := idx_facts t
  unfold out0_4
  rw [View.ld_unit_zero hz3, View.ld_unit_zero hz3, View.ld_unit_zero hz2, View.ld_unit_zero hz2, View.canon_unit_zero hz4]
  have y0 : (y 0).val < 1 := (y 0).isLt
  have y1 : (y 1).val < 1 := (y 1).isLt
  refine (congrArg _ (eq_ix4 y)).trans ((valueR m c t (y 0) (y 1) (y 2) (y 3)).trans (congrArg (GR (QA m c) (QB m c) (Co m c) (Si m c)) (funext fun a => Fin.ext ?_)))
  match a with
  | ⟨0, _⟩ => show t.val / 8 = win0_4.index t 0 * 1 + 1 * (y 0).val; omega
  | ⟨1, _⟩ => show t.val % 8 = win0_4.index t 1 * 1 + 1 * (y 1).val; omega
  | ⟨2, _⟩ => show (y 2).val = win0_4.index t 2 * 64 + 1 * (y 2).val; omega
  | ⟨3, _⟩ => show (y 3).val = win0_4.index t 3 * 6144 + 1 * (y 3).val; omega

theorem flushedR (c : Dev nD) (t : Fin cfg0.N) :
    (dats m 0 c).flushed 4 t = (win0_4.blk t).view.read (Elt Ideal) (GR (QA m c) (QB m c) (Co m c) (Si m c)) := by
  rw [Value.flushed4]
  funext y
  exact blockR m c t y

/-- What point `t` leaves in output 5's buffer. -/
theorem valueI (c : Dev nD) (t : Fin cfg0.N) (u v : Fin 1) (k : Fin 64) (l : Fin 6144) :
    k0_pay4 (iblk m c 0 t) (iblk m c 1 t) (iblk m c 2 t) (iblk m c 3 t) (ix4 u v k l)
      = GI (QA m c) (QB m c) (Co m c) (Si m c) (ix4 (bt t) (gr t) k l) := by
  refine (payI (iblk m c 0 t) (iblk m c 1 t) (iblk m c 2 t) (iblk m c 3 t) u v k l).trans ?_
  simp only [blk_a m c t, blk_b m c t, blk_c m c t, blk_s m c t]
  rfl

theorem blockI (c : Dev nD) (t : Fin cfg0.N) (y : S1x1x64x6144.Idx) :
    out0_5 (iblk m c 0 t) (iblk m c 1 t) (iblk m c 2 t) (iblk m c 3 t) y
      = GI (QA m c) (QB m c) (Co m c) (Si m c) ((win0_5.rect t).idx y) := by
  obtain ⟨-, -, -, -, -, -, -, -, -, -, -, -, -, -, h0, h1, h2, h3⟩ := idx_facts t
  unfold out0_5
  rw [View.ld_unit_zero hz3, View.ld_unit_zero hz3, View.ld_unit_zero hz2, View.ld_unit_zero hz2, View.canon_unit_zero hz4]
  have y0 : (y 0).val < 1 := (y 0).isLt
  have y1 : (y 1).val < 1 := (y 1).isLt
  refine (congrArg _ (eq_ix4 y)).trans ((valueI m c t (y 0) (y 1) (y 2) (y 3)).trans (congrArg (GI (QA m c) (QB m c) (Co m c) (Si m c)) (funext fun a => Fin.ext ?_)))
  match a with
  | ⟨0, _⟩ => show t.val / 8 = win0_5.index t 0 * 1 + 1 * (y 0).val; omega
  | ⟨1, _⟩ => show t.val % 8 = win0_5.index t 1 * 1 + 1 * (y 1).val; omega
  | ⟨2, _⟩ => show (y 2).val = win0_5.index t 2 * 64 + 1 * (y 2).val; omega
  | ⟨3, _⟩ => show (y 3).val = win0_5.index t 3 * 6144 + 1 * (y 3).val; omega

theorem flushedI (c : Dev nD) (t : Fin cfg0.N) :
    (dats m 0 c).flushed 5 t = (win0_5.blk t).view.read (Elt Ideal) (GI (QA m c) (QB m c) (Co m c) (Si m c)) := by
  rw [Value.flushed5]
  funext y
  exact blockI m c t y

/-- The point whose block holds a given batch entry and group. -/
def pt (i : S4x8x64x6144.Idx) : Fin cfg0.N :=
  ⟨8 * (i 0).val + (i 1).val, by
    have h0 : (i 0).val < 4 := (i 0).isLt
    have h1 : (i 1).val < 8 := (i 1).isLt
    have hN : cfg0.N = 32 := N_0
    omega⟩

theorem coverR (i : S4x8x64x6144.Idx) : i ∈ ((cfg0.win 4).blk (pt i)).view.set := by
  obtain ⟨-, -, -, -, -, -, -, -, -, -, e0, e1, e2, e3, -⟩ := idx_facts (pt i)
  have h0 : (i 0).val < 4 := (i 0).isLt
  have h1 : (i 1).val < 8 := (i 1).isLt
  have h2 : (i 2).val < 64 := (i 2).isLt
  have h3 : (i 3).val < 6144 := (i 3).isLt
  have hp : (pt i).val = 8 * (i 0).val + (i 1).val := rfl
  show i ∈ ((View.whole main_v2_0).slice (win0_4.rect (pt i))).set
  rw [View.set_slice_whole, Rect.mem_set_unit]
  intro a
  match a with
  | ⟨0, _⟩ => show win0_4.index (pt i) 0 * 1 ≤ (i 0).val ∧ (i 0).val < win0_4.index (pt i) 0 * 1 + 1; omega
  | ⟨1, _⟩ => show win0_4.index (pt i) 1 * 1 ≤ (i 1).val ∧ (i 1).val < win0_4.index (pt i) 1 * 1 + 1; omega
  | ⟨2, _⟩ => show win0_4.index (pt i) 2 * 64 ≤ (i 2).val ∧ (i 2).val < win0_4.index (pt i) 2 * 64 + 64; omega
  | ⟨3, _⟩ => show win0_4.index (pt i) 3 * 6144 ≤ (i 3).val ∧ (i 3).val < win0_4.index (pt i) 3 * 6144 + 6144; omega

theorem finalR (c : Dev nD) : (dats m 0 c).arrAt 4 cfg0.N = GR (QA m c) (QB m c) (Co m c) (Si m c) :=
  (dats m 0 c).arrAt_eq_of_cover 4 (GR (QA m c) (QB m c) (Co m c) (Si m c)) (fun t _ => flushedR m c t)
    fun i => ⟨pt i, flush0_4 _, coverR i⟩

theorem coverI (i : S4x8x64x6144.Idx) : i ∈ ((cfg0.win 5).blk (pt i)).view.set := by
  obtain ⟨-, -, -, -, -, -, -, -, -, -, -, -, -, -, e0, e1, e2, e3⟩ := idx_facts (pt i)
  have h0 : (i 0).val < 4 := (i 0).isLt
  have h1 : (i 1).val < 8 := (i 1).isLt
  have h2 : (i 2).val < 64 := (i 2).isLt
  have h3 : (i 3).val < 6144 := (i 3).isLt
  have hp : (pt i).val = 8 * (i 0).val + (i 1).val := rfl
  show i ∈ ((View.whole main_v2_1).slice (win0_5.rect (pt i))).set
  rw [View.set_slice_whole, Rect.mem_set_unit]
  intro a
  match a with
  | ⟨0, _⟩ => show win0_5.index (pt i) 0 * 1 ≤ (i 0).val ∧ (i 0).val < win0_5.index (pt i) 0 * 1 + 1; omega
  | ⟨1, _⟩ => show win0_5.index (pt i) 1 * 1 ≤ (i 1).val ∧ (i 1).val < win0_5.index (pt i) 1 * 1 + 1; omega
  | ⟨2, _⟩ => show win0_5.index (pt i) 2 * 64 ≤ (i 2).val ∧ (i 2).val < win0_5.index (pt i) 2 * 64 + 64; omega
  | ⟨3, _⟩ => show win0_5.index (pt i) 3 * 6144 ≤ (i 3).val ∧ (i 3).val < win0_5.index (pt i) 3 * 6144 + 6144; omega

theorem finalI (c : Dev nD) : (dats m 0 c).arrAt 5 cfg0.N = GI (QA m c) (QB m c) (Co m c) (Si m c) :=
  (dats m 0 c).arrAt_eq_of_cover 5 (GI (QA m c) (QB m c) (Co m c) (Si m c)) (fun t _ => flushedI m c t)
    fun i => ⟨pt i, flush0_5 _, coverI i⟩

end Cert.Kernel2Ideal.Stage

end
-- ==== Proof.Stage1Reference.lean ====
/-
  The reference of the transform's first stage, read element by element: the same 64-point transforms.
-/
module

public import proofs.«01_k».proof.Defs
public import proofs.«01_k».proof.Proof.Stage1
public import proofs.«01_k».proof.Proof.Gen.Reference2Ideal.Run
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference2Ideal.Stage

open Cert.Reference2Ideal Cert.Reference2Ideal.Gen Cert.Series

variable (qa qb : Vec Ideal S4x16384x384 .f32) (C S : Vec Ideal S64x64 .f32)

/-- One half's samples, by their time's quotient and residue by 128. -/
def series (q : Vec Ideal S4x16384x384 .f32) : Vec Ideal S4x64x128x384 .f32 :=
  shapeCast (α := Elt Ideal .f32) S4x64x128x384 (extractStridedSlice S4x8192x384 ![0, 0, 0] q slices_S4x16384x384_S4x8192x384_0_0_0) shapeCasts_S4x8192x384_S4x64x128x384

theorem series_apply (q : Vec Ideal S4x16384x384 .f32) (g : Fin 4) (n : Fin 64) (p : Fin 128) (d : Fin 384) :
    series q (ix4 g n p d) = sample q g p d n := by
  pointwise [series]
  unfold sample
  congr 2 <;> apply Fin.ext <;> simp only [] <;> omega

/-- A table against one half. -/
def prod (C : Vec Ideal S64x64 .f32) (q : Vec Ideal S4x16384x384 .f32) : Vec Ideal S4x64x128x384 .f32 :=
  transpose (α := Elt Ideal .f32) S4x64x128x384 [0, 3, 1, 2] (Host.dotGeneral (F := Ideal) (φ₁ := .f32) (φ₂ := .f32) dot_S4x64x128x384_S64x64_S4x128x384x64_1_1_023_0_n_n none (series q) C) transposes_S4x128x384x64_S4x64x128x384_0_3_1_2

theorem prod_apply (q : Vec Ideal S4x16384x384 .f32) (g : Fin 4) (k : Fin 64) (p : Fin 128) (d : Fin 384) :
    prod C q (ix4 g k p d) = against C q g k p d := by
  pointwise [prod]
  unfold against
  refine Finset.sum_congr rfl fun n _ => ?_
  rw [series_apply, mul_comm]

/-- Sixteen residues to a group, the groups first. -/
def laid (z : Vec Ideal S4x64x128x384 .f32) : Vec Ideal S4x8x64x6144 .f32 :=
  transpose (α := Elt Ideal .f32) S4x8x64x6144 [0, 2, 1, 3] (shapeCast (α := Elt Ideal .f32) S4x64x8x6144 z shapeCasts_S4x64x128x384_S4x64x8x6144) transposes_S4x64x8x6144_S4x8x64x6144_0_2_1_3

theorem laid_apply (z : Vec Ideal S4x64x128x384 .f32) (g : Fin 4) (u : Fin 8) (k : Fin 64) (l : Fin 6144) :
    laid z (ix4 g u k l) = z (ix4 g k (res u l) (feat l)) := by
  pointwise [laid]
  unfold res feat
  congr 2 <;> apply Fin.ext <;> simp only [] <;> omega

theorem resR : laid (subf (F := Ideal) (s := S4x64x128x384) (φ := .f32) (prod C qa) (prod S qb)) = GR qa qb C S := by
  funext y
  refine (congrArg _ (eq_ix4 y)).trans ((laid_apply _ (y 0) (y 1) (y 2) (y 3)).trans ?_)
  exact congrArg₂ (fun u v : EReal => u - v) (prod_apply C qa (y 0) (y 2) (res (y 1) (y 3)) (feat (y 3))) (prod_apply S qb (y 0) (y 2) (res (y 1) (y 3)) (feat (y 3)))

theorem resI : laid (addf (F := Ideal) (s := S4x64x128x384) (φ := .f32) (prod C qb) (prod S qa)) = GI qa qb C S := by
  funext y
  refine (congrArg _ (eq_ix4 y)).trans ((laid_apply _ (y 0) (y 1) (y 2) (y 3)).trans ?_)
  exact congrArg₂ (fun u v : EReal => u + v) (prod_apply C qb (y 0) (y 2) (res (y 1) (y 3)) (feat (y 3))) (prod_apply S qa (y 0) (y 2) (res (y 1) (y 3)) (feat (y 3)))

end Cert.Reference2Ideal.Stage

end
-- ==== Proof.Stage2RunIdeal.lean ====
/-
  The second stage's run: each grid point fills two of the sixty-four rows of one batch entry's powers, the buffer keeping the
  rows of the points before, and the last point of a batch entry writes the buffer back full.
-/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.Frame
public import Idealize.ShloMosaic.Lib.Pipeline.DatRel
public import Idealize.ShloMosaic.Lib.Pipeline.ArrRel
public import Idealize.ShloMosaic.Lib.Pipeline.Kit
public import Idealize.ShloMosaic.Lib.Claim
public import Idealize.ShloMosaic.Lib.Exec
public import Idealize.ShloMosaic.Lib.Ring
public import Idealize.ShloMosaic.Lib.Tactic
public import Idealize.ShloMosaic.Lib.WordCmp
public import Idealize.ShloMosaic.Lib.WritesUnit
public import Idealize.ShloMosaic.Lib.Pointwise

@[expose] public section

set_option maxRecDepth 16384

noncomputable section

namespace Cert.Kernel3Ideal.Power

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

/-! ## The two rows of a point -/

abbrev xa : Rect S1x8x2x16x384 := Rect.unit (s := S1x8x2x16x384) ![0, 0, 0, 0, 0] S1x8x1x16x384.size inb_S1x8x2x16x384_S1x8x1x16x384_0_0_0_0_0
abbrev xb : Rect S1x8x2x16x384 := Rect.unit (s := S1x8x2x16x384) ![0, 0, 1, 0, 0] S1x8x1x16x384.size inb_S1x8x2x16x384_S1x8x1x16x384_0_0_1_0_0
abbrev wa : Rect S1x2x128x1 := Rect.unit (s := S1x2x128x1) ![0, 0, 0, 0] S1x1x128x1.size inb_S1x2x128x1_S1x1x128x1_0_0_0_0
abbrev wb : Rect S1x2x128x1 := Rect.unit (s := S1x2x128x1) ![0, 1, 0, 0] S1x1x128x1.size inb_S1x2x128x1_S1x1x128x1_0_1_0_0
abbrev tt : Rect S128x128 := Rect.unit (s := S128x128) ![0, 0] S128x128.size inb_S128x128_S128x128_0_0

/-- The even row, from the six input blocks. -/
def even (x0 x1 : Vec F S1x8x2x16x384 .f32) (x2 x3 : Vec F S1x2x128x1 .f32) (x4 x5 : Vec F S128x128 .f32) : Vec F S1x1x128 .f32 :=
  k0_pay10 (k0_pay6 (View.ld x0 xa) (View.ld x1 xa) (View.ld x2 wa) (View.ld x3 wa))
    (k0_pay8 (View.ld x0 xa) (View.ld x1 xa) (View.ld x2 wa) (View.ld x3 wa) (View.ld x4 tt) (View.ld x5 tt))
    (k0_pay9 (View.ld x0 xa) (View.ld x1 xa) (View.ld x2 wa) (View.ld x3 wa) (View.ld x4 tt)) (View.ld x5 tt) (constant S128x384 .f32 0x00000000#32)

/-- The odd row. -/
def odd (x0 x1 : Vec F S1x8x2x16x384 .f32) (x2 x3 : Vec F S1x2x128x1 .f32) (x4 x5 : Vec F S128x128 .f32) : Vec F S1x1x128 .f32 :=
  k0_pay1 (k0_pay15 (View.ld x0 xb) (View.ld x1 xb) (View.ld x2 wb) (View.ld x3 wb))
    (k0_pay16 (View.ld x0 xb) (View.ld x1 xb) (View.ld x2 wb) (View.ld x3 wb)) (View.ld x4 tt) (constant S128x384 .f32 0x00000000#32) (View.ld x5 tt)
    (View.ld x4 tt) (View.ld x5 tt)

/-- A buffer whose rows `2 g` and `2 g + 1` are replaced. -/
def filled (g : ℕ) (p q : Vec F S1x1x128 .f32) (d : Vec F S1x64x128 .f32) : Vec F S1x64x128 .f32 := fun y =>
  if (y 1).val = 2 * g + 1 then q (ix3 0 0 (y 2)) else if (y 1).val = 2 * g then p (ix3 0 0 (y 2)) else d y

/-- Two stores of one row each, read back. -/
theorem read_two {v : View sig .tc .vmem S1x64x128 .f32} (f : v.ref.ty.Contents (Elt F)) (g : ℕ) (p q : Vec F S1x1x128 .f32)
    (o0 o1 : Fin 3 → ℕ) (h0 : ∀ a, o0 a + S1x1x128.size a ≤ S1x64x128.size a) (h1 : ∀ a, o1 a + S1x1x128.size a ≤ S1x64x128.size a)
    (e0 : o0 = ![0, 2 * g, 0]) (e1 : o1 = ![0, 2 * g + 1, 0]) (y : S1x64x128.Idx) :
    v.read (Elt F) (v.writes (Elt F) f
      [⟨Rect.unit (s := S1x64x128) o1 S1x1x128.size h1, q⟩, ⟨Rect.unit (s := S1x64x128) o0 S1x1x128.size h0, p⟩]) y
      = filled g p q (v.read (Elt F) f) y := by
  have y0 : (y 0).val < 1 := (y 0).isLt
  unfold filled
  by_cases h : (y 1).val = 2 * g + 1
  · rw [if_pos h]
    refine View.read_writes_cons_unit_of_mem v f h1 q _ y (ix3 0 0 (y 2)) e1 fun a => ?_
    match a with
    | ⟨0, _⟩ => show (y 0).val = 0 + 0; omega
    | ⟨1, _⟩ => show (y 1).val = 2 * g + 1 + 0; omega
    | ⟨2, _⟩ => show (y 2).val = 0 + (y 2).val; omega
  · rw [if_neg h, View.read_writes_cons_unit_of_not_mem v f h1 q _ y e1 ⟨1, by decide⟩ (by
      show (y 1).val < 2 * g + 1 ∨ 2 * g + 1 + 1 ≤ (y 1).val
      omega)]
    by_cases h' : (y 1).val = 2 * g
    · rw [if_pos h']
      refine View.read_writes_cons_unit_of_mem v f h0 p _ y (ix3 0 0 (y 2)) e0 fun a => ?_
      match a with
      | ⟨0, _⟩ => show (y 0).val = 0 + 0; omega
      | ⟨1, _⟩ => show (y 1).val = 2 * g + 0; omega
      | ⟨2, _⟩ => show (y 2).val = 0 + (y 2).val; omega
    · rw [if_neg h', View.read_writes_cons_unit_of_not_mem v f h0 p _ y e0 ⟨1, by decide⟩ (by
        show (y 1).val < 2 * g ∨ 2 * g + 1 ≤ (y 1).val
        omega)]
      rfl

theorem read_filled {v : View sig .tc .vmem S1x64x128 .f32} (f : v.ref.ty.Contents (Elt F)) (i : grid0.Coords) (p q : Vec F S1x1x128 .f32) :
    v.read (Elt F) (v.writes (Elt F) f
      [⟨Rect.unit (s := S1x64x128) (k0_off1 i 1#32) S1x1x128.size (k0_off1_inb i 1), q⟩,
       ⟨Rect.unit (s := S1x64x128) (k0_off1 i 0#32) S1x1x128.size (k0_off1_inb i 0), p⟩])
      = filled (i 1).val p q (v.read (Elt F) f) :=
  funext fun y => read_two f (i 1).val p q (k0_off1 i 0#32) (k0_off1 i 1#32) (k0_off1_inb i 0) (k0_off1_inb i 1)
    (k0_off1_eq i ⟨0, by decide⟩) (k0_off1_eq i ⟨1, by decide⟩) y

set_option maxHeartbeats 2000000 in
/-- The body leaves its inputs and replaces its two rows. -/
theorem sound_kernel (c : Dev nD) (E : Set ℕ) (i : grid0.Coords) (arg2 : Memref sig .tc .vmem S1x8x2x16x384 .f32) (harg2 : arg2.IsWhole)
    (arg3 : Memref sig .tc .vmem S1x8x2x16x384 .f32) (harg3 : arg3.IsWhole) (arg4 : Memref sig .tc .vmem S1x2x128x1 .f32) (harg4 : arg4.IsWhole)
    (arg5 : Memref sig .tc .vmem S1x2x128x1 .f32) (harg5 : arg5.IsWhole) (arg6 : Memref sig .tc .vmem S128x128 .f32) (harg6 : arg6.IsWhole)
    (arg7 : Memref sig .tc .vmem S128x128 .f32) (harg7 : arg7.IsWhole) (arg8 : Memref sig .tc .vmem S1x64x128 .f32) (harg8 : arg8.IsWhole)
    (x0 x1 : Vec F S1x8x2x16x384 .f32) (x2 x3 : Vec F S1x2x128x1 .f32) (x4 x5 : Vec F S128x128 .f32) (d : Vec F S1x64x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare d
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (filled (i 1).val (even x0 x1 x2 x3 x4 x5) (odd x0 x1 x2 x3 x4 x5) d)) -∗ K ⟨⟩))
      ⊢ wp frame (wpE (defs₀ (F := F)) Variants.none c none) E
          (cc0__fft2_body i arg2 harg2 arg3 harg3 arg4 harg4 arg5 harg5 arg6 harg6 arg7 harg7 arg8 harg8) K := by
  simp only [cc0__fft2_body_eq_skeleton]; unfold cc0__fft2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact read_filled f6 i _ _

/-! ## The launch -/

variable (m : (ℓ : Loc nD τ sig) → Buf (Elt F) ℓ) (ρ : Dev nD → PrngReg)

/-- What each buffer holds where the grid starts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall,
      StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall,
      StableHlo.reshape_writes, Finset.mem_singleton]
    repeat' apply And.intro
    all_goals exact StableHlo.devRef_ne_of_ne (by decide)))

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem found0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem found5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem coords_facts : ∀ t : Fin cfg0.N, (grid0.coords t 0).val = t.val / 32 ∧ (grid0.coords t 1).val = t.val % 32 :=
  (by decide +kernel : ∀ t : Fin grid0.N, (grid0.coords t 0).val = t.val / 32 ∧ (grid0.coords t 1).val = t.val % 32)

theorem lt128 (t : Fin cfg0.N) : t.val < 128 := lt_of_lt_of_eq t.isLt N_0

/-- The two rows of a point. -/
def evenAt (c : Dev nD) (t : Fin cfg0.N) : Vec F S1x1x128 .f32 :=
  even (iblk m c 0 t) (iblk m c 1 t) (iblk m c 2 t) (iblk m c 3 t) (iblk m c 4 t) (iblk m c 5 t)

def oddAt (c : Dev nD) (t : Fin cfg0.N) : Vec F S1x1x128 .f32 :=
  odd (iblk m c 0 t) (iblk m c 1 t) (iblk m c 2 t) (iblk m c 3 t) (iblk m c 4 t) (iblk m c 5 t)

/-- The point that fills row `r` of batch entry `b`. -/
def pt (b r : ℕ) : Fin cfg0.N := ⟨(32 * b + r / 2) % 128, lt_of_lt_of_eq (Nat.mod_lt _ (by decide)) N_0.symm⟩

/-- The powers of batch entry `b`, row by row. -/
def powers (c : Dev nD) (b : ℕ) : Vec F S1x64x128 .f32 := fun y =>
  if (y 1).val % 2 = 1 then oddAt m c (pt b (y 1).val) (ix3 0 0 (y 2)) else evenAt m c (pt b (y 1).val) (ix3 0 0 (y 2))

/-- After point `t` the rows up to that point's are those of its batch entry. -/
def Holds (c : Dev nD) (t : ℕ) (X : Vec F S1x64x128 .f32) : Prop :=
  ∀ y : S1x64x128.Idx, (y 1).val < 2 * (t % 32) + 2 → X y = powers m c (t / 32) y

/-- One point's rows keep it so. -/
theorem holds_step (c : Dev nD) (t : Fin cfg0.N) (d : Vec F S1x64x128 .f32) (hd : t.val % 32 ≠ 0 → Holds m c (t.val - 1) d) :
    Holds m c t.val (filled (grid0.coords t 1).val (evenAt m c t) (oddAt m c t) d) := by
  intro y hy
  have ht := lt128 t
  rw [(coords_facts t).2]
  unfold filled powers
  have hp : 2 * (t.val % 32) ≤ (y 1).val → pt (t.val / 32) (y 1).val = t := fun h => Fin.ext (by
    show (32 * (t.val / 32) + (y 1).val / 2) % 128 = t.val
    omega)
  by_cases h : (y 1).val = 2 * (t.val % 32) + 1
  · rw [if_pos h, if_pos (by omega), hp (by omega)]
  · rw [if_neg h]
    by_cases h' : (y 1).val = 2 * (t.val % 32)
    · rw [if_pos h', if_neg (by omega), hp (by omega)]
    · rw [if_neg h']
      have hz : t.val % 32 ≠ 0 := by omega
      have e := hd hz y (by omega)
      rw [show (t.val - 1) / 32 = t.val / 32 by omega] at e
      exact e

/-! ## The grid's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => powers m c (t.val / 32)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem before0 (c : Dev nD) (t : Fin cfg0.N) (d) : (dats m 0 c).before 0 t d = iblk m c 0 t := found0 m (dats m 0 c) (A_eq m c 0) (after0 m c) t d
theorem before1 (c : Dev nD) (t : Fin cfg0.N) (d) : (dats m 0 c).before 1 t d = iblk m c 1 t := found1 m (dats m 0 c) (A_eq m c 1) (after1 m c) t d
theorem before2 (c : Dev nD) (t : Fin cfg0.N) (d) : (dats m 0 c).before 2 t d = iblk m c 2 t := found2 m (dats m 0 c) (A_eq m c 2) (after2 m c) t d
theorem before3 (c : Dev nD) (t : Fin cfg0.N) (d) : (dats m 0 c).before 3 t d = iblk m c 3 t := found3 m (dats m 0 c) (A_eq m c 3) (after3 m c) t d
theorem before4 (c : Dev nD) (t : Fin cfg0.N) (d) : (dats m 0 c).before 4 t d = iblk m c 4 t := found4 m (dats m 0 c) (A_eq m c 4) (after4 m c) t d
theorem before5 (c : Dev nD) (t : Fin cfg0.N) (d) : (dats m 0 c).before 5 t d = iblk m c 5 t := found5 m (dats m 0 c) (A_eq m c 5) (after5 m c) t d

/-- The output's buffer alone is described by a relation. -/
def marked : Fin cfg0.W → Bool
  | ⟨6, _⟩ => true
  | _ => false

def Rl (c : Dev nD) : (w : Fin cfg0.W) → Fin cfg0.N → ((cfg0.win w).block.Idx → Elt F (cfg0.win w).elt) → Prop
  | ⟨6, _⟩ => fun t X => Holds m c t.val X
  | _ => fun _ _ => True

def rdats (c : Dev nD) : RDat τ (Elt F) Unit ℕ (UR sig nD τ) ℕ cfg0 c := (dats m 0 c).toRRel marked (Rl m c)

theorem fetch6 (t : Fin cfg0.N) : (cfg0.win 6).fetch t = false := rfl

/-- What the output's buffer may hold before a point that does not begin a batch entry. -/
theorem found6 (c : Dev nD) (t : Fin cfg0.N) (Y : Vec F S1x64x128 .f32) (hY : (rdats m c).Finds 6 t Y) (hz : t.val % 32 ≠ 0) :
    Holds m c (t.val - 1) Y := by
  rcases ((rdats m c).finds_of_pos (w := 6) (fetch6 t) (by omega) Y).mp hY with h | h
  · have := (flush0_6 _).mp h
    have h' : (t.val - 1) % 32 = 31 := this
    omega
  · exact (dats m 0 c).toRRel_leaves (w := 6) rfl h

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ Y, ⌜(rdats m c).Finds 6 t Y⌝ ∗ owns (c : Thread nD τ) (st0_6 t) fullShare Y))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, ⌜Holds m c t.val X⌝ ∗ owns (c : Thread nD τ) (st0_6 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩, ⟨%Y, %hY, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) Y _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; isplitr
  swap; · iexact H6
  ipureintro
  exact holds_step m c t Y (found6 m c t Y hY)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ marked (Rl m c) := fun t => by
  rw [bigSep_W0, bigSep_W0, defs₀_row]
  exact triple_restated (sound_body m c t) rfl .rfl fun _ => .rfl

set_option backward.isDefEq.respectTransparency.types false in
set_option maxHeartbeats 800000 in
theorem run_rel : θ_run defs (onTc (τ := τ) (main (F := F))) (s₀ m ρ)
    (fun r => RDat.FramePost cfg0 (rdats m) (V m) r ∧ r.2.sem = fun _ => 0) :=
  RDat.θ_run_frame (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-! ## What the run leaves -/

/-- Every batch entry's powers. -/
def out (c : Dev nD) : Vec F S4x64x128 .f32 := fun y => powers m c (y 0).val (ix3 0 (y 1) (y 2))

theorem index6 : ∀ t : Fin cfg0.N, win0_6.index t 0 = t.val / 32 ∧ win0_6.index t 1 = 0 ∧ win0_6.index t 2 = 0 :=
  (by decide +kernel : ∀ t : Fin grid0.N, win0_6.index t 0 = t.val / 32 ∧ win0_6.index t 1 = 0 ∧ win0_6.index t 2 = 0)

/-- The last point of a batch entry. -/
def last (i : S4x64x128.Idx) : Fin cfg0.N :=
  ⟨32 * (i 0).val + 31, by
    have h0 : (i 0).val < 4 := (i 0).isLt
    have hN : cfg0.N = 128 := N_0
    omega⟩

theorem cover6 (i : S4x64x128.Idx) : i ∈ ((cfg0.win 6).blk (last i)).view.set := by
  obtain ⟨e0, e1, e2⟩ := index6 (last i)
  have h0 : (i 0).val < 4 := (i 0).isLt
  have h1 : (i 1).val < 64 := (i 1).isLt
  have h2 : (i 2).val < 128 := (i 2).isLt
  have hp : (last i).val = 32 * (i 0).val + 31 := rfl
  show i ∈ ((View.whole main_v4).slice (win0_6.rect (last i))).set
  rw [View.set_slice_whole, Rect.mem_set_unit]
  intro a
  match a with
  | ⟨0, _⟩ => show win0_6.index (last i) 0 * 1 ≤ (i 0).val ∧ (i 0).val < win0_6.index (last i) 0 * 1 + 1; omega
  | ⟨1, _⟩ => show win0_6.index (last i) 1 * 64 ≤ (i 1).val ∧ (i 1).val < win0_6.index (last i) 1 * 64 + 64; omega
  | ⟨2, _⟩ => show win0_6.index (last i) 2 * 128 ≤ (i 2).val ∧ (i 2).val < win0_6.index (last i) 2 * 128 + 128; omega

/-- A full buffer is its batch entry's block of the result. -/
theorem holds_block (c : Dev nD) (t : Fin cfg0.N) (hf : (cfg0.win 6).flush t = true) (X : Vec F S1x64x128 .f32) (hX : Holds m c t.val X)
    (y : S1x64x128.Idx) : X y = out m c ((win0_6.rect t).idx y) := by
  obtain ⟨e0, e1, e2⟩ := index6 t
  have h31 : t.val % 32 = 31 := (flush0_6 t).mp hf
  have y0 : (y 0).val < 1 := (y 0).isLt
  have y1 : (y 1).val < 64 := (y 1).isLt
  refine (hX y (by omega)).trans ?_
  have hb : (((win0_6.rect t).idx y) 0).val = t.val / 32 := by
    show win0_6.index t 0 * 1 + 1 * (y 0).val = t.val / 32
    omega
  unfold out
  rw [hb]
  refine congrArg (powers m c (t.val / 32)) (funext fun a => Fin.ext ?_)
  match a with
  | ⟨0, _⟩ => show (y 0).val = 0; omega
  | ⟨1, _⟩ => show (y 1).val = win0_6.index t 1 * 64 + 1 * (y 1).val; omega
  | ⟨2, _⟩ => show (y 2).val = win0_6.index t 2 * 128 + 1 * (y 2).val; omega

theorem result (c : Dev nD) (r : PUnit × MemSt nD τ sig (Elt F)) (h : RDat.FramePost cfg0 (rdats m) (V m) r) :
    r.2.mem ((c.tc : Thread nD τ).loc main_v4) = out m c := by
  obtain ⟨after, hL, hA⟩ := RDat.FramePost.exists_exact h c
  refine (hA 6).trans (((rdats m c).withAfter after).arrAt_eq_of_cover 6 (out m c) (fun t hf => ?_) fun i => ⟨last i, ?_, cover6 i⟩)
  · funext y
    exact holds_block m c t hf (after 6 t) ((dats m 0 c).toRRel_leaves (w := 6) rfl (hL 6 t hf)) y
  · exact (flush0_6 _).mpr (by
      show (32 * (i 0).val + 31) % 32 = 31
      omega)

/-- The run: the result's array at the powers, the arguments as they were, the counters at zero. -/
theorem run : θ_run defs (onTc (τ := τ) (main (F := F))) ⟨m, fun _ => 0, ρ⟩ (fun r => (∀ c : Dev nD,
    r.2.mem ((c.tc : Thread nD τ).loc main_v4) = out m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) ∧ r.2.sem = fun _ => 0) :=
  (θ_run defs _ _).mono (fun r h => ⟨fun c => ⟨result m c r h.1,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (RDat.FramePost.arr_in h.1 c 4 rfl).trans ((A_eq m c 4).trans (V_main_arg4 m c)),
      (RDat.FramePost.arr_in h.1 c 5 rfl).trans ((A_eq m c 5).trans (V_main_arg5 m c))⟩, h.2⟩) (run_rel m ρ)

end Cert.Kernel3Ideal.Power

end
-- ==== Proof.Stage2.lean ====
/-
  The second stage of the transform: twiddled, 128-point transforms with the cosines and negative sines given as tables, and the
  power at each frequency, summed over the features.
-/
module

public import proofs.«01_k».proof.Defs
public import proofs.«01_k».proof.Proof.Stage2RunIdeal
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Spectrum

open Cert.Kernel3Ideal

/-- The first stage's output at frequency `k` modulo 64, residue `p` and feature `d`. -/
def entry (q : Vec Ideal S4x8x64x6144 .f32) (b : Fin 4) (k : Fin 64) (p : Fin 128) (d : Fin 384) : EReal :=
  q (ix4 b ⟨p.val / 16, by have := p.isLt; omega⟩ k ⟨384 * (p.val % 16) + d.val, by have := d.isLt; omega⟩)

/-- Twiddled: a complex product, its real and imaginary parts. -/
def twr (x y w v : Fin 128 → Fin 384 → EReal) : Fin 128 → Fin 384 → EReal := fun p d => x p d * w p d - y p d * v p d
def twi (x y w v : Fin 128 → Fin 384 → EReal) : Fin 128 → Fin 384 → EReal := fun p d => x p d * v p d + y p d * w p d

/-- A table's row against a series. -/
def tab (C : Vec Ideal S128x128 .f32) (z : Fin 128 → Fin 384 → EReal) (f : Fin 128) (d : Fin 384) : EReal := ∑ p : Fin 128, C (ix2 f p) * z p d

/-- The power of a complex series at one frequency, over all features. -/
def power (C S : Vec Ideal S128x128 .f32) (zr zi : Fin 128 → Fin 384 → EReal) (f : Fin 128) : EReal :=
  ∑ d : Fin 384, ((tab C zr f d - tab S zi f d) * (tab C zr f d - tab S zi f d) + (tab C zi f d + tab S zr f d) * (tab C zi f d + tab S zr f d))

/-- The twiddled series' powers. -/
def powerOf (C S : Vec Ideal S128x128 .f32) (x y w v : Fin 128 → Fin 384 → EReal) (f : Fin 128) : EReal :=
  power C S (twr x y w v) (twi x y w v) f

/-- All of them, from the arguments. -/
def G (qr qi : Vec Ideal S4x8x64x6144 .f32) (wr wi : Vec Ideal S64x128x1 .f32) (C S : Vec Ideal S128x128 .f32) : Vec Ideal S4x64x128 .f32 := fun y =>
  powerOf C S (entry qr (y 0) (y 1)) (entry qi (y 0) (y 1)) (fun p _ => wr (ix3 (y 1) p 0)) (fun p _ => wi (ix3 (y 1) p 0)) (y 2)

end Cert.Spectrum

namespace Cert.Kernel3Ideal.Power

open Cert.Kernel3Ideal Cert.Kernel3Ideal.Gen Cert.Spectrum

/-- A block's row, by residue and feature. -/
def rowX (X : Vec Ideal S1x8x1x16x384 .f32) (p : Fin 128) (d : Fin 384) : EReal :=
  X (ix5 0 ⟨p.val / 16, by have := p.isLt; omega⟩ 0 ⟨p.val % 16, by omega⟩ d)
def rowW (W : Vec Ideal S1x1x128x1 .f32) (p : Fin 128) (_ : Fin 384) : EReal := W (ix4 0 0 p 0)

theorem pay2_apply (X : Vec Ideal S1x8x1x16x384 .f32) (p : Fin 128) (d : Fin 384) : k0_pay2 X (ix2 p d) = rowX X p d := by
  pointwise [k0_pay2]
  unfold rowX
  refine congrArg X (funext fun a => ?_)
  match a with
  | ⟨0, _⟩ => rfl
  | ⟨1, _⟩ => rfl
  | ⟨2, _⟩ => rfl
  | ⟨3, _⟩ => rfl
  | ⟨4, _⟩ => rfl

theorem pay4_apply (W : Vec Ideal S1x1x128x1 .f32) (p : Fin 128) (d : Fin 384) :
    broadcastTo (α := Elt Ideal .f32) S128x384 (k0_pay4 W) broadcasts_S128x1_S128x384 (ix2 p d) = rowW W p d := by
  pointwise [k0_pay4]
  rfl

theorem pay6_apply (X Y : Vec Ideal S1x8x1x16x384 .f32) (W U : Vec Ideal S1x1x128x1 .f32) (p : Fin 128) (d : Fin 384) :
    k0_pay6 X Y W U (ix2 p d) = twr (rowX X) (rowX Y) (rowW W) (rowW U) p d := by
  have e : k0_pay6 X Y W U (ix2 p d)
      = k0_pay2 X (ix2 p d) * broadcastTo (α := Elt Ideal .f32) S128x384 (k0_pay4 W) broadcasts_S128x1_S128x384 (ix2 p d)
        - k0_pay2 Y (ix2 p d) * broadcastTo (α := Elt Ideal .f32) S128x384 (k0_pay4 U) broadcasts_S128x1_S128x384 (ix2 p d) := rfl
  rw [e, pay2_apply, pay2_apply, pay4_apply, pay4_apply]
  rfl

theorem pay7_apply (X Y : Vec Ideal S1x8x1x16x384 .f32) (W U : Vec Ideal S1x1x128x1 .f32) (p : Fin 128) (d : Fin 384) :
    k0_pay7 X Y W U (ix2 p d) = twi (rowX X) (rowX Y) (rowW W) (rowW U) p d := by
  have e : k0_pay7 X Y W U (ix2 p d)
      = k0_pay2 X (ix2 p d) * broadcastTo (α := Elt Ideal .f32) S128x384 (k0_pay4 U) broadcasts_S128x1_S128x384 (ix2 p d)
        + k0_pay2 Y (ix2 p d) * broadcastTo (α := Elt Ideal .f32) S128x384 (k0_pay4 W) broadcasts_S128x1_S128x384 (ix2 p d) := rfl
  rw [e, pay2_apply, pay2_apply, pay4_apply, pay4_apply]
  rfl

/-- The tables against twiddled rows, squared and summed. -/
theorem pay1_apply (R I : FVec Ideal S128x384 .f32) (C S : Vec Ideal S128x128 .f32) (u v : Fin 1) (f : Fin 128) :
    k0_pay1 R I C (constant S128x384 .f32 0x00000000#32) S C S (ix3 u v f) = power C S (fun p d => R (ix2 p d)) (fun p d => I (ix2 p d)) f := by
  pointwise [k0_pay1]
  rfl

theorem pay10_eq (X Y : Vec Ideal S1x8x1x16x384 .f32) (W U : Vec Ideal S1x1x128x1 .f32) (C S : Vec Ideal S128x128 .f32) :
    k0_pay10 (k0_pay6 X Y W U) (k0_pay8 X Y W U C S) (k0_pay9 X Y W U C) S (constant S128x384 .f32 0x00000000#32)
      = k0_pay1 (k0_pay6 X Y W U) (k0_pay7 X Y W U) C (constant S128x384 .f32 0x00000000#32) S C S := rfl

theorem pay15_eq (X Y : Vec Ideal S1x8x1x16x384 .f32) (W U : Vec Ideal S1x1x128x1 .f32) : k0_pay15 X Y W U = k0_pay6 X Y W U := rfl
theorem pay16_eq (X Y : Vec Ideal S1x8x1x16x384 .f32) (W U : Vec Ideal S1x1x128x1 .f32) : k0_pay16 X Y W U = k0_pay7 X Y W U := rfl

theorem row_apply (X Y : Vec Ideal S1x8x1x16x384 .f32) (W U : Vec Ideal S1x1x128x1 .f32) (C S : Vec Ideal S128x128 .f32) (f : Fin 128) :
    k0_pay1 (k0_pay6 X Y W U) (k0_pay7 X Y W U) C (constant S128x384 .f32 0x00000000#32) S C S (ix3 0 0 f)
      = powerOf C S (rowX X) (rowX Y) (rowW W) (rowW U) f := by
  refine (pay1_apply _ _ C S 0 0 f).trans ?_
  unfold powerOf
  exact congrArg₂ (fun a b => power C S a b f) (funext fun p => funext fun d => pay6_apply X Y W U p d)
    (funext fun p => funext fun d => pay7_apply X Y W U p d)

theorem hz2 : (![0, 0] : Fin 2 → Nat) = fun _ => 0 := funext fun a => by fin_cases a <;> rfl

theorem even_apply (x0 x1 : Vec Ideal S1x8x2x16x384 .f32) (x2 x3 : Vec Ideal S1x2x128x1 .f32) (x4 x5 : Vec Ideal S128x128 .f32) (f : Fin 128) :
    even x0 x1 x2 x3 x4 x5 (ix3 0 0 f) = powerOf x4 x5 (rowX (View.ld x0 xa)) (rowX (View.ld x1 xa)) (rowW (View.ld x2 wa)) (rowW (View.ld x3 wa)) f := by
  unfold even
  rw [View.ld_unit_zero hz2, View.ld_unit_zero hz2]
  exact (congrFun (pay10_eq _ _ _ _ x4 x5) _).trans (row_apply _ _ _ _ x4 x5 f)

theorem odd_apply (x0 x1 : Vec Ideal S1x8x2x16x384 .f32) (x2 x3 : Vec Ideal S1x2x128x1 .f32) (x4 x5 : Vec Ideal S128x128 .f32) (f : Fin 128) :
    odd x0 x1 x2 x3 x4 x5 (ix3 0 0 f) = powerOf x4 x5 (rowX (View.ld x0 xb)) (rowX (View.ld x1 xb)) (rowW (View.ld x2 wb)) (rowW (View.ld x3 wb)) f := by
  unfold odd
  rw [View.ld_unit_zero hz2, View.ld_unit_zero hz2, pay15_eq, pay16_eq]
  exact row_apply _ _ _ _ x4 x5 f

variable (m : (ℓ : Loc nD τ sig) → Buf (Elt Ideal) ℓ)

abbrev Qr (c : Dev nD) : Vec Ideal S4x8x64x6144 .f32 := m ((c : Thread nD τ).loc main_arg0)
abbrev Qi (c : Dev nD) : Vec Ideal S4x8x64x6144 .f32 := m ((c : Thread nD τ).loc main_arg1)
abbrev Wr (c : Dev nD) : Vec Ideal S64x128x1 .f32 := m ((c : Thread nD τ).loc main_arg2)
abbrev Wi (c : Dev nD) : Vec Ideal S64x128x1 .f32 := m ((c : Thread nD τ).loc main_arg3)
abbrev Co (c : Dev nD) : Vec Ideal S128x128 .f32 := m ((c : Thread nD τ).loc main_arg4)
abbrev Si (c : Dev nD) : Vec Ideal S128x128 .f32 := m ((c : Thread nD τ).loc main_arg5)

theorem V_r (c : Dev nD) : V m c main_v0 = shapeCast S4x8x64x16x384 (Qr m c) shapeCasts_S4x8x64x6144_S4x8x64x16x384 := by
  show StableHlo.after hostOps0 (fun b => m (c, b)) main_v0 = _
  after_results
  rfl
theorem V_i (c : Dev nD) : V m c main_v1 = shapeCast S4x8x64x16x384 (Qi m c) shapeCasts_S4x8x64x6144_S4x8x64x16x384 := by
  show StableHlo.after hostOps0 (fun b => m (c, b)) main_v1 = _
  after_results
  rfl
theorem V_wr (c : Dev nD) : V m c main_v2 = shapeCast S32x2x128x1 (Wr m c) shapeCasts_S64x128x1_S32x2x128x1 := by
  show StableHlo.after hostOps0 (fun b => m (c, b)) main_v2 = _
  after_results
  rfl
theorem V_wi (c : Dev nD) : V m c main_v3 = shapeCast S32x2x128x1 (Wi m c) shapeCasts_S64x128x1_S32x2x128x1 := by
  show StableHlo.after hostOps0 (fun b => m (c, b)) main_v3 = _
  after_results
  rfl

theorem castQ_apply (q : Vec Ideal S4x8x64x6144 .f32) (b : Fin 4) (u : Fin 8) (k : Fin 64) (r : Fin 16) (d : Fin 384) :
    shapeCast S4x8x64x16x384 q shapeCasts_S4x8x64x6144_S4x8x64x16x384 (ix5 b u k r d)
      = q (ix4 b u k ⟨384 * r.val + d.val, by have := r.isLt; have := d.isLt; omega⟩) := by
  pointwise
  refine congrArg (fun n => q (ix4 b u k n)) (Fin.ext ?_)
  show r.val * 384 + d.val = 384 * r.val + d.val
  omega

theorem castW_apply (w : Vec Ideal S64x128x1 .f32) (g : Fin 32) (u : Fin 2) (p : Fin 128) (z : Fin 1) :
    shapeCast S32x2x128x1 w shapeCasts_S64x128x1_S32x2x128x1 (ix4 g u p z) = w (ix3 ⟨2 * g.val + u.val, by have := g.isLt; have := u.isLt; omega⟩ p 0) := by
  pointwise
  refine congrArg (fun n => w (ix3 n p 0)) (Fin.ext ?_)
  show g.val * 2 + u.val = 2 * g.val + u.val
  omega

theorem idx_facts : ∀ t : Fin cfg0.N,
    (win0_0.index t 0 = t.val / 32 ∧ win0_0.index t 1 = 0 ∧ win0_0.index t 2 = t.val % 32 ∧ win0_0.index t 3 = 0 ∧ win0_0.index t 4 = 0)
    ∧ (win0_1.index t 0 = t.val / 32 ∧ win0_1.index t 1 = 0 ∧ win0_1.index t 2 = t.val % 32 ∧ win0_1.index t 3 = 0 ∧ win0_1.index t 4 = 0)
    ∧ (win0_2.index t 0 = t.val % 32 ∧ win0_2.index t 1 = 0 ∧ win0_2.index t 2 = 0 ∧ win0_2.index t 3 = 0)
    ∧ (win0_3.index t 0 = t.val % 32 ∧ win0_3.index t 1 = 0 ∧ win0_3.index t 2 = 0 ∧ win0_3.index t 3 = 0)
    ∧ (win0_4.index t 0 = 0 ∧ win0_4.index t 1 = 0) ∧ (win0_5.index t 0 = 0 ∧ win0_5.index t 1 = 0) :=
  (by decide +kernel : ∀ t : Fin grid0.N,
    (win0_0.index t 0 = t.val / 32 ∧ win0_0.index t 1 = 0 ∧ win0_0.index t 2 = t.val % 32 ∧ win0_0.index t 3 = 0 ∧ win0_0.index t 4 = 0)
    ∧ (win0_1.index t 0 = t.val / 32 ∧ win0_1.index t 1 = 0 ∧ win0_1.index t 2 = t.val % 32 ∧ win0_1.index t 3 = 0 ∧ win0_1.index t 4 = 0)
    ∧ (win0_2.index t 0 = t.val % 32 ∧ win0_2.index t 1 = 0 ∧ win0_2.index t 2 = 0 ∧ win0_2.index t 3 = 0)
    ∧ (win0_3.index t 0 = t.val % 32 ∧ win0_3.index t 1 = 0 ∧ win0_3.index t 2 = 0 ∧ win0_3.index t 3 = 0)
    ∧ (win0_4.index t 0 = 0 ∧ win0_4.index t 1 = 0) ∧ (win0_5.index t 0 = 0 ∧ win0_5.index t 1 = 0))

def bt (t : Fin cfg0.N) : Fin 4 := ⟨t.val / 32, by have := lt128 t; omega⟩
def fr (t : Fin cfg0.N) (u : Fin 2) : Fin 64 := ⟨2 * (t.val % 32) + u.val, by have := u.isLt; omega⟩

theorem read_0 (U : (c : Dev nD) → (b : Ref sig .tc) → Buf (Elt Ideal) ((c : Thread nD τ).loc b)) (c : Dev nD) (t : Fin cfg0.N) (y : S1x8x2x16x384.Idx) :
    ((cfg0.win 0).blk t).view.read (Elt Ideal) (U c (Pipeline.arrRef spec0 0)) y = (U c main_v0 : Vec Ideal S4x8x64x16x384 .f32) ((win0_0.rect t).idx y) := rfl

theorem blk_0 (c : Dev nD) (t : Fin cfg0.N) (a : Fin 8) (u : Fin 2) (r : Fin 16) (d : Fin 384) :
    iblk m c 0 t (ix5 0 a u r d) = Qr m c (ix4 (bt t) a (fr t u) ⟨384 * r.val + d.val, by have := r.isLt; have := d.isLt; omega⟩) := by
  obtain ⟨h0, h1, h2, h3, h4⟩ := (idx_facts t).1
  have e : iblk m c 0 t (ix5 0 a u r d) = (V m c main_v0 : Vec Ideal S4x8x64x16x384 .f32) (ix5 (bt t) a (fr t u) r d) := by
    refine (read_0 (V m) c t _).trans (congrArg (V m c main_v0 : Vec Ideal S4x8x64x16x384 .f32) (funext fun z => Fin.ext ?_))
    match z with
    | ⟨0, _⟩ => show win0_0.index t 0 * 1 + 1 * 0 = t.val / 32; omega
    | ⟨1, _⟩ => show win0_0.index t 1 * 8 + 1 * a.val = a.val; omega
    | ⟨2, _⟩ => show win0_0.index t 2 * 2 + 1 * u.val = 2 * (t.val % 32) + u.val; omega
    | ⟨3, _⟩ => show win0_0.index t 3 * 16 + 1 * r.val = r.val; omega
    | ⟨4, _⟩ => show win0_0.index t 4 * 384 + 1 * d.val = d.val; omega
  exact e.trans ((congrFun (V_r m c) _).trans (castQ_apply _ _ _ _ _ _))

theorem read_1 (U : (c : Dev nD) → (b : Ref sig .tc) → Buf (Elt Ideal) ((c : Thread nD τ).loc b)) (c : Dev nD) (t : Fin cfg0.N) (y : S1x8x2x16x384.Idx) :
    ((cfg0.win 1).blk t).view.read (Elt Ideal) (U c (Pipeline.arrRef spec0 1)) y = (U c main_v1 : Vec Ideal S4x8x64x16x384 .f32) ((win0_1.rect t).idx y) := rfl

theorem blk_1 (c : Dev nD) (t : Fin cfg0.N) (a : Fin 8) (u : Fin 2) (r : Fin 16) (d : Fin 384) :
    iblk m c 1 t (ix5 0 a u r d) = Qi m c (ix4 (bt t) a (fr t u) ⟨384 * r.val + d.val, by have := r.isLt; have := d.isLt; omega⟩) := by
  obtain ⟨h0, h1, h2, h3, h4⟩ := (idx_facts t).2.1
  have e : iblk m c 1 t (ix5 0 a u r d) = (V m c main_v1 : Vec Ideal S4x8x64x16x384 .f32) (ix5 (bt t) a (fr t u) r d) := by
    refine (read_1 (V m) c t _).trans (congrArg (V m c main_v1 : Vec Ideal S4x8x64x16x384 .f32) (funext fun z => Fin.ext ?_))
    match z with
    | ⟨0, _⟩ => show win0_1.index t 0 * 1 + 1 * 0 = t.val / 32; omega
    | ⟨1, _⟩ => show win0_1.index t 1 * 8 + 1 * a.val = a.val; omega
    | ⟨2, _⟩ => show win0_1.index t 2 * 2 + 1 * u.val = 2 * (t.val % 32) + u.val; omega
    | ⟨3, _⟩ => show win0_1.index t 3 * 16 + 1 * r.val = r.val; omega
    | ⟨4, _⟩ => show win0_1.index t 4 * 384 + 1 * d.val = d.val; omega
  exact e.trans ((congrFun (V_i m c) _).trans (castQ_apply _ _ _ _ _ _))

theorem read_2 (U : (c : Dev nD) → (b : Ref sig .tc) → Buf (Elt Ideal) ((c : Thread nD τ).loc b)) (c : Dev nD) (t : Fin cfg0.N) (y : S1x2x128x1.Idx) :
    ((cfg0.win 2).blk t).view.read (Elt Ideal) (U c (Pipeline.arrRef spec0 2)) y = (U c main_v2 : Vec Ideal S32x2x128x1 .f32) ((win0_2.rect t).idx y) := rfl

theorem blk_2 (c : Dev nD) (t : Fin cfg0.N) (u : Fin 2) (p : Fin 128) :
    iblk m c 2 t (ix4 0 u p 0) = Wr m c (ix3 (fr t u) p 0) := by
  obtain ⟨h0, h1, h2, h3⟩ := (idx_facts t).2.2.1
  have e : iblk m c 2 t (ix4 0 u p 0) = (V m c main_v2 : Vec Ideal S32x2x128x1 .f32) (ix4 (⟨t.val % 32, by omega⟩ : Fin 32) u p 0) := by
    refine (read_2 (V m) c t _).trans (congrArg (V m c main_v2 : Vec Ideal S32x2x128x1 .f32) (funext fun z => Fin.ext ?_))
    match z with
    | ⟨0, _⟩ => show win0_2.index t 0 * 1 + 1 * 0 = t.val % 32; omega
    | ⟨1, _⟩ => show win0_2.index t 1 * 2 + 1 * u.val = u.val; omega
    | ⟨2, _⟩ => show win0_2.index t 2 * 128 + 1 * p.val = p.val; omega
    | ⟨3, _⟩ => show win0_2.index t 3 * 1 + 1 * 0 = 0; omega
  exact e.trans ((congrFun (V_wr m c) _).trans (castW_apply _ _ _ _ _))

theorem read_3 (U : (c : Dev nD) → (b : Ref sig .tc) → Buf (Elt Ideal) ((c : Thread nD τ).loc b)) (c : Dev nD) (t : Fin cfg0.N) (y : S1x2x128x1.Idx) :
    ((cfg0.win 3).blk t).view.read (Elt Ideal) (U c (Pipeline.arrRef spec0 3)) y = (U c main_v3 : Vec Ideal S32x2x128x1 .f32) ((win0_3.rect t).idx y) := rfl

theorem blk_3 (c : Dev nD) (t : Fin cfg0.N) (u : Fin 2) (p : Fin 128) :
    iblk m c 3 t (ix4 0 u p 0) = Wi m c (ix3 (fr t u) p 0) := by
  obtain ⟨h0, h1, h2, h3⟩ := (idx_facts t).2.2.2.1
  have e : iblk m c 3 t (ix4 0 u p 0) = (V m c main_v3 : Vec Ideal S32x2x128x1 .f32) (ix4 (⟨t.val % 32, by omega⟩ : Fin 32) u p 0) := by
    refine (read_3 (V m) c t _).trans (congrArg (V m c main_v3 : Vec Ideal S32x2x128x1 .f32) (funext fun z => Fin.ext ?_))
    match z with
    | ⟨0, _⟩ => show win0_3.index t 0 * 1 + 1 * 0 = t.val % 32; omega
    | ⟨1, _⟩ => show win0_3.index t 1 * 2 + 1 * u.val = u.val; omega
    | ⟨2, _⟩ => show win0_3.index t 2 * 128 + 1 * p.val = p.val; omega
    | ⟨3, _⟩ => show win0_3.index t 3 * 1 + 1 * 0 = 0; omega
  exact e.trans ((congrFun (V_wi m c) _).trans (castW_apply _ _ _ _ _))

theorem blk_4 (c : Dev nD) (t : Fin cfg0.N) : iblk m c 4 t = Co m c := by
  obtain ⟨h0, h1⟩ := (idx_facts t).2.2.2.2.1
  funext y
  have e : iblk m c 4 t y = (V m c main_arg4 : Vec Ideal S128x128 .f32) y := by
    show (V m c main_arg4 : Vec Ideal S128x128 .f32) ((win0_4.rect t).idx y) = _
    refine congrArg (V m c main_arg4 : Vec Ideal S128x128 .f32) (funext fun a => Fin.ext ?_)
    match a with
    | ⟨0, _⟩ => show win0_4.index t 0 * 128 + 1 * (y 0).val = (y 0).val; omega
    | ⟨1, _⟩ => show win0_4.index t 1 * 128 + 1 * (y 1).val = (y 1).val; omega
  exact e.trans (congrFun (V_main_arg4 m c) y)

theorem blk_5 (c : Dev nD) (t : Fin cfg0.N) : iblk m c 5 t = Si m c := by
  obtain ⟨h0, h1⟩ := (idx_facts t).2.2.2.2.2
  funext y
  have e : iblk m c 5 t y = (V m c main_arg5 : Vec Ideal S128x128 .f32) y := by
    show (V m c main_arg5 : Vec Ideal S128x128 .f32) ((win0_5.rect t).idx y) = _
    refine congrArg (V m c main_arg5 : Vec Ideal S128x128 .f32) (funext fun a => Fin.ext ?_)
    match a with
    | ⟨0, _⟩ => show win0_5.index t 0 * 128 + 1 * (y 0).val = (y 0).val; omega
    | ⟨1, _⟩ => show win0_5.index t 1 * 128 + 1 * (y 1).val = (y 1).val; omega
  exact e.trans (congrFun (V_main_arg5 m c) y)

theorem rowa_0 (c : Dev nD) (t : Fin cfg0.N) : rowX (View.ld (iblk m c 0 t) xa) = entry (Qr m c) (bt t) (fr t 0) := by
  funext p d
  have e : View.ld (iblk m c 0 t) xa (ix5 0 ⟨p.val / 16, by have := p.isLt; omega⟩ 0 ⟨p.val % 16, by omega⟩ d)
      = iblk m c 0 t (ix5 0 ⟨p.val / 16, by have := p.isLt; omega⟩ 0 ⟨p.val % 16, by omega⟩ d) := by
    refine congrArg (iblk m c 0 t) (funext fun z => Fin.ext ?_)
    match z with
    | ⟨0, _⟩ => rfl
    | ⟨1, _⟩ => show 0 + 1 * (p.val / 16) = p.val / 16; omega
    | ⟨2, _⟩ => rfl
    | ⟨3, _⟩ => show 0 + 1 * (p.val % 16) = p.val % 16; omega
    | ⟨4, _⟩ => show 0 + 1 * d.val = d.val; omega
  exact e.trans (blk_0 m c t _ 0 _ d)

theorem rowb_0 (c : Dev nD) (t : Fin cfg0.N) : rowX (View.ld (iblk m c 0 t) xb) = entry (Qr m c) (bt t) (fr t 1) := by
  funext p d
  have e : View.ld (iblk m c 0 t) xb (ix5 0 ⟨p.val / 16, by have := p.isLt; omega⟩ 0 ⟨p.val % 16, by omega⟩ d)
      = iblk m c 0 t (ix5 0 ⟨p.val / 16, by have := p.isLt; omega⟩ 1 ⟨p.val % 16, by omega⟩ d) := by
    refine congrArg (iblk m c 0 t) (funext fun z => Fin.ext ?_)
    match z with
    | ⟨0, _⟩ => rfl
    | ⟨1, _⟩ => show 0 + 1 * (p.val / 16) = p.val / 16; omega
    | ⟨2, _⟩ => rfl
    | ⟨3, _⟩ => show 0 + 1 * (p.val % 16) = p.val % 16; omega
    | ⟨4, _⟩ => show 0 + 1 * d.val = d.val; omega
  exact e.trans (blk_0 m c t _ 1 _ d)

theorem rowa_1 (c : Dev nD) (t : Fin cfg0.N) : rowX (View.ld (iblk m c 1 t) xa) = entry (Qi m c) (bt t) (fr t 0) := by
  funext p d
  have e : View.ld (iblk m c 1 t) xa (ix5 0 ⟨p.val / 16, by have := p.isLt; omega⟩ 0 ⟨p.val % 16, by omega⟩ d)
      = iblk m c 1 t (ix5 0 ⟨p.val / 16, by have := p.isLt; omega⟩ 0 ⟨p.val % 16, by omega⟩ d) := by
    refine congrArg (iblk m c 1 t) (funext fun z => Fin.ext ?_)
    match z with
    | ⟨0, _⟩ => rfl
    | ⟨1, _⟩ => show 0 + 1 * (p.val / 16) = p.val / 16; omega
    | ⟨2, _⟩ => rfl
    | ⟨3, _⟩ => show 0 + 1 * (p.val % 16) = p.val % 16; omega
    | ⟨4, _⟩ => show 0 + 1 * d.val = d.val; omega
  exact e.trans (blk_1 m c t _ 0 _ d)

theorem rowb_1 (c : Dev nD) (t : Fin cfg0.N) : rowX (View.ld (iblk m c 1 t) xb) = entry (Qi m c) (bt t) (fr t 1) := by
  funext p d
  have e : View.ld (iblk m c 1 t) xb (ix5 0 ⟨p.val / 16, by have := p.isLt; omega⟩ 0 ⟨p.val % 16, by omega⟩ d)
      = iblk m c 1 t (ix5 0 ⟨p.val / 16, by have := p.isLt; omega⟩ 1 ⟨p.val % 16, by omega⟩ d) := by
    refine congrArg (iblk m c 1 t) (funext fun z => Fin.ext ?_)
    match z with
    | ⟨0, _⟩ => rfl
    | ⟨1, _⟩ => show 0 + 1 * (p.val / 16) = p.val / 16; omega
    | ⟨2, _⟩ => rfl
    | ⟨3, _⟩ => show 0 + 1 * (p.val % 16) = p.val % 16; omega
    | ⟨4, _⟩ => show 0 + 1 * d.val = d.val; omega
  exact e.trans (blk_1 m c t _ 1 _ d)

theorem rowa_2 (c : Dev nD) (t : Fin cfg0.N) : rowW (View.ld (iblk m c 2 t) wa) = fun p _ => Wr m c (ix3 (fr t 0) p 0) := by
  funext p d
  have e : View.ld (iblk m c 2 t) wa (ix4 0 0 p 0) = iblk m c 2 t (ix4 0 0 p 0) := by
    refine congrArg (iblk m c 2 t) (funext fun z => Fin.ext ?_)
    match z with
    | ⟨0, _⟩ => rfl
    | ⟨1, _⟩ => rfl
    | ⟨2, _⟩ => show 0 + 1 * p.val = p.val; omega
    | ⟨3, _⟩ => rfl
  exact e.trans (blk_2 m c t 0 p)

theorem rowb_2 (c : Dev nD) (t : Fin cfg0.N) : rowW (View.ld (iblk m c 2 t) wb) = fun p _ => Wr m c (ix3 (fr t 1) p 0) := by
  funext p d
  have e : View.ld (iblk m c 2 t) wb (ix4 0 0 p 0) = iblk m c 2 t (ix4 0 1 p 0) := by
    refine congrArg (iblk m c 2 t) (funext fun z => Fin.ext ?_)
    match z with
    | ⟨0, _⟩ => rfl
    | ⟨1, _⟩ => rfl
    | ⟨2, _⟩ => show 0 + 1 * p.val = p.val; omega
    | ⟨3, _⟩ => rfl
  exact e.trans (blk_2 m c t 1 p)

theorem rowa_3 (c : Dev nD) (t : Fin cfg0.N) : rowW (View.ld (iblk m c 3 t) wa) = fun p _ => Wi m c (ix3 (fr t 0) p 0) := by
  funext p d
  have e : View.ld (iblk m c 3 t) wa (ix4 0 0 p 0) = iblk m c 3 t (ix4 0 0 p 0) := by
    refine congrArg (iblk m c 3 t) (funext fun z => Fin.ext ?_)
    match z with
    | ⟨0, _⟩ => rfl
    | ⟨1, _⟩ => rfl
    | ⟨2, _⟩ => show 0 + 1 * p.val = p.val; omega
    | ⟨3, _⟩ => rfl
  exact e.trans (blk_3 m c t 0 p)

theorem rowb_3 (c : Dev nD) (t : Fin cfg0.N) : rowW (View.ld (iblk m c 3 t) wb) = fun p _ => Wi m c (ix3 (fr t 1) p 0) := by
  funext p d
  have e : View.ld (iblk m c 3 t) wb (ix4 0 0 p 0) = iblk m c 3 t (ix4 0 1 p 0) := by
    refine congrArg (iblk m c 3 t) (funext fun z => Fin.ext ?_)
    match z with
    | ⟨0, _⟩ => rfl
    | ⟨1, _⟩ => rfl
    | ⟨2, _⟩ => show 0 + 1 * p.val = p.val; omega
    | ⟨3, _⟩ => rfl
  exact e.trans (blk_3 m c t 1 p)

theorem evenAt_apply (c : Dev nD) (t : Fin cfg0.N) (f : Fin 128) :
    evenAt m c t (ix3 0 0 f) = G (Qr m c) (Qi m c) (Wr m c) (Wi m c) (Co m c) (Si m c) (ix3 (bt t) (fr t 0) f) := by
  unfold evenAt
  rw [even_apply, rowa_0, rowa_1, rowa_2, rowa_3, blk_4, blk_5]
  rfl

theorem oddAt_apply (c : Dev nD) (t : Fin cfg0.N) (f : Fin 128) :
    oddAt m c t (ix3 0 0 f) = G (Qr m c) (Qi m c) (Wr m c) (Wi m c) (Co m c) (Si m c) (ix3 (bt t) (fr t 1) f) := by
  unfold oddAt
  rw [odd_apply, rowb_0, rowb_1, rowb_2, rowb_3, blk_4, blk_5]
  rfl

/-- The kernel's result is the powers of the arguments. -/
theorem final (c : Dev nD) : out m c = G (Qr m c) (Qi m c) (Wr m c) (Wi m c) (Co m c) (Si m c) := by
  funext y
  have y0 : (y 0).val < 4 := (y 0).isLt
  have y1 : (y 1).val < 64 := (y 1).isLt
  have hp : (pt (y 0).val (y 1).val).val = 32 * (y 0).val + (y 1).val / 2 := by
    show (32 * (y 0).val + (y 1).val / 2) % 128 = _
    omega
  have hb : (bt (pt (y 0).val (y 1).val)).val = (y 0).val := by
    show (pt (y 0).val (y 1).val).val / 32 = _
    omega
  unfold out powers
  by_cases h : (y 1).val % 2 = 1
  · refine (if_pos h).trans ((oddAt_apply m c _ (y 2)).trans (congrArg (G (Qr m c) (Qi m c) (Wr m c) (Wi m c) (Co m c) (Si m c)) (funext fun a => Fin.ext ?_)))
    match a with
    | ⟨0, _⟩ => exact hb
    | ⟨1, _⟩ => show 2 * ((pt (y 0).val (y 1).val).val % 32) + 1 = (y 1).val; omega
    | ⟨2, _⟩ => rfl
  · refine (if_neg h).trans ((evenAt_apply m c _ (y 2)).trans (congrArg (G (Qr m c) (Qi m c) (Wr m c) (Wi m c) (Co m c) (Si m c)) (funext fun a => Fin.ext ?_)))
    match a with
    | ⟨0, _⟩ => exact hb
    | ⟨1, _⟩ => show 2 * ((pt (y 0).val (y 1).val).val % 32) + 0 = (y 1).val; omega
    | ⟨2, _⟩ => rfl

end Cert.Kernel3Ideal.Power

end
-- ==== Proof.Stage2Reference.lean ====
/-
  The reference of the transform's second stage, read element by element: the same powers.
-/
module

public import proofs.«01_k».proof.Defs
public import proofs.«01_k».proof.Proof.Stage2
public import proofs.«01_k».proof.Proof.Gen.Reference3Ideal.Run
public import Idealize.ShloMosaic.Lib.Pointwise

@[expose] public section

set_option maxRecDepth 16384

noncomputable section

open Idealize.ShloMosaic Idealize.ShloMosaic.TcCoe Idealize.SL.Sem

namespace Cert.Reference3Ideal.Stage

open Cert.Reference3Ideal Cert.Reference3Ideal.Gen Cert.Spectrum

variable (qr qi : Vec Ideal S4x8x64x6144 .f32) (wr wi : Vec Ideal S64x128x1 .f32) (C S : Vec Ideal S128x128 .f32)

/-- The groups of sixteen residues side by side. -/
def regroup (q : Vec Ideal S4x8x64x6144 .f32) : FVec Ideal S4x64x128x384 .f32 :=
  shapeCast (α := Elt Ideal .f32) S4x64x128x384 (transpose (α := Elt Ideal .f32) S4x64x8x16x384 [0, 2, 1, 3, 4]
    (shapeCast (α := Elt Ideal .f32) S4x8x64x16x384 q shapeCasts_S4x8x64x6144_S4x8x64x16x384) transposes_S4x8x64x16x384_S4x64x8x16x384_0_2_1_3_4)
    shapeCasts_S4x64x8x16x384_S4x64x128x384

theorem regroup_apply (q : Vec Ideal S4x8x64x6144 .f32) (b : Fin 4) (k : Fin 64) (p : Fin 128) (d : Fin 384) :
    regroup q (ix4 b k p d) = entry q b k p d := by
  pointwise [regroup]
  unfold entry
  refine congrArg q (funext fun z => Fin.ext ?_)
  have := p.isLt
  have := d.isLt
  match z with
  | ⟨0, _⟩ => rfl
  | ⟨1, _⟩ => rfl
  | ⟨2, _⟩ => rfl
  | ⟨3, _⟩ => show (p.val % 16) * 384 + d.val = 384 * (p.val % 16) + d.val; omega

/-- A twiddle's column, the same for every batch entry and feature. -/
def column (w : Vec Ideal S64x128x1 .f32) : FVec Ideal S4x64x128x384 .f32 :=
  broadcastInDim (α := Elt Ideal .f32) S4x64x128x384 ![0, 1, 2, 3] bcast_S1x64x128x1_S4x64x128x384_0_1_2_3
    (broadcastInDim (α := Elt Ideal .f32) S1x64x128x1 ![1, 2, 3] bcast_S64x128x1_S1x64x128x1_1_2_3 w)

theorem column_apply (w : Vec Ideal S64x128x1 .f32) (b : Fin 4) (k : Fin 64) (p : Fin 128) (d : Fin 384) :
    column w (ix4 b k p d) = w (ix3 k p 0) := by
  pointwise [column]

def zr : FVec Ideal S4x64x128x384 .f32 := subf (mulf (regroup qr) (column wr)) (mulf (regroup qi) (column wi))
def zi : FVec Ideal S4x64x128x384 .f32 := addf (mulf (regroup qr) (column wi)) (mulf (regroup qi) (column wr))

theorem zr_apply (b : Fin 4) (k : Fin 64) (p : Fin 128) (d : Fin 384) :
    zr qr qi wr wi (ix4 b k p d) = twr (entry qr b k) (entry qi b k) (fun p _ => wr (ix3 k p 0)) (fun p _ => wi (ix3 k p 0)) p d := by
  have e : zr qr qi wr wi (ix4 b k p d) = regroup qr (ix4 b k p d) * column wr (ix4 b k p d) - regroup qi (ix4 b k p d) * column wi (ix4 b k p d) := rfl
  rw [e, regroup_apply, regroup_apply, column_apply, column_apply]
  rfl

theorem zi_apply (b : Fin 4) (k : Fin 64) (p : Fin 128) (d : Fin 384) :
    zi qr qi wr wi (ix4 b k p d) = twi (entry qr b k) (entry qi b k) (fun p _ => wr (ix3 k p 0)) (fun p _ => wi (ix3 k p 0)) p d := by
  have e : zi qr qi wr wi (ix4 b k p d) = regroup qr (ix4 b k p d) * column wi (ix4 b k p d) + regroup qi (ix4 b k p d) * column wr (ix4 b k p d) := rfl
  rw [e, regroup_apply, regroup_apply, column_apply, column_apply]
  rfl

/-- A table against a series of every batch entry, frequency and feature. -/
def prod (C : Vec Ideal S128x128 .f32) (z : FVec Ideal S4x64x128x384 .f32) : FVec Ideal S4x64x128x384 .f32 :=
  transpose (α := Elt Ideal .f32) S4x64x128x384 [0, 1, 3, 2] (Host.dotGeneral (F := Ideal) (φ₁ := .f32) (φ₂ := .f32) dot_S4x64x128x384_S128x128_S4x64x384x128_2_1_013_0_n_n none z C) transposes_S4x64x384x128_S4x64x128x384_0_1_3_2

theorem prod_apply (z : FVec Ideal S4x64x128x384 .f32) (b : Fin 4) (k : Fin 64) (f : Fin 128) (d : Fin 384) :
    prod C z (ix4 b k f d) = tab C (fun p d => z (ix4 b k p d)) f d := by
  pointwise [prod]
  unfold tab
  exact Finset.sum_congr rfl fun n _ => mul_comm _ _

/-- The powers of a complex series given by its parts. -/
def total (a b : FVec Ideal S4x64x128x384 .f32) : FVec Ideal S4x64x128 .f32 :=
  Host.reduceAdd (addf (mulf (subf (prod C a) (prod S b)) (subf (prod C a) (prod S b))) (mulf (addf (prod C b) (prod S a)) (addf (prod C b) (prod S a))))
    (constant (F := Ideal) S_ .f32 0x00000000#32) reducesTo_S4x64x128x384_S4x64x128_d3 h_S_

theorem total_apply (x y : FVec Ideal S4x64x128x384 .f32) (b : Fin 4) (k : Fin 64) (f : Fin 128) :
    total C S x y (ix3 b k f) = power C S (fun p d => x (ix4 b k p d)) (fun p d => y (ix4 b k p d)) f := by
  pointwise [total]
  unfold power
  simp only [prod_apply]

theorem res : total C S (zr qr qi wr wi) (zi qr qi wr wi) = G qr qi wr wi C S := by
  funext y
  refine (congrArg _ (eq_ix3 y)).trans ((total_apply C S _ _ (y 0) (y 1) (y 2)).trans ?_)
  exact congrArg₂ (fun u v => power C S u v (y 2)) (funext fun p => funext fun d => zr_apply qr qi wr wi (y 0) (y 1) p d)
    (funext fun p => funext fun d => zi_apply qr qi wr wi (y 0) (y 1) p d)

variable (m : (ℓ : Loc nD τ sig) → Buf (Elt Ideal) ℓ)

theorem res_eq (c : Dev nD) : Value.res_main_v33 (F := Ideal) m c
    = total (m ((c.tc : Thread nD τ).loc main_arg4)) (m ((c.tc : Thread nD τ).loc main_arg5))
        (zr (m ((c.tc : Thread nD τ).loc main_arg0)) (m ((c.tc : Thread nD τ).loc main_arg1)) (m ((c.tc : Thread nD τ).loc main_arg2)) (m ((c.tc : Thread nD τ).loc main_arg3)))
        (zi (m ((c.tc : Thread nD τ).loc main_arg0)) (m ((c.tc : Thread nD τ).loc main_arg1)) (m ((c.tc : Thread nD τ).loc main_arg2)) (m ((c.tc : Thread nD τ).loc main_arg3))) := rfl

end Cert.Reference3Ideal.Stage

end
-- ==== Proof.Picks.lean ====
/-
  Taking the greatest entry of a list again and again.

  A list `c` of extended reals, none of them −∞. Round by round the first place of the greatest entry is taken and −∞ put
  there. The places taken are the first places of the list sorted with the greater entries first, equal entries in the
  list's order.
-/
module

public import Idealize.ShloMosaic.Lib.SortPrefix
public import Idealize.ShloMosaic.Lib.SortFacts
public import Mathlib.Data.EReal.Basic

@[expose] public section

noncomputable section

namespace Cert.Picks

open Idealize.ShloMosaic

variable {n : ℕ}

/-- Place `p` holds the greatest entry, and no place before it does. -/
def IsPick (c : Fin n → EReal) (p : Fin n) : Prop := (∀ q, c q ≤ c p) ∧ ∀ q, c q = c p → p ≤ q

/-- The greater entry sorts first. -/
def greater (c : Fin n → EReal) (x y : Fin n) : Bool := decide (c y < c x)

/-- The greater entry sorts first, and of equal entries the earlier. -/
def greaterThenFirst (c : Fin n → EReal) (x y : Fin n) : Bool :=
  decide (c y < c x) || (decide (c x = c y) && decide (x < y))

theorem strict (c : Fin n → EReal) : StrictTotalBefore (greaterThenFirst c) :=
  StrictTotalBefore.of_key_then_position (fun a b : EReal => decide (b < a)) c (by simp)
    (fun a b d h h' => by
      simp only [decide_eq_true_eq] at h h' ⊢
      exact h'.trans h)
    (fun a b => by
      simp only [decide_eq_true_eq]
      rcases lt_trichotomy a b with h | h | h
      · exact Or.inr (Or.inr h)
      · exact Or.inr (Or.inl h)
      · exact Or.inl h)

/-- Inserting a place that comes before every place of an ordered list keeps the list ordered. -/
theorem ordered_insert (c : Fin n → EReal) (a : Fin n) (l : List (Fin n)) (ha : ∀ b ∈ l, a < b)
    (hl : l.Pairwise fun x y => greaterThenFirst c y x = false) :
    (insertBefore (greater c) a l).Pairwise fun x y => greaterThenFirst c y x = false := by
  induction l with
  | nil => simp [insertBefore]
  | cons b l ih =>
    obtain ⟨hb, hl'⟩ := List.pairwise_cons.mp hl
    have hab := ha b List.mem_cons_self
    unfold insertBefore
    split
    · next h =>
      have h1 : c a < c b := by simpa [greater] using h
      refine List.pairwise_cons.mpr ⟨fun x hx => ?_, ih (fun x hx => ha x (List.mem_cons_of_mem _ hx)) hl'⟩
      rcases List.mem_cons.mp ((perm_insertBefore _ a l).mem_iff.mp hx) with rfl | hx'
      · simp only [greaterThenFirst, Bool.or_eq_false_iff, Bool.and_eq_false_iff, decide_eq_false_iff_not]
        exact ⟨not_lt.mpr h1.le, Or.inl h1.ne⟩
      · exact hb x hx'
    · next h =>
      have h1 : c b ≤ c a := by simpa [greater] using h
      refine List.pairwise_cons.mpr ⟨fun x hx => ?_, hl⟩
      have hax := ha x hx
      have hle : c x ≤ c a := by
        rcases List.mem_cons.mp hx with rfl | hx'
        · exact h1
        · have := hb x hx'
          simp only [greaterThenFirst, Bool.or_eq_false_iff, Bool.and_eq_false_iff, decide_eq_false_iff_not, not_lt] at this
          exact this.1.trans h1
      simp only [greaterThenFirst, Bool.or_eq_false_iff, Bool.and_eq_false_iff, decide_eq_false_iff_not]
      exact ⟨not_lt.mpr hle, Or.inr (not_lt.mpr hax.le)⟩

theorem ordered_sort (c : Fin n → EReal) (l : List (Fin n)) (hl : l.Pairwise (· < ·)) :
    (stableSort (greater c) l).Pairwise fun x y => greaterThenFirst c y x = false := by
  induction l with
  | nil => simp [stableSort]
  | cons a l ih =>
    obtain ⟨ha, hl'⟩ := List.pairwise_cons.mp hl
    unfold stableSort
    exact ordered_insert c a _ (fun b hb => ha b ((perm_stableSort _ l).mem_iff.mp hb)) (ih hl')

/-- A stable sort by the entries is the sort by the entries and then the places. -/
theorem sortedFrom_greater (c : Fin n → EReal) : sortedFrom (greater c) = sortedFrom (greaterThenFirst c) := by
  have h : sortPositions n (greater c) = sortPositions n (greaterThenFirst c) :=
    (strict c).eq_stableSort_of_sorted (perm_stableSort _ _) (ordered_sort c _ (List.pairwise_lt_finRange n))
  funext k
  unfold sortedFrom
  simp only [List.get_eq_getElem, h]
  rfl

section Rounds

variable (c : Fin n → EReal) (hc : ∀ q, c q ≠ ⊥) (d : ℕ → Fin n → EReal) (σ : ℕ → Fin n) (h0 : d 0 = c)
  (hs : ∀ r q, d (r + 1) q = if q = σ r then ⊥ else d r q) (hp : ∀ r, IsPick (d r) (σ r))
include h0 hs

/-- After `r` rounds a place not taken holds what it held. -/
theorem kept (r : ℕ) (q : Fin n) (hq : ∀ j < r, σ j ≠ q) : d r q = c q := by
  induction r with
  | zero => rw [h0]
  | succ r ih =>
    rw [hs, if_neg (fun h => hq r (Nat.lt_succ_self r) h.symm)]
    exact ih fun j hj => hq j (Nat.lt_succ_of_lt hj)

/-- After `r` rounds a place taken holds −∞. -/
theorem emptied (r : ℕ) (q : Fin n) (hq : ∃ j < r, σ j = q) : d r q = ⊥ := by
  induction r with
  | zero => obtain ⟨j, hj, -⟩ := hq; exact absurd hj (Nat.not_lt_zero j)
  | succ r ih =>
    rw [hs]
    split
    · rfl
    · next hne =>
      obtain ⟨j, hj, e⟩ := hq
      rcases Nat.lt_succ_iff_lt_or_eq.mp hj with h | h
      · exact ih ⟨j, h, e⟩
      · subst h; exact absurd e.symm hne

include hc hp

/-- While places are left, a round takes a new one. -/
theorem fresh (r : ℕ) (hr : r < n) : ∀ j < r, σ j ≠ σ r := by
  classical
  intro j hj e
  have hex : ∃ q : Fin n, ∀ j < r, σ j ≠ q := by
    by_contra hno
    have hall : ∀ q : Fin n, ∃ j < r, σ j = q := fun q => by
      by_contra hq
      exact hno ⟨q, fun j hj h => hq ⟨j, hj, h⟩⟩
    have hsub : (Finset.univ : Finset (Fin n)) ⊆ (Finset.range r).image σ := fun q _ => by
      obtain ⟨j, hj, h⟩ := hall q
      exact Finset.mem_image.mpr ⟨j, Finset.mem_range.mpr hj, h⟩
    have := (Finset.card_le_card hsub).trans Finset.card_image_le
    rw [Finset.card_univ, Fintype.card_fin, Finset.card_range] at this
    omega
  obtain ⟨q, hq⟩ := hex
  have h1 := (hp r).1 q
  rw [kept c d σ h0 hs r q hq, emptied c d σ h0 hs r (σ r) ⟨j, hj, e⟩] at h1
  exact hc q (le_bot_iff.mp h1)

/-- The places the rounds take are the sort's. -/
theorem sortedFrom_eq (k : ℕ) (hk : k ≤ n) (i : Fin k) : sortedFrom (greater c) (i.castLE hk) = σ i.val := by
  rw [sortedFrom_greater]
  have own : ∀ r < n, d r (σ r) = c (σ r) := fun r hr => kept c d σ h0 hs r _ (fresh c hc d σ h0 hs hp r hr)
  have hle : ∀ (r : ℕ) (_ : r < n) (q : Fin n), (∀ j < r, σ j ≠ q) → greaterThenFirst c q (σ r) = false := by
    intro r hr q hq
    have e := kept c d σ h0 hs r q hq
    have h1 := (hp r).1 q
    rw [e, own r hr] at h1
    simp only [greaterThenFirst, Bool.or_eq_false_iff, Bool.and_eq_false_iff, decide_eq_false_iff_not]
    refine ⟨not_lt.mpr h1, ?_⟩
    by_cases hq' : c q = c (σ r)
    · exact Or.inr (not_lt.mpr ((hp r).2 q (by rw [e, own r hr, hq'])))
    · exact Or.inl hq'
  refine (strict c).sortedFrom_eq_of_prefix hk (fun i : Fin k => σ i.val) ?_ ?_ ?_ i
  · intro i j hij
    rcases lt_trichotomy i.val j.val with h | h | h
    · exact absurd hij (fresh c hc d σ h0 hs hp j.val (by omega) i.val h)
    · exact Fin.ext h
    · exact absurd hij.symm (fresh c hc d σ h0 hs hp i.val (by omega) j.val h)
  · intro i j hij
    exact hle i.val (by omega) _ fun l hl => fresh c hc d σ h0 hs hp j.val (by omega) l (by omega)
  · intro i p hpp
    exact hle i.val (by omega) p fun l hl => hpp ⟨l, by omega⟩

end Rounds

end Cert.Picks

end

end
-- ==== Proof.Rounds.lean ====
/-
  One round of the kernel's search: the first place of the greatest entry of the 64 × 128 array, found as the least flat
  number among the entries equal to the maximum, and −∞ put there.
-/
module

public import proofs.«01_k».proof.Proof.Picks
public import proofs.«01_k».proof.Proof.Gen.Kernel4Ideal.Skeleton
public import Idealize.ShloMosaic.Lib.Pointwise
public import Idealize.ShloMosaic.PureOps.Ideal.Laws
public import Idealize.ShloMosaic.PureOps.Reduce

@[expose] public section

set_option maxRecDepth 16384

noncomputable section

open Idealize.ShloMosaic Idealize.ShloMosaic.TcCoe

namespace Cert.Kernel4Ideal.Search

open Cert.Kernel4Ideal Cert.Kernel4Ideal.Gen Cert.Picks

/-- The greatest entry as the kernel reduces it. -/
def most (v : FVec Ideal S64x128 .f32) : FVec Ideal S1 .f32 :=
  multiReduction .maximumf [1, 2] S1 (shapeCast S1x64x128 v shapeCasts_S64x128_S1x64x128) 0xFF800000#32 reduces_S1x64x128_S1 (.inl rfl) rfl

/-- The flat number where the entry is the greatest, 8192 elsewhere. -/
def marked (v : FVec Ideal S64x128 .f32) : IVec S64x128 32 :=
  select (cmpf .oeq v (broadcast S64x128 (extractAt ![0, 0, 0] (shapeCast S1x1x1 (most v) shapeCasts_S1_S1x1x1) inpos_S1x1x1_p0_0_0)))
    k0_pay4 (broadcast S64x128 8192#32)

def least (v : FVec Ideal S64x128 .f32) : IVec S1 32 :=
  multiReductionI .minsi [1, 2] S1 (shapeCast S1x64x128 (marked v) shapeCasts_S64x128_S1x64x128) 2147483647#32 reduces_S1x64x128_S1 rfl

/-- The place a round finds, as a word. -/
def pick (v : FVec Ideal S64x128 .f32) : BitVec 32 :=
  extractAt ![0, 0, 0] (shapeCast S1x1x1 (least v) shapeCasts_S1_S1x1x1) inpos_S1x1x1_p0_0_0

/-- The array with −∞ at the place found. -/
def next (v : FVec Ideal S64x128 .f32) : FVec Ideal S64x128 .f32 :=
  select (cmpi .eq k0_pay4 (broadcast S64x128 (pick v))) (broadcast S64x128 (Scalar.ofBits .f32 0xFF800000#32)) v

theorem ofBits_bot : (Scalar.ofBits .f32 0xFF800000#32 : Ideal .f32) = (⊥ : EReal) := by
  show Ideal.ofBits .f32 0xFF800000#32 = ⊥
  simp [Ideal.ofBits, Ideal.ieee]

/-- The place of flat number `q`. -/
def at' (q : Fin 8192) : S64x128.Idx :=
  ix2 ⟨q.val / 128, by have := q.isLt; omega⟩ ⟨q.val % 128, by omega⟩

/-- The flat number of a place. -/
def num (y : S64x128.Idx) : Fin 8192 :=
  ⟨128 * (y 0).val + (y 1).val, by
    have h0 : (y 0).val < 64 := (y 0).isLt
    have h1 : (y 1).val < 128 := (y 1).isLt
    omega⟩

theorem num_at (q : Fin 8192) : num (at' q) = q :=
  Fin.ext (show 128 * (q.val / 128) + q.val % 128 = q.val by omega)

theorem at_num (y : S64x128.Idx) : at' (num y) = y := by
  have h0 : (y 0).val < 64 := (y 0).isLt
  have h1 : (y 1).val < 128 := (y 1).isLt
  funext a
  apply Fin.ext
  match a with
  | ⟨0, _⟩ => show (128 * (y 0).val + (y 1).val) / 128 = (y 0).val; omega
  | ⟨1, _⟩ => show (128 * (y 0).val + (y 1).val) % 128 = (y 1).val; omega

theorem flat_apply (y : S64x128.Idx) : (k0_pay4 : IVec S64x128 32) y = BitVec.ofNat 32 (num y).val := by
  have h0 : (y 0).val < 64 := (y 0).isLt
  have h1 : (y 1).val < 128 := (y 1).isLt
  unfold k0_pay4
  dsimp only
  have e0 : (iota .tc S64x128 32 [0] iota_S64x128_d0_w32 : IVec S64x128 32) y = BitVec.ofNat 32 (y 0).val := by
    simp [iota]
  have e1 : (iota .tc S64x128 32 [1] iota_S64x128_d1_w32 : IVec S64x128 32) y = BitVec.ofNat 32 (y 1).val := by
    simp [iota]
  show IntOp.addi (IntOp.muli ((iota .tc S64x128 32 [0] iota_S64x128_d0_w32 : IVec S64x128 32) y) 128#32)
    ((iota .tc S64x128 32 [1] iota_S64x128_d1_w32 : IVec S64x128 32) y) = _
  rw [e0, e1]
  apply BitVec.eq_of_toNat_eq
  simp only [IntOp.addi, IntOp.muli, BitVec.toNat_add, BitVec.toNat_mul, BitVec.toNat_ofNat]
  show _ = (128 * (y 0).val + (y 1).val) % 2 ^ 32
  omega

theorem fold_max_spec {ι : Type} (s : Finset ι) (f : ι → EReal) :
    (∀ i ∈ s, f i ≤ s.fold (FloatOps.maximumf (F := Ideal) (φ := .f32)) (⊥ : EReal) f)
      ∧ (s.Nonempty → ∃ i ∈ s, f i = s.fold (FloatOps.maximumf (F := Ideal) (φ := .f32)) (⊥ : EReal) f) := by
  classical
  induction s using Finset.induction_on with
  | empty => exact ⟨fun i hi => absurd hi (Finset.notMem_empty i), fun h => absurd h Finset.not_nonempty_empty⟩
  | insert a s ha ih =>
    rw [Finset.fold_insert ha]
    change (∀ i ∈ insert a s, f i ≤ max (f a) _) ∧ (_ → ∃ i ∈ insert a s, f i = max (f a) _)
    refine ⟨fun i hi => ?_, fun _ => ?_⟩
    · rcases Finset.mem_insert.mp hi with rfl | h
      · exact le_max_left _ _
      · exact (ih.1 i h).trans (le_max_right _ _)
    · by_cases hs : s.Nonempty
      · obtain ⟨i, hi, e⟩ := ih.2 hs
        rcases max_choice (f a) (s.fold (FloatOps.maximumf (F := Ideal) (φ := .f32)) (⊥ : EReal) f) with h | h
        · exact ⟨a, Finset.mem_insert_self a s, h.symm⟩
        · exact ⟨i, Finset.mem_insert_of_mem hi, e.trans h.symm⟩
      · rw [Finset.not_nonempty_iff_eq_empty.mp hs]
        exact ⟨a, Finset.mem_insert_self a _, (max_bot_right (f a)).symm⟩

theorem fold_min_spec {ι : Type} (s : Finset ι) (f : ι → BitVec 32) (b : BitVec 32) :
    (∀ i ∈ s, (s.fold (IntOp.minsi (w := 32)) b f).toInt ≤ (f i).toInt)
      ∧ (s.fold (IntOp.minsi (w := 32)) b f = b ∨ ∃ i ∈ s, s.fold (IntOp.minsi (w := 32)) b f = f i) := by
  classical
  induction s using Finset.induction_on with
  | empty => exact ⟨fun i hi => absurd hi (Finset.notMem_empty i), Or.inl rfl⟩
  | insert a s ha ih =>
    rw [Finset.fold_insert ha]
    unfold IntOp.minsi at ih ⊢
    simp only [BitVec.slt, decide_eq_true_eq] at ih ⊢
    split
    · next h =>
      refine ⟨fun i hi => ?_, Or.inr ⟨a, Finset.mem_insert_self a s, rfl⟩⟩
      rcases Finset.mem_insert.mp hi with rfl | h'
      · exact le_refl _
      · exact h.le.trans (ih.1 i h')
    · next h =>
      refine ⟨fun i hi => ?_, ?_⟩
      · rcases Finset.mem_insert.mp hi with rfl | h'
        · exact not_lt.mp h
        · exact ih.1 i h'
      · rcases ih.2 with e | ⟨i, hi, e⟩
        · exact Or.inl e
        · exact Or.inr ⟨i, Finset.mem_insert_of_mem hi, e⟩

theorem one_index (i j : S1.Idx) : i = j := by
  funext a
  match a with
  | ⟨0, _⟩ => exact Fin.ext (by
    have h1 : (i 0).val < 1 := (i 0).isLt
    have h2 : (j 0).val < 1 := (j 0).isLt
    show (i 0).val = (j 0).val
    omega)

/-- The greatest entry is one, and no entry exceeds it. -/
theorem most_spec (v : FVec Ideal S64x128 .f32) (j : S1.Idx) : (∀ y, v y ≤ most v j) ∧ ∃ y, v y = most v j := by
  have e : most v j = (Finset.univ : Finset S1x64x128.Idx).fold (FloatOps.maximumf (F := Ideal) (φ := .f32)) (⊥ : EReal)
      (shapeCast S1x64x128 v shapeCasts_S64x128_S1x64x128) := by
    unfold most
    refine (multiReduction_maximumf_eq_fold (F := Ideal) (φ := .f32) _ _ _ _ _ j).trans ?_
    rw [Finset.filter_true_of_mem fun i _ => one_index _ _]
    exact congrArg (fun b => Finset.fold (FloatOps.maximumf (F := Ideal) (φ := .f32)) b _ _) ofBits_bot
  obtain ⟨h1, h2⟩ := fold_max_spec (Finset.univ : Finset S1x64x128.Idx) (shapeCast S1x64x128 v shapeCasts_S64x128_S1x64x128)
  rw [← e] at h1 h2
  refine ⟨fun y => ?_, ?_⟩
  · have h := h1 ((Shape.reshapeEquiv shapeCasts_S64x128_S1x64x128).symm y) (Finset.mem_univ _)
    have e' : shapeCast S1x64x128 v shapeCasts_S64x128_S1x64x128 ((Shape.reshapeEquiv shapeCasts_S64x128_S1x64x128).symm y) = v y := by
      show v (Shape.reshapeEquiv _ _) = v y
      rw [Equiv.apply_symm_apply]
    exact e' ▸ h
  · obtain ⟨i, -, hi⟩ := h2 ⟨ix3 0 0 0, Finset.mem_univ _⟩
    exact ⟨_, hi⟩

theorem least_spec (v : FVec Ideal S64x128 .f32) (j : S1.Idx) :
    (∀ y, (least v j).toInt ≤ (marked v y).toInt) ∧ (least v j = 2147483647#32 ∨ ∃ y, least v j = marked v y) := by
  have e : least v j = (Finset.univ : Finset S1x64x128.Idx).fold (IntOp.minsi (w := 32)) 2147483647#32
      (shapeCast S1x64x128 (marked v) shapeCasts_S64x128_S1x64x128) := by
    unfold least
    refine (multiReductionI_eq_fold _ _ _ _ _ j).trans ?_
    rw [Finset.filter_true_of_mem fun i _ => one_index _ _]
    rfl
  obtain ⟨h1, h2⟩ := fold_min_spec (Finset.univ : Finset S1x64x128.Idx) (shapeCast S1x64x128 (marked v) shapeCasts_S64x128_S1x64x128) 2147483647#32
  rw [← e] at h1 h2
  refine ⟨fun y => ?_, ?_⟩
  · have h := h1 ((Shape.reshapeEquiv shapeCasts_S64x128_S1x64x128).symm y) (Finset.mem_univ _)
    have e' : shapeCast S1x64x128 (marked v) shapeCasts_S64x128_S1x64x128 ((Shape.reshapeEquiv shapeCasts_S64x128_S1x64x128).symm y) = marked v y := by
      show marked v (Shape.reshapeEquiv _ _) = marked v y
      rw [Equiv.apply_symm_apply]
    exact e' ▸ h
  · rcases h2 with h | ⟨i, -, hi⟩
    · exact Or.inl h
    · exact Or.inr ⟨_, hi⟩

theorem choose_apply (v : FVec Ideal S64x128 .f32) (M : EReal) (K : IVec S64x128 32) (y : S64x128.Idx) :
    select (cmpf .oeq v (broadcast S64x128 (M : Ideal .f32))) K (broadcast S64x128 8192#32) y = if v y = M then K y else 8192#32 := by
  show (if BitVec.ofBool (decide (v y = M)) = 1#1 then K y else 8192#32) = _
  by_cases h : v y = M
  · rw [if_pos h, decide_eq_true h]; rfl
  · rw [if_neg h, decide_eq_false h]; rfl

theorem empty_apply (v : FVec Ideal S64x128 .f32) (w : BitVec 32) (x : EReal) (K : IVec S64x128 32) (y : S64x128.Idx) :
    select (cmpi .eq K (broadcast S64x128 w)) (broadcast S64x128 (x : Ideal .f32)) v y = if K y = w then x else v y := by
  show (if BitVec.ofBool (K y == w) = 1#1 then x else v y) = _
  by_cases h : K y = w
  · rw [if_pos h, beq_iff_eq.mpr h]; rfl
  · rw [if_neg h, beq_eq_false_iff_ne.mpr h]; rfl

theorem marked_apply (v : FVec Ideal S64x128 .f32) (y : S64x128.Idx) :
    marked v y = if v y = most v (ix1 0) then BitVec.ofNat 32 (num y).val else 8192#32 := by
  have e : extractAt ![0, 0, 0] (shapeCast S1x1x1 (most v) shapeCasts_S1_S1x1x1) inpos_S1x1x1_p0_0_0 = most v (ix1 0) :=
    congrArg (most v) (one_index _ _)
  unfold marked
  rw [e]
  refine (choose_apply v (most v (ix1 0)) k0_pay4 y).trans ?_
  rw [flat_apply]

theorem toInt_small (k : ℕ) (h : k ≤ 8192) : (BitVec.ofNat 32 k).toInt = (k : ℤ) := by
  have e : (BitVec.ofNat 32 k).toNat = k := by
    rw [BitVec.toNat_ofNat]; omega
  rw [BitVec.toInt_eq_toNat_of_lt (by rw [e]; omega), e]

/-- A round finds the first place of the greatest entry. -/
theorem pick_spec (v : FVec Ideal S64x128 .f32) :
    ∃ p : Fin 8192, pick v = BitVec.ofNat 32 p.val ∧ IsPick (fun q => v (at' q)) p := by
  have e : pick v = least v (ix1 0) := congrArg (least v) (one_index _ _)
  obtain ⟨h1, h2⟩ := most_spec v (ix1 0)
  obtain ⟨l1, l2⟩ := least_spec v (ix1 0)
  obtain ⟨ys, hys⟩ := h2
  have hlt : (least v (ix1 0)).toInt < 8192 := by
    have := l1 ys
    rw [marked_apply, if_pos hys, toInt_small _ (num ys).isLt.le] at this
    have := (num ys).isLt
    omega
  rcases l2 with h | ⟨y, hy⟩
  · rw [h] at hlt; exact absurd hlt (by decide)
  · rw [marked_apply] at hy
    by_cases hv : v y = most v (ix1 0)
    · rw [if_pos hv] at hy
      refine ⟨num y, e.trans hy, fun q => ?_, fun q hq => ?_⟩
      · show v (at' q) ≤ v (at' (num y))
        rw [at_num, hv]; exact h1 _
      · have hq' : v (at' q) = most v (ix1 0) := by
          have : v (at' q) = v (at' (num y)) := hq
          rw [this, at_num, hv]
        have := l1 (at' q)
        rw [marked_apply, if_pos hq', num_at, hy, toInt_small _ (num y).isLt.le, toInt_small _ q.isLt.le] at this
        exact Fin.le_def.mpr (by omega)
    · rw [if_neg hv] at hy
      rw [hy] at hlt; exact absurd hlt (by decide)

/-- The place a round finds. -/
def place (v : FVec Ideal S64x128 .f32) : Fin 8192 := (pick_spec v).choose

theorem pick_eq (v : FVec Ideal S64x128 .f32) : pick v = BitVec.ofNat 32 (place v).val := (pick_spec v).choose_spec.1

theorem place_isPick (v : FVec Ideal S64x128 .f32) : IsPick (fun q => v (at' q)) (place v) := (pick_spec v).choose_spec.2

theorem next_apply (v : FVec Ideal S64x128 .f32) (q : Fin 8192) : next v (at' q) = if q = place v then (⊥ : EReal) else v (at' q) := by
  unfold next
  rw [pick_eq]
  refine (empty_apply v _ _ k0_pay4 (at' q)).trans ?_
  rw [flat_apply, num_at, ofBits_bot]
  by_cases h : q = place v
  · rw [if_pos h, h, if_pos rfl]
  · rw [if_neg h, if_neg]
    intro h'
    apply h
    have := congrArg BitVec.toNat h'
    simp only [BitVec.toNat_ofNat] at this
    have h1 := q.isLt
    have h2 := (place v).isLt
    exact Fin.ext (by omega)

/-- The array after `r` rounds. -/
def after (v : FVec Ideal S64x128 .f32) : ℕ → FVec Ideal S64x128 .f32
  | 0 => v
  | r + 1 => next (after v r)

/-- The thirteen places found are the first thirteen of the array sorted, the greater entries first. -/
theorem picks (v : FVec Ideal S64x128 .f32) (hv : ∀ q, v (at' q) ≠ (⊥ : EReal)) (i : Fin 13) :
    pick (after v i.val) = BitVec.ofNat 32 (sortedFrom (greater fun q => v (at' q)) (i.castLE (by decide))).val := by
  rw [sortedFrom_eq (fun q => v (at' q)) hv (fun r q => after v r (at' q)) (fun r => place (after v r)) rfl
    (fun r q => next_apply (after v r) q) (fun r => place_isPick (after v r)) 13 (by decide) i]
  exact pick_eq _

end Cert.Kernel4Ideal.Search

end
-- ==== Proof.Places.lean ====
/-
  What a grid point of the search leaves in its block: in the first thirteen slots the places found, zero in the last three.
-/
module

public import proofs.«01_k».proof.Proof.Rounds
public import proofs.«01_k».proof.Proof.Gen.Kernel4Ideal.Value
public import Idealize.ShloMosaic.Lib.WritesUnit

@[expose] public section

set_option maxRecDepth 16384

noncomputable section

open Idealize.ShloMosaic Idealize.ShloMosaic.TcCoe

namespace Cert.Kernel4Ideal.Search

open Cert.Kernel4Ideal Cert.Kernel4Ideal.Gen Cert.Picks

/-! ## The rounds as the program cuts them -/

section Cut

variable (a b v : FVec Ideal S64x128 .f32)

/-- Where a round's place is. -/
def found (v : FVec Ideal S64x128 .f32) : IVec S64x128 1 := cmpi .eq k0_pay4 (broadcast S64x128 (pick v))

/-- Where the greatest entry is. -/
def greatest (v : FVec Ideal S64x128 .f32) : IVec S64x128 1 :=
  cmpf .oeq v (broadcast S64x128 (extractAt ![0, 0, 0] (shapeCast S1x1x1 (most v) shapeCasts_S1_S1x1x1) inpos_S1x1x1_p0_0_0))

theorem pay7 : k0_pay7 a b = next (k0_pay5 a b) := rfl
theorem pay9 : k0_pay9 a b = next (k0_pay7 a b) := rfl
theorem pay10 : k0_pay10 a b = most (k0_pay9 a b) := rfl
theorem pay12 : k0_pay12 k0_pay4 v (most v) = next v := rfl
theorem pay14 : k0_pay14 k0_pay4 v (most v) = next (k0_pay12 k0_pay4 v (most v)) := rfl
theorem pay15 : k0_pay15 k0_pay4 v (most v) = least (k0_pay14 k0_pay4 v (most v)) := rfl
theorem pay17 : k0_pay17 k0_pay4 v (least v) = next v := rfl
theorem pay19 : k0_pay19 k0_pay4 v (least v) = next (k0_pay17 k0_pay4 v (least v)) := rfl
theorem pay21 : k0_pay21 k0_pay4 v (least v) = found (k0_pay19 k0_pay4 v (least v)) := rfl
theorem pay22 : k0_pay22 v (found v) (Scalar.ofBits .f32 0xFF800000#32) = next v := rfl
theorem pay24 : k0_pay24 k0_pay4 v (found v) (Scalar.ofBits .f32 0xFF800000#32) = next (next v) := rfl
theorem pay26 : k0_pay26 k0_pay4 v (found v) (Scalar.ofBits .f32 0xFF800000#32) = next (next (next v)) := rfl
theorem pay27 : k0_pay27 k0_pay4 v (found v) (Scalar.ofBits .f32 0xFF800000#32) = greatest (next (next (next v))) := rfl
theorem pay29 : k0_pay29 k0_pay4 v (greatest v) 8192#32 = next v := rfl
theorem pay31 : k0_pay31 k0_pay4 v (greatest v) 8192#32 = next (next v) := rfl

theorem word6 : extractAt ![0, 0, 0] (k0_pay6 a b) inpos_S1x1x1_p0_0_0 = pick (k0_pay5 a b) := rfl
theorem word8 : extractAt ![0, 0, 0] (k0_pay8 a b) inpos_S1x1x1_p0_0_0 = pick (k0_pay7 a b) := rfl
theorem word11 : extractAt ![0, 0, 0] (k0_pay11 k0_pay4 v (most v)) inpos_S1x1x1_p0_0_0 = pick v := rfl
theorem word13 : extractAt ![0, 0, 0] (k0_pay13 k0_pay4 v (most v)) inpos_S1x1x1_p0_0_0 = pick (next v) := rfl
theorem word16 : extractAt ![0, 0, 0] (k0_pay16 (least v)) inpos_S1x1x1_p0_0_0 = pick v := rfl
theorem word18 : extractAt ![0, 0, 0] (k0_pay18 k0_pay4 v (least v)) inpos_S1x1x1_p0_0_0 = pick (next v) := rfl
theorem word20 : extractAt ![0, 0, 0] (k0_pay20 k0_pay4 v (least v)) inpos_S1x1x1_p0_0_0 = pick (next (next v)) := rfl
theorem word23 : extractAt ![0, 0, 0] (k0_pay23 k0_pay4 v (found v) (Scalar.ofBits .f32 0xFF800000#32)) inpos_S1x1x1_p0_0_0 = pick (next v) := rfl
theorem word25 : extractAt ![0, 0, 0] (k0_pay25 k0_pay4 v (found v) (Scalar.ofBits .f32 0xFF800000#32)) inpos_S1x1x1_p0_0_0 = pick (next (next v)) := rfl
theorem word28 : extractAt ![0, 0, 0] (k0_pay28 k0_pay4 (greatest v) 8192#32) inpos_S1x1x1_p0_0_0 = pick v := rfl
theorem word30 : extractAt ![0, 0, 0] (k0_pay30 k0_pay4 v (greatest v) 8192#32) inpos_S1x1x1_p0_0_0 = pick (next v) := rfl
theorem word32 : extractAt ![0, 0, 0] (k0_pay32 k0_pay4 v (greatest v) 8192#32) inpos_S1x1x1_p0_0_0 = pick (next (next v)) := rfl
theorem word1 : extractAt ![0, 0, 0] (k0_pay1 k0_pay4 v (pick v)) inpos_S1x1x1_p0_0_0 = pick (next v) := rfl

end Cut

/-! ## One block -/

theorem read_cell (f : VO0_9.ref.ty.Contents (Elt Ideal)) (k : ℕ) (h : ∀ a, (![0, 0, k] : Fin 3 → ℕ) a + S1x1x1.size a ≤ S1x1x16.size a)
    (w : BitVec 32) (L : List (View.Piece (Elt Ideal) S1x1x16 .i32)) (i : Fin 16) :
    VO0_9.read (Elt Ideal) (VO0_9.writes (Elt Ideal) f (⟨Rect.unit (s := S1x1x16) ![0, 0, k] S1x1x1.size h, fun _ => w⟩ :: L)) (ix3 0 0 i)
      = if i.val = k then w else VO0_9.read (Elt Ideal) (VO0_9.writes (Elt Ideal) f L) (ix3 0 0 i) := by
  by_cases hi : i.val = k
  · rw [if_pos hi]
    refine View.read_writes_cons_unit_of_mem VO0_9 f h (fun _ => w) L _ (ix3 0 0 0) rfl fun a => ?_
    match a with
    | ⟨0, _⟩ => rfl
    | ⟨1, _⟩ => rfl
    | ⟨2, _⟩ => exact hi
  · rw [if_neg hi]
    exact View.read_writes_cons_unit_of_not_mem VO0_9 f h (fun _ => w) L _ rfl ⟨2, by decide⟩ (by
      show i.val < k ∨ k + 1 ≤ i.val
      omega)

/-- A whole memref read whole. -/
theorem read_whole {t : Shape} {e : EltTy} {m : Memref sig .tc .vmem t e} (h : m.IsWhole) (x : t.Idx → Elt Ideal e) (o : Fin t.rank → ℕ)
    (ho : ∀ a, o a = 0) (inb : ∀ a, o a + t.size a ≤ t.size a) :
    m.view.readAt (Elt Ideal) (Rect.unit (s := t) o t.size inb).toLoadRect (h.unread x) = x := by
  funext y
  rw [View.readAt_apply, h.read_unread]
  refine congrArg x (funext fun a => Fin.ext ?_)
  show o a + 1 * (y a).val = (y a).val
  rw [ho a]
  omega

theorem zero3 : ∀ a, (![0, 0, 0] : Fin 3 → ℕ) a = 0 := by decide
theorem zero2 : ∀ a, (![0, 0] : Fin 2 → ℕ) a = 0 := by decide

section Block

variable (x0 : Vec Ideal S1x64x128 .f32) (x1 x2 : Vec Ideal S128x128 .f32) (x3 x4 : Vec Ideal S64x128 .f32) (x5 x6 x7 : Vec Ideal S64x64 .f32)
  (x8 : Vec Ideal S128x128 .f32)

/-- The array searched: the correlation plus its mirror. -/
def searched : FVec Ideal S64x128 .f32 := k0_pay5 (k0_pay2 x0 x1 x2 x3 x4 x5 x6) (k0_pay3 x0 x1 x2 x3 x4 x5 x6 x7 x8)

/-- The slots a point fills. -/
def slot (v : FVec Ideal S64x128 .f32) (i : ℕ) : BitVec 32 := if i < 13 then pick (after v i) else 0#32

theorem out_apply (c : Dev nD) (j : grid0.Coords) (arg1 : Memref sig .tc .vmem S1x64x128 .f32) (harg1 : arg1.IsWhole)
    (arg2 : Memref sig .tc .vmem S128x128 .f32) (harg2 : arg2.IsWhole) (arg3 : Memref sig .tc .vmem S128x128 .f32) (harg3 : arg3.IsWhole)
    (arg4 : Memref sig .tc .vmem S64x128 .f32) (harg4 : arg4.IsWhole) (arg5 : Memref sig .tc .vmem S64x128 .f32) (harg5 : arg5.IsWhole)
    (arg6 : Memref sig .tc .vmem S64x64 .f32) (harg6 : arg6.IsWhole) (arg7 : Memref sig .tc .vmem S64x64 .f32) (harg7 : arg7.IsWhole)
    (arg8 : Memref sig .tc .vmem S64x64 .f32) (harg8 : arg8.IsWhole) (arg9 : Memref sig .tc .vmem S128x128 .f32) (harg9 : arg9.IsWhole)
    (arg10 : Memref sig .tc .smem S1x1x16 .i32) (harg10 : arg10.IsWhole) (i : Fin 16) :
    out0_A_9 c j arg1 harg1 arg2 harg2 arg3 harg3 arg4 harg4 arg5 harg5 arg6 harg6 arg7 harg7 arg8 harg8 arg9 harg9 arg10 harg10 x0 x1 x2 x3 x4 x5 x6 x7 x8 (ix3 0 0 i)
      = slot (searched x0 x1 x2 x3 x4 x5 x6 x7 x8) i.val := by
  have q0 := read_whole harg1 x0 ![0, 0, 0] zero3 inb_S1x64x128_S1x64x128_0_0_0
  have q1 := read_whole harg2 x1 ![0, 0] zero2 inb_S128x128_S128x128_0_0
  have q2 := read_whole harg3 x2 ![0, 0] zero2 inb_S128x128_S128x128_0_0
  have q3 := read_whole harg4 x3 ![0, 0] zero2 inb_S64x128_S64x128_0_0
  have q4 := read_whole harg5 x4 ![0, 0] zero2 inb_S64x128_S64x128_0_0
  have q5 := read_whole harg6 x5 ![0, 0] zero2 inb_S64x64_S64x64_0_0
  have q6 := read_whole harg7 x6 ![0, 0] zero2 inb_S64x64_S64x64_0_0
  have q7 := read_whole harg8 x7 ![0, 0] zero2 inb_S64x64_S64x64_0_0
  have q8 := read_whole harg9 x8 ![0, 0] zero2 inb_S128x128_S128x128_0_0
  unfold out0_A_9 kernelRun0_A
  dsimp only
  simp only [kernelRun0_A.sl.v50, kernelRun0_A.sl.v67, kernelRun0_A.sl.v84, kernelRun0_A.sl.v101, kernelRun0_A.sl.v118, kernelRun0_A.sl.v135,
    kernelRun0_A.sl.v152, kernelRun0_A.sl.v169, kernelRun0_A.sl.v186, kernelRun0_A.sl.v203, kernelRun0_A.sl.v220, kernelRun0_A.sl.v237,
    kernelRun0_A.sl.r, kernelRun0_A.sl.r_1, kernelRun0_A.sl.r_4, kernelRun0_A.sl.r_5, kernelRun0_A.sl.r_8, kernelRun0_A.sl.r_9, kernelRun0_A.sl.r_13,
    kernelRun0_A.sl.r_14, kernelRun0_A.sl.r_17, kernelRun0_A.sl.r_18, kernelRun0_A.sl.r_21, kernelRun0_A.sl.cst_64, q0, q1, q2, q3, q4, q5, q6, q7, q8,
    pay7, pay9, pay10, pay12, pay14, pay15, pay17, pay19, pay21, pay22, pay24, pay26, pay27, pay29, pay31, word6, word8, word11, word13, word16,
    word18, word20, word23, word25, word28, word30, word32, word1]
  have hc : k0_pay5 (k0_pay2 x0 x1 x2 x3 x4 x5 x6) (k0_pay3 x0 x1 x2 x3 x4 x5 x6 x7 x8) = searched x0 x1 x2 x3 x4 x5 x6 x7 x8 := rfl
  rw [hc]
  generalize searched x0 x1 x2 x3 x4 x5 x6 x7 x8 = v
  refine (read_cell _ 15 _ _ _ i).trans ?_
  rw [read_cell, read_cell, read_cell, read_cell, read_cell, read_cell, read_cell, read_cell, read_cell, read_cell, read_cell, read_cell, read_cell, read_cell, read_cell]
  obtain ⟨i, hi⟩ := i
  interval_cases i <;> rfl

end Block

end Cert.Kernel4Ideal.Search

end
-- ==== Proof.Correlation.lean ====
/-
  The array that is searched: the correlation found from the power and its mirror image, added.
-/
module

public import proofs.«01_k».proof.Proof.Places

@[expose] public section

set_option maxRecDepth 16384

noncomputable section

open Idealize.ShloMosaic Idealize.ShloMosaic.TcCoe

namespace Cert.Correlation

open Cert.Kernel4Ideal

section Sums

variable (s : Fin 64 → Fin 128 → EReal) (icr ici : Vec Ideal S128x128 .f32) (itwr itwi : Vec Ideal S64x128 .f32)
  (i64r i64i rev64 : Vec Ideal S64x64 .f32) (rev128 : Vec Ideal S128x128 .f32)

/-- The power against a table. -/
def rowsum (w : Vec Ideal S128x128 .f32) (k : Fin 64) (n : Fin 128) : EReal := ∑ p : Fin 128, s k p * w (ix2 p n)

/-- The inner transform, twiddled: its real and imaginary parts. -/
def re (k : Fin 64) (n : Fin 128) : EReal := rowsum s icr k n * itwr (ix2 k n) - rowsum s ici k n * itwi (ix2 k n)
def im (k : Fin 64) (n : Fin 128) : EReal := rowsum s icr k n * itwi (ix2 k n) + rowsum s ici k n * itwr (ix2 k n)

/-- The correlation at time `128 f + n`. -/
def corr (f : Fin 64) (n : Fin 128) : EReal :=
  (∑ k : Fin 64, i64r (ix2 f k) * re s icr ici itwr itwi k n) - ∑ k : Fin 64, i64i (ix2 f k) * im s icr ici itwr itwi k n

/-- The correlation between the two tables that turn it round. -/
def turned (f : Fin 64) (n : Fin 128) : EReal :=
  ∑ p : Fin 128, (∑ k : Fin 64, rev64 (ix2 f k) * corr s icr ici itwr itwi i64r i64i k p) * rev128 (ix2 p n)

/-- The place before, the first place's being the last. -/
def row (f : Fin 64) (n : Fin 128) : Fin 64 := ⟨if n.val = 0 then (f.val + 63) % 64 else f.val, by have := f.isLt; split <;> omega⟩
def col (n : Fin 128) : Fin 128 := ⟨(n.val + 127) % 128, by omega⟩

/-- The correlation plus its mirror image. -/
def both (f : Fin 64) (n : Fin 128) : EReal :=
  corr s icr ici itwr itwi i64r i64i f n + turned s icr ici itwr itwi i64r i64i rev64 rev128 (row f n) (col n)

/-! ## Nothing infinite comes of numbers -/

/-- A number, no infinity. -/
def Num (x : EReal) : Prop := ∃ r : ℝ, x = (r : EReal)

theorem Num.add {x y : EReal} : Num x → Num y → Num (x + y) := by
  rintro ⟨a, rfl⟩ ⟨b, rfl⟩; exact ⟨a + b, (EReal.coe_add a b).symm⟩
theorem Num.sub {x y : EReal} : Num x → Num y → Num (x - y) := by
  rintro ⟨a, rfl⟩ ⟨b, rfl⟩; exact ⟨a - b, (EReal.coe_sub a b).symm⟩
theorem Num.mul {x y : EReal} : Num x → Num y → Num (x * y) := by
  rintro ⟨a, rfl⟩ ⟨b, rfl⟩; exact ⟨a * b, (EReal.coe_mul a b).symm⟩
theorem Num.sum {ι : Type} {t : Finset ι} {f : ι → EReal} (h : ∀ i, Num (f i)) : Num (∑ i ∈ t, f i) := by
  classical
  induction t using Finset.induction_on with
  | empty => exact ⟨0, by simp⟩
  | insert a t ha ih => rw [Finset.sum_insert ha]; exact (h a).add ih
theorem Num.ne_bot {x : EReal} : Num x → x ≠ ⊥ := by
  rintro ⟨a, rfl⟩; exact EReal.coe_ne_bot a

theorem both_num (hs : ∀ k p, Num (s k p)) (h1 : ∀ y, Num (icr y)) (h2 : ∀ y, Num (ici y)) (h3 : ∀ y, Num (itwr y)) (h4 : ∀ y, Num (itwi y))
    (h5 : ∀ y, Num (i64r y)) (h6 : ∀ y, Num (i64i y)) (h7 : ∀ y, Num (rev64 y)) (h8 : ∀ y, Num (rev128 y)) (f : Fin 64) (n : Fin 128) :
    Num (both s icr ici itwr itwi i64r i64i rev64 rev128 f n) := by
  have a1 : ∀ k n, Num (rowsum s icr k n) := fun k n => Num.sum fun p => (hs k p).mul (h1 _)
  have a2 : ∀ k n, Num (rowsum s ici k n) := fun k n => Num.sum fun p => (hs k p).mul (h2 _)
  have b1 : ∀ k n, Num (re s icr ici itwr itwi k n) := fun k n => ((a1 k n).mul (h3 _)).sub ((a2 k n).mul (h4 _))
  have b2 : ∀ k n, Num (im s icr ici itwr itwi k n) := fun k n => ((a1 k n).mul (h4 _)).add ((a2 k n).mul (h3 _))
  have c1 : ∀ f n, Num (corr s icr ici itwr itwi i64r i64i f n) := fun f n =>
    (Num.sum fun k => (h5 _).mul (b1 k n)).sub (Num.sum fun k => (h6 _).mul (b2 k n))
  exact (c1 f n).add (Num.sum fun p => (Num.sum fun k => (h7 _).mul (c1 k p)).mul (h8 _))

end Sums

end Cert.Correlation

namespace Cert.Kernel4Ideal.Search

open Cert.Kernel4Ideal Cert.Kernel4Ideal.Gen Cert.Correlation

variable (x0 : Vec Ideal S1x64x128 .f32) (x1 x2 : Vec Ideal S128x128 .f32) (x3 x4 : Vec Ideal S64x128 .f32) (x5 x6 x7 : Vec Ideal S64x64 .f32)
  (x8 : Vec Ideal S128x128 .f32)

/-- The power of one batch entry. -/
def power : Fin 64 → Fin 128 → EReal := fun k p => x0 (ix3 0 k p)

theorem corr_apply (f : Fin 64) (n : Fin 128) : k0_pay2 x0 x1 x2 x3 x4 x5 x6 (ix2 f n) = corr (power x0) x1 x2 x3 x4 x5 x6 f n := by
  pointwise [k0_pay2]
  rfl

/-- The mirror image of an array: a step on, along the rows and from the last row to the first. -/
def stepped (v22 : FVec Ideal S64x128 .f32) : FVec Ideal S64x128 .f32 :=
  have v25 : FVec Ideal S64x128 .f32 := concatenate S64x128 1
    [⟨S64x1, extractStridedSlice S64x1 ![0, 127] v22 slices_S64x128_o0_127_S64x1⟩,
     ⟨S64x127, extractStridedSlice S64x127 ![0, 0] v22 slices_S64x128_o0_0_S64x127⟩] concatenates_S64x1_S64x127_S64x128_d1
  select (cmpi .eq (iota .tc S64x128 32 [1] iota_S64x128_d1_w32) (broadcast S64x128 0#32))
    (concatenate S64x128 0
      [⟨S1x128, extractStridedSlice S1x128 ![63, 0] v25 slices_S64x128_o63_0_S1x128⟩,
       ⟨S63x128, extractStridedSlice S63x128 ![0, 0] v25 slices_S64x128_o0_0_S63x128⟩] concatenates_S1x128_S63x128_S64x128_d0) v25

/-- An array between the two tables that turn it round. -/
def turn (v18 : FVec Ideal S64x128 .f32) (x7 : FVec Ideal S64x64 .f32) (x8 : FVec Ideal S128x128 .f32) : FVec Ideal S64x128 .f32 :=
  matmul dot_S64x128_S128x128_S64x128_1_0_0_1_n_n (some .fp32)
    (matmul dot_S64x64_S64x128_S64x128_1_0_0_1_n_n (some .fp32) x7 v18 (constant S64x128 .f32 0x00000000#32)) x8 (constant S64x128 .f32 0x00000000#32)

theorem pay3_eq : k0_pay3 x0 x1 x2 x3 x4 x5 x6 x7 x8 = stepped (turn (k0_pay2 x0 x1 x2 x3 x4 x5 x6) x7 x8) := rfl

theorem turn_apply (v : FVec Ideal S64x128 .f32) (f : Fin 64) (n : Fin 128) :
    turn v x7 x8 (ix2 f n) = ∑ p : Fin 128, (∑ k : Fin 64, x7 (ix2 f k) * v (ix2 k p)) * x8 (ix2 p n) := by
  pointwise [turn]

theorem stepped_apply (v : FVec Ideal S64x128 .f32) (f : Fin 64) (n : Fin 128) : stepped v (ix2 f n) = v (ix2 (row f n) (col n)) := by
  pointwise [stepped]
  have hc : Scalar.select (α := EReal) (IntOp.cmpi .eq (BitVec.ofNat 32 n.val) 0#32) = fun a b => if n.val = 0 then a else b := by
    funext a b
    have hn := n.isLt
    by_cases h : n.val = 0
    · rw [if_pos h, h]; rfl
    · rw [if_neg h]
      have hne : (BitVec.ofNat 32 n.val == 0#32) = false := by
        refine beq_eq_false_iff_ne.mpr fun e => h ?_
        have e' := congrArg BitVec.toNat e
        rw [BitVec.toNat_ofNat, Nat.mod_eq_of_lt (show n.val < 2 ^ 32 by omega)] at e'
        exact e'
      simp [Scalar.select, IntOp.cmpi, hne]
  refine (congrFun (congrFun hc _) _).trans ?_
  have hf := f.isLt
  have hn := n.isLt
  by_cases h : n.val = 0
  · rw [if_pos h]
    by_cases h' : f.val < 1
    · rw [dif_pos h', dif_pos (by omega)]
      congr 2 <;> apply Fin.ext <;> simp only [row, col, h, if_true, if_false] <;> omega
    · rw [dif_neg h', dif_pos (by omega)]
      congr 2 <;> apply Fin.ext <;> simp only [row, col, h, if_true, if_false] <;> omega
  · rw [if_neg h, dif_neg (by omega)]
    congr 2 <;> apply Fin.ext <;> simp only [row, col, h, if_true, if_false] <;> omega

theorem searched_apply (f : Fin 64) (n : Fin 128) :
    searched x0 x1 x2 x3 x4 x5 x6 x7 x8 (ix2 f n) = both (power x0) x1 x2 x3 x4 x5 x6 x7 x8 f n := by
  unfold searched k0_pay5
  rw [pay3_eq]
  show (k0_pay2 x0 x1 x2 x3 x4 x5 x6 (ix2 f n) : EReal) + stepped (turn (k0_pay2 x0 x1 x2 x3 x4 x5 x6) x7 x8) (ix2 f n) = _
  rw [stepped_apply, turn_apply, corr_apply]
  simp only [corr_apply]
  rfl

end Cert.Kernel4Ideal.Search

end
-- ==== Proof.Delays4.lean ====
/-
  The fourth program's whole result: for each batch entry, the delays its own search finds.
-/
module

public import proofs.«01_k».proof.Defs
public import proofs.«01_k».proof.Proof.Gen.Kernel4Ideal.Value
public import proofs.«01_k».proof.Proof.Correlation

@[expose] public section

set_option maxRecDepth 16384

noncomputable section

open Idealize.ShloMosaic Idealize.ShloMosaic.TcCoe Idealize.SL.Sem
open Idealize.ShloMosaic.Pipeline (Dat)

namespace Cert.Kernel4Ideal.Search

open Cert.Kernel4Ideal Cert.Kernel4Ideal.Gen

variable (m : (ℓ : Loc nD τ sig) → Buf (Elt Ideal) ℓ)

abbrev T0 (c : Dev nD) : Vec Ideal S4x64x128 .f32 := m ((c : Thread nD τ).loc main_arg0)
abbrev T1 (c : Dev nD) : Vec Ideal S128x128 .f32 := m ((c : Thread nD τ).loc main_arg1)
abbrev T2 (c : Dev nD) : Vec Ideal S128x128 .f32 := m ((c : Thread nD τ).loc main_arg2)
abbrev T3 (c : Dev nD) : Vec Ideal S64x128 .f32 := m ((c : Thread nD τ).loc main_arg3)
abbrev T4 (c : Dev nD) : Vec Ideal S64x128 .f32 := m ((c : Thread nD τ).loc main_arg4)
abbrev T5 (c : Dev nD) : Vec Ideal S64x64 .f32 := m ((c : Thread nD τ).loc main_arg5)
abbrev T6 (c : Dev nD) : Vec Ideal S64x64 .f32 := m ((c : Thread nD τ).loc main_arg6)
abbrev T7 (c : Dev nD) : Vec Ideal S64x64 .f32 := m ((c : Thread nD τ).loc main_arg7)
abbrev T8 (c : Dev nD) : Vec Ideal S128x128 .f32 := m ((c : Thread nD τ).loc main_arg8)

/-- One batch entry's power, on its own. -/
def entry (s : Vec Ideal S4x64x128 .f32) (b : Fin 4) : Vec Ideal S1x64x128 .f32 := fun y => s (ix3 b (y 1) (y 2))

/-- What is searched for a batch entry, and the delays found in every entry. -/
def target (c : Dev nD) (b : Fin 4) : FVec Ideal S64x128 .f32 := searched (entry (T0 m c) b) (T1 m c) (T2 m c) (T3 m c) (T4 m c) (T5 m c) (T6 m c) (T7 m c) (T8 m c)
def delays (c : Dev nD) : Vec Ideal S4x1x16 .i32 := fun y => slot (target m c (y 0)) (y 2).val

theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = t.val ∧ win0_9.index t 1 = 0 ∧ win0_9.index t 2 = 0 :=
  (by decide +kernel : ∀ t : Fin grid0.N, win0_9.index t 0 = t.val ∧ win0_9.index t 1 = 0 ∧ win0_9.index t 2 = 0)

theorem lt4 (t : Fin cfg0.N) : t.val < 4 := lt_of_lt_of_eq t.isLt N_0
def bt (t : Fin cfg0.N) : Fin 4 := ⟨t.val, lt4 t⟩

theorem blk0 (c : Dev nD) (t : Fin cfg0.N) : iblk m c 0 t = entry (T0 m c) (bt t) := by
  have hi := idx0 t
  funext y
  have y0 : (y 0).val < 1 := (y 0).isLt
  have e : iblk m c 0 t y = (V m c main_arg0 : Vec Ideal S4x64x128 .f32) (ix3 (bt t) (y 1) (y 2)) := by
    show (V m c main_arg0 : Vec Ideal S4x64x128 .f32) ((win0_0.rect t).idx y) = _
    refine congrArg (V m c main_arg0 : Vec Ideal S4x64x128 .f32) (funext fun a => Fin.ext ?_)
    match a with
    | ⟨0, _⟩ => show win0_0.index t 0 * 1 + 1 * (y 0).val = t.val; omega
    | ⟨1, _⟩ => show win0_0.index t 1 * 64 + 1 * (y 1).val = (y 1).val; omega
    | ⟨2, _⟩ => show win0_0.index t 2 * 128 + 1 * (y 2).val = (y 2).val; omega
  exact e.trans (congrFun (V_main_arg0 m c) _)

theorem blk1 (c : Dev nD) (t : Fin cfg0.N) : iblk m c 1 t = T1 m c := by
  have hi := idx1 t
  funext y
  have e : iblk m c 1 t y = (V m c main_arg1 : Vec Ideal S128x128 .f32) y := by
    show (V m c main_arg1 : Vec Ideal S128x128 .f32) ((win0_1.rect t).idx y) = _
    refine congrArg (V m c main_arg1 : Vec Ideal S128x128 .f32) (funext fun a => Fin.ext ?_)
    match a with
    | ⟨0, _⟩ => show win0_1.index t 0 * 128 + 1 * (y 0).val = (y 0).val; omega
    | ⟨1, _⟩ => show win0_1.index t 1 * 128 + 1 * (y 1).val = (y 1).val; omega
  exact e.trans (congrFun (V_main_arg1 m c) y)

theorem blk2 (c : Dev nD) (t : Fin cfg0.N) : iblk m c 2 t = T2 m c := by
  have hi := idx2 t
  funext y
  have e : iblk m c 2 t y = (V m c main_arg2 : Vec Ideal S128x128 .f32) y := by
    show (V m c main_arg2 : Vec Ideal S128x128 .f32) ((win0_2.rect t).idx y) = _
    refine congrArg (V m c main_arg2 : Vec Ideal S128x128 .f32) (funext fun a => Fin.ext ?_)
    match a with
    | ⟨0, _⟩ => show win0_2.index t 0 * 128 + 1 * (y 0).val = (y 0).val; omega
    | ⟨1, _⟩ => show win0_2.index t 1 * 128 + 1 * (y 1).val = (y 1).val; omega
  exact e.trans (congrFun (V_main_arg2 m c) y)

theorem blk3 (c : Dev nD) (t : Fin cfg0.N) : iblk m c 3 t = T3 m c := by
  have hi := idx3 t
  funext y
  have e : iblk m c 3 t y = (V m c main_arg3 : Vec Ideal S64x128 .f32) y := by
    show (V m c main_arg3 : Vec Ideal S64x128 .f32) ((win0_3.rect t).idx y) = _
    refine congrArg (V m c main_arg3 : Vec Ideal S64x128 .f32) (funext fun a => Fin.ext ?_)
    match a with
    | ⟨0, _⟩ => show win0_3.index t 0 * 64 + 1 * (y 0).val = (y 0).val; omega
    | ⟨1, _⟩ => show win0_3.index t 1 * 128 + 1 * (y 1).val = (y 1).val; omega
  exact e.trans (congrFun (V_main_arg3 m c) y)

theorem blk4 (c : Dev nD) (t : Fin cfg0.N) : iblk m c 4 t = T4 m c := by
  have hi := idx4 t
  funext y
  have e : iblk m c 4 t y = (V m c main_arg4 : Vec Ideal S64x128 .f32) y := by
    show (V m c main_arg4 : Vec Ideal S64x128 .f32) ((win0_4.rect t).idx y) = _
    refine congrArg (V m c main_arg4 : Vec Ideal S64x128 .f32) (funext fun a => Fin.ext ?_)
    match a with
    | ⟨0, _⟩ => show win0_4.index t 0 * 64 + 1 * (y 0).val = (y 0).val; omega
    | ⟨1, _⟩ => show win0_4.index t 1 * 128 + 1 * (y 1).val = (y 1).val; omega
  exact e.trans (congrFun (V_main_arg4 m c) y)

theorem blk5 (c : Dev nD) (t : Fin cfg0.N) : iblk m c 5 t = T5 m c := by
  have hi := idx5 t
  funext y
  have e : iblk m c 5 t y = (V m c main_arg5 : Vec Ideal S64x64 .f32) y := by
    show (V m c main_arg5 : Vec Ideal S64x64 .f32) ((win0_5.rect t).idx y) = _
    refine congrArg (V m c main_arg5 : Vec Ideal S64x64 .f32) (funext fun a => Fin.ext ?_)
    match a with
    | ⟨0, _⟩ => show win0_5.index t 0 * 64 + 1 * (y 0).val = (y 0).val; omega
    | ⟨1, _⟩ => show win0_5.index t 1 * 64 + 1 * (y 1).val = (y 1).val; omega
  exact e.trans (congrFun (V_main_arg5 m c) y)

theorem blk6 (c : Dev nD) (t : Fin cfg0.N) : iblk m c 6 t = T6 m c := by
  have hi := idx6 t
  funext y
  have e : iblk m c 6 t y = (V m c main_arg6 : Vec Ideal S64x64 .f32) y := by
    show (V m c main_arg6 : Vec Ideal S64x64 .f32) ((win0_6.rect t).idx y) = _
    refine congrArg (V m c main_arg6 : Vec Ideal S64x64 .f32) (funext fun a => Fin.ext ?_)
    match a with
    | ⟨0, _⟩ => show win0_6.index t 0 * 64 + 1 * (y 0).val = (y 0).val; omega
    | ⟨1, _⟩ => show win0_6.index t 1 * 64 + 1 * (y 1).val = (y 1).val; omega
  exact e.trans (congrFun (V_main_arg6 m c) y)

theorem blk7 (c : Dev nD) (t : Fin cfg0.N) : iblk m c 7 t = T7 m c := by
  have hi := idx7 t
  funext y
  have e : iblk m c 7 t y = (V m c main_arg7 : Vec Ideal S64x64 .f32) y := by
    show (V m c main_arg7 : Vec Ideal S64x64 .f32) ((win0_7.rect t).idx y) = _
    refine congrArg (V m c main_arg7 : Vec Ideal S64x64 .f32) (funext fun a => Fin.ext ?_)
    match a with
    | ⟨0, _⟩ => show win0_7.index t 0 * 64 + 1 * (y 0).val = (y 0).val; omega
    | ⟨1, _⟩ => show win0_7.index t 1 * 64 + 1 * (y 1).val = (y 1).val; omega
  exact e.trans (congrFun (V_main_arg7 m c) y)

theorem blk8 (c : Dev nD) (t : Fin cfg0.N) : iblk m c 8 t = T8 m c := by
  have hi := idx8 t
  funext y
  have e : iblk m c 8 t y = (V m c main_arg8 : Vec Ideal S128x128 .f32) y := by
    show (V m c main_arg8 : Vec Ideal S128x128 .f32) ((win0_8.rect t).idx y) = _
    refine congrArg (V m c main_arg8 : Vec Ideal S128x128 .f32) (funext fun a => Fin.ext ?_)
    match a with
    | ⟨0, _⟩ => show win0_8.index t 0 * 128 + 1 * (y 0).val = (y 0).val; omega
    | ⟨1, _⟩ => show win0_8.index t 1 * 128 + 1 * (y 1).val = (y 1).val; omega
  exact e.trans (congrFun (V_main_arg8 m c) y)

/-- What one point leaves is its batch entry's delays. -/
theorem block9 (c : Dev nD) (t : Fin cfg0.N) (y : S1x1x16.Idx) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) (iblk m c 8 t) y = delays m c ((win0_9.rect t).idx y) := by
  obtain ⟨h0, h1, h2⟩ := idx9 t
  have y0 : (y 0).val < 1 := (y 0).isLt
  have y1 : (y 1).val < 1 := (y 1).isLt
  have ey : y = ix3 (0 : Fin 1) (0 : Fin 1) (y 2) := by
    funext a
    match a with
    | ⟨0, _⟩ => exact Fin.ext (by show (y 0).val = 0; omega)
    | ⟨1, _⟩ => exact Fin.ext (by show (y 1).val = 0; omega)
    | ⟨2, _⟩ => rfl
  have ei : (win0_9.rect t).idx y = (ix3 (bt t) (0 : Fin 1) (y 2) : S4x1x16.Idx) := by
    funext a
    match a with
    | ⟨0, _⟩ => exact Fin.ext (by show win0_9.index t 0 * 1 + 1 * (y 0).val = t.val; omega)
    | ⟨1, _⟩ => exact Fin.ext (by show win0_9.index t 1 * 1 + 1 * (y 1).val = 0; omega)
    | ⟨2, _⟩ => exact Fin.ext (by show win0_9.index t 2 * 16 + 1 * (y 2).val = (y 2).val; omega)
  rw [ei, blk0 m c t, blk1 m c t, blk2 m c t, blk3 m c t, blk4 m c t, blk5 m c t, blk6 m c t, blk7 m c t, blk8 m c t]
  refine (congrArg _ ey).trans ((out_apply _ _ _ _ _ _ _ _ _ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (y 2)).trans ?_)
  rfl

theorem flushed (c : Dev nD) (t : Fin cfg0.N) :
    (dats m 0 c).flushed 9 t = (win0_9.blk t).view.read (Elt Ideal) (delays m c) := by
  rw [Value.flushed9_A]
  funext y
  exact block9 m c t y

/-- The point that writes a given batch entry's delays. -/
def pt (i : S4x1x16.Idx) : Fin cfg0.N :=
  ⟨(i 0).val, by
    have h0 : (i 0).val < 4 := (i 0).isLt
    have hN : cfg0.N = 4 := N_0
    omega⟩

theorem cover (i : S4x1x16.Idx) : i ∈ ((cfg0.win 9).blk (pt i)).view.set := by
  obtain ⟨e0, e1, e2⟩ := idx9 (pt i)
  have h0 : (i 0).val < 4 := (i 0).isLt
  have h1 : (i 1).val < 1 := (i 1).isLt
  have h2 : (i 2).val < 16 := (i 2).isLt
  have hp : (pt i).val = (i 0).val := rfl
  show i ∈ ((View.whole main_v0).slice (win0_9.rect (pt i))).set
  rw [View.set_slice_whole, Rect.mem_set_unit]
  intro a
  match a with
  | ⟨0, _⟩ => show win0_9.index (pt i) 0 * 1 ≤ (i 0).val ∧ (i 0).val < win0_9.index (pt i) 0 * 1 + 1; omega
  | ⟨1, _⟩ => show win0_9.index (pt i) 1 * 1 ≤ (i 1).val ∧ (i 1).val < win0_9.index (pt i) 1 * 1 + 1; omega
  | ⟨2, _⟩ => show win0_9.index (pt i) 2 * 16 ≤ (i 2).val ∧ (i 2).val < win0_9.index (pt i) 2 * 16 + 16; omega

theorem final (c : Dev nD) : (dats m 0 c).arrAt 9 cfg0.N = delays m c :=
  (dats m 0 c).arrAt_eq_of_cover 9 (delays m c) (fun t _ => flushed m c t) fun i => ⟨pt i, flush0_9 _, cover i⟩

end Cert.Kernel4Ideal.Search

end
-- ==== Proof.Reference4Values.lean ====
/-
  The fourth program's reference, index by index: the array it searches, and what it finds there.
-/
module

public import proofs.«01_k».proof.Proof.Gen.Reference4Ideal.Run
public import proofs.«01_k».proof.Proof.Correlation

@[expose] public section

set_option maxRecDepth 16384

noncomputable section

open Idealize.ShloMosaic Idealize.ShloMosaic.TcCoe

namespace Cert.Reference4Ideal.Search

open Cert.Reference4Ideal Cert.Reference4Ideal.Gen Cert.Correlation Cert.Picks

variable (A0 : FVec Ideal S4x64x128 .f32) (A1 A2 : FVec Ideal S128x128 .f32) (A3 A4 : FVec Ideal S64x128 .f32) (A5 A6 A7 : FVec Ideal S64x64 .f32)
  (A8 : FVec Ideal S128x128 .f32)

/-- The inner transform of every batch entry, twiddled: its real and imaginary parts. -/
def twisted : FVec Ideal S4x64x128 .f32 := (subf (mulf (Host.dotGeneral dot_S4x64x128_S128x128_S4x64x128_2_0_01_1_n_n none A0 A1) (broadcastInDim S4x64x128 ![0, 1, 2] bcast_S1x64x128_S4x64x128_0_1_2 (broadcastInDim S1x64x128 ![1, 2] bcast_S64x128_S1x64x128_1_2 A3))) (mulf (Host.dotGeneral dot_S4x64x128_S128x128_S4x64x128_2_0_01_1_n_n none A0 A2) (broadcastInDim S4x64x128 ![0, 1, 2] bcast_S1x64x128_S4x64x128_0_1_2 (broadcastInDim S1x64x128 ![1, 2] bcast_S64x128_S1x64x128_1_2 A4))))
def twisted' : FVec Ideal S4x64x128 .f32 := (addf (mulf (Host.dotGeneral dot_S4x64x128_S128x128_S4x64x128_2_0_01_1_n_n none A0 A1) (broadcastInDim S4x64x128 ![0, 1, 2] bcast_S1x64x128_S4x64x128_0_1_2 (broadcastInDim S1x64x128 ![1, 2] bcast_S64x128_S1x64x128_1_2 A4))) (mulf (Host.dotGeneral dot_S4x64x128_S128x128_S4x64x128_2_0_01_1_n_n none A0 A2) (broadcastInDim S4x64x128 ![0, 1, 2] bcast_S1x64x128_S4x64x128_0_1_2 (broadcastInDim S1x64x128 ![1, 2] bcast_S64x128_S1x64x128_1_2 A3))))

/-- The outer transform of two such arrays. -/
def outer (P Q : FVec Ideal S4x64x128 .f32) : FVec Ideal S4x64x128 .f32 := (subf (transpose S4x64x128 [0, 2, 1] (Host.dotGeneral dot_S4x64x128_S64x64_S4x128x64_1_1_02_0_n_n none P A5) transposes_S4x128x64_S4x64x128_0_2_1) (transpose S4x64x128 [0, 2, 1] (Host.dotGeneral dot_S4x64x128_S64x64_S4x128x64_1_1_02_0_n_n none Q A6) transposes_S4x128x64_S4x64x128_0_2_1))

/-- An array between the two tables that turn it round. -/
def turn (P : FVec Ideal S4x64x128 .f32) : FVec Ideal S4x64x128 .f32 := (Host.dotGeneral dot_S4x64x128_S128x128_S4x64x128_2_0_01_1_n_n none (transpose S4x64x128 [0, 2, 1] (Host.dotGeneral dot_S4x64x128_S64x64_S4x128x64_1_1_02_0_n_n none P A7) transposes_S4x128x64_S4x64x128_0_2_1) A8)

/-- An array, flat, plus another a step on. -/
def combine (P Q : FVec Ideal S4x64x128 .f32) : FVec Ideal S4x8192 .f32 := (addf (shapeCast _ P shapeCasts_S4x64x128_S4x8192) (concatenate S4x8192 1 [⟨S4x1, (extractStridedSlice S4x1 ![0, 8191] (shapeCast _ Q shapeCasts_S4x64x128_S4x8192) slices_S4x8192_S4x1_0_8191)⟩, ⟨S4x8191, (extractStridedSlice S4x8191 ![0, 0] (shapeCast _ Q shapeCasts_S4x64x128_S4x8192) slices_S4x8192_S4x8191_0_0)⟩] concatenates_S4x1_S4x8191_S4x8192_d1))

/-- What is searched. -/
def scores : FVec Ideal S4x8192 .f32 :=
  combine (outer A5 A6 (twisted A0 A1 A2 A3 A4) (twisted' A0 A1 A2 A3 A4)) (turn A7 A8 (outer A5 A6 (twisted A0 A1 A2 A3 A4) (twisted' A0 A1 A2 A3 A4)))

/-- What is found: thirteen places, and three zeros. -/
def found (v : FVec Ideal S4x8192 .f32) : (main_v30 : Ref sig .tc).ty.Contents (Elt Ideal) := broadcastInDim S4x1x16 ![0, 2] bcast_S4x16_S4x1x16_0_2 (concatenate S4x16 1 [⟨S4x13, ((Host.topK S4x13 1 (FloatOps.cmpfTotal .gt) v sliceFits_S4x8192_S4x13).2)⟩, ⟨S4x3, (broadcastInDim S4x3 ![] bcast_S_S4x3 (constantI S_ 32 0#32))⟩] concatenates_S4x13_S4x3_S4x16_d1)

theorem res_eq (m : (ℓ : Loc nD τ sig) → Buf (Elt Ideal) ℓ) (c : Dev nD) :
    Value.res_main_v30 m c = found (scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := rfl

/-- The power of a batch entry. -/
def power (b : Fin 4) : Fin 64 → Fin 128 → EReal := fun k p => A0 (ix3 b k p)

theorem twisted_apply (b : Fin 4) (k : Fin 64) (n : Fin 128) : twisted A0 A1 A2 A3 A4 (ix3 b k n) = re (power A0 b) A1 A2 A3 A4 k n := by
  pointwise [twisted]
  rfl

theorem twisted'_apply (b : Fin 4) (k : Fin 64) (n : Fin 128) : twisted' A0 A1 A2 A3 A4 (ix3 b k n) = im (power A0 b) A1 A2 A3 A4 k n := by
  pointwise [twisted']
  rfl

theorem outer_apply (P Q : FVec Ideal S4x64x128 .f32) (b : Fin 4) (f : Fin 64) (n : Fin 128) :
    outer A5 A6 P Q (ix3 b f n) = (∑ k : Fin 64, A5 (ix2 f k) * P (ix3 b k n) : EReal) - ∑ k : Fin 64, A6 (ix2 f k) * Q (ix3 b k n) := by
  pointwise [outer]
  simp only [mul_comm]

theorem turn_apply (P : FVec Ideal S4x64x128 .f32) (b : Fin 4) (f : Fin 64) (n : Fin 128) :
    turn A7 A8 P (ix3 b f n) = (∑ p : Fin 128, (∑ k : Fin 64, A7 (ix2 f k) * P (ix3 b k p)) * A8 (ix2 p n) : EReal) := by
  pointwise [turn]
  simp only [mul_comm]

theorem combine_apply (P Q : FVec Ideal S4x64x128 .f32) (b : Fin 4) (q : Fin 8192) (f : Fin 64) (n : Fin 128) (h : q.val = 128 * f.val + n.val) :
    combine P Q (ix2 b q) = (P (ix3 b f n) : EReal) + Q (ix3 b (row f n) (col n)) := by
  pointwise [combine]
  have hf := f.isLt
  have hn := n.isLt
  by_cases h0 : q.val < 1
  · rw [dif_pos h0]
    have e : n.val = 0 := by omega
    congr 1 <;> congr 2 <;> apply Fin.ext <;> simp only [row, col, e, if_true] <;> omega
  · rw [dif_neg h0]
    by_cases e : n.val = 0
    · congr 1 <;> congr 2 <;> apply Fin.ext <;> simp only [row, col, e, if_true] <;> omega
    · congr 1 <;> congr 2 <;> apply Fin.ext <;> simp only [row, col, e, if_false] <;> omega

theorem scores_apply (b : Fin 4) (q : Fin 8192) (f : Fin 64) (n : Fin 128) (h : q.val = 128 * f.val + n.val) :
    scores A0 A1 A2 A3 A4 A5 A6 A7 A8 (ix2 b q) = both (power A0 b) A1 A2 A3 A4 A5 A6 A7 A8 f n := by
  have e : ∀ f n, outer A5 A6 (twisted A0 A1 A2 A3 A4) (twisted' A0 A1 A2 A3 A4) (ix3 b f n) = corr (power A0 b) A1 A2 A3 A4 A5 A6 f n := by
    intro f n
    rw [outer_apply]
    simp only [twisted_apply, twisted'_apply]
    rfl
  unfold scores
  rw [combine_apply _ _ b q f n h, turn_apply, e]
  simp only [e]
  rfl

/-- The place a sort of one batch entry puts at a given rank. -/
theorem sorted_place (v : FVec Ideal S4x8192 .f32) (J : S4x8192.Idx) (b : Fin 4) (k : Fin 8192) (h0 : J 0 = b) (h1 : J 1 = k) :
    BitVec.ofNat 32 ((J.along 1 (sortedFrom (fun q q' => FloatOps.cmpfTotal (F := Ideal) (φ := .f32) CmpDirection.gt (v (J.along 1 q)) (v (J.along 1 q')) == 1#1) (J 1))) 1).val
      = BitVec.ofNat 32 (sortedFrom (greater fun q => v (ix2 b q)) k).val := by
  have al : ∀ q : Fin 8192, J.along 1 q = ix2 b q := by
    intro q
    funext a
    match a with
    | ⟨0, _⟩ => exact h0
    | ⟨1, _⟩ => rfl
  have e : (fun q q' : Fin 8192 => FloatOps.cmpfTotal (F := Ideal) (φ := .f32) CmpDirection.gt (v (J.along 1 q)) (v (J.along 1 q')) == 1#1)
      = greater fun q => v (ix2 b q) := by
    funext q q'
    rw [al, al]
    show (BitVec.ofBool (decide ((v (ix2 b q') : EReal) < v (ix2 b q))) == 1#1) = decide ((v (ix2 b q') : EReal) < v (ix2 b q))
    cases decide ((v (ix2 b q') : EReal) < v (ix2 b q)) <;> rfl
  refine (congrArg (fun R : Fin 8192 → Fin 8192 → Bool => BitVec.ofNat 32 ((J.along 1 (sortedFrom R (J 1))) 1).val) e).trans ?_
  subst h1
  have e2 : ∀ q : Fin 8192, ((J.along 1 q) 1).val = q.val := fun q => congrArg (fun y : S4x8192.Idx => (y 1).val) (al q)
  exact congrArg (BitVec.ofNat 32) (e2 (sortedFrom (greater fun q => v (ix2 b q)) (J 1)))

theorem places_apply (v : FVec Ideal S4x8192 .f32) (b : Fin 4) (i : Fin 13) :
    (Host.topK S4x13 1 (FloatOps.cmpfTotal CmpDirection.gt) v sliceFits_S4x8192_S4x13).2 (ix2 b i)
      = BitVec.ofNat 32 (sortedFrom (greater fun q => v (ix2 b q)) (i.castLE (by decide))).val := by
  unfold Host.topK extractStridedSlice Host.sort2
  dsimp only
  rw [dif_pos (show 1 < S4x8192.rank by decide)]
  exact sorted_place v _ b _ (Fin.ext (Nat.zero_add _)) (Fin.ext (Nat.zero_add _))

theorem found_apply (v : FVec Ideal S4x8192 .f32) (b : Fin 4) (i : Fin 16) :
    found v (ix3 b 0 i) = (if h : i.val < 13 then
      BitVec.ofNat 32 (sortedFrom (greater fun q => v (ix2 b q)) ((⟨i.val, h⟩ : Fin 13).castLE (by decide))).val else 0#32 : BitVec 32) := by
  pointwise [found]
  by_cases h : i.val < 13
  · rw [dif_pos h, dif_pos h]
    exact places_apply v b ⟨i.val, h⟩
  · rw [dif_neg h, dif_neg h]

end Cert.Reference4Ideal.Search

end
-- ==== Proof.Finite4.lean ====
/-
  The precondition of the fourth program read element by element: no entry of any argument is infinite.
-/
module

public import proofs.«01_k».proof.Defs
public import proofs.«01_k».proof.Proof.Gen.Pre_finite
public import proofs.«01_k».proof.Proof.Correlation
public import Idealize.ShloMosaic.Lib.ReduceAll

@[expose] public section

set_option maxRecDepth 16384

noncomputable section

open Idealize.ShloMosaic

namespace Cert.Finite4

open Cert.Pre_finite Cert.Correlation

theorem top : (Ideal.ofBits .f32 0x7F800000#32 : EReal) = ⊤ := by simp [Ideal.ofBits, Ideal.ieee]

/-- Below infinity in size, a value is a number. -/
theorem num_of_abs (x : EReal) (h : Ideal.cmp .olt (max x (-x)) ⊤ = 1#1) : Num x := by
  have h' : max x (-x) < (⊤ : EReal) := by
    by_contra hn
    have e : Ideal.cmp .olt (max x (-x)) ⊤ = BitVec.ofBool (decide (max x (-x) < (⊤ : EReal))) := rfl
    rw [e, decide_eq_false hn] at h
    exact absurd h (by decide)
  induction x using EReal.rec with
  | bot => simp at h'
  | coe a => exact ⟨a, rfl⟩
  | top => simp at h'

theorem entries {S : Shape} {ds : List (Fin S.rank)} (x : FVec Ideal S .f32) (hb : S_.BroadcastsInDim S (![] : Fin 0 → Fin S.rank)) (hr : S.ReducesTo ds S_)
    (hu : 0 < S_.numel) (j : S_.Idx)
    (h : Host.reduce IntOp.andi (cmpf .olt (Host.absf x) (broadcastInDim S ![] hb (constant S_ .f32 0x7F800000#32))) (constantI S_ 1 1#1) hr hu j = 1#1)
    (i : S.Idx) : Num (x i) := by
  haveI : Subsingleton S_.Idx := ⟨fun _ _ => funext fun a => a.elim0⟩
  have h1 := Host.reduce_andi_all _ _ hr hu j h i
  refine num_of_abs (x i) (Eq.trans ?_ h1)
  rw [← top]
  rfl

theorem nine (p0 p1 p2 p3 p4 p5 p6 p7 p8 : IVec S_ 1) (hb : S_.BroadcastsInDim S1 (![] : Fin 0 → Fin S1.rank)) (hc : Shape.Concatenates [S1, S1, S1, S1, S1, S1, S1, S1, S1] S9 0)
    (hr : S9.ReducesTo [0] S_) (hu : 0 < S_.numel) (j : S_.Idx)
    (h : Host.reduce IntOp.andi (concatenate S9 0 [⟨S1, broadcastInDim S1 ![] hb p0⟩, ⟨S1, broadcastInDim S1 ![] hb p1⟩, ⟨S1, broadcastInDim S1 ![] hb p2⟩, ⟨S1, broadcastInDim S1 ![] hb p3⟩, ⟨S1, broadcastInDim S1 ![] hb p4⟩, ⟨S1, broadcastInDim S1 ![] hb p5⟩, ⟨S1, broadcastInDim S1 ![] hb p6⟩, ⟨S1, broadcastInDim S1 ![] hb p7⟩, ⟨S1, broadcastInDim S1 ![] hb p8⟩] hc) (constantI S_ 1 1#1) hr hu j = 1#1) :
    p0 j = 1#1 ∧ p1 j = 1#1 ∧ p2 j = 1#1 ∧ p3 j = 1#1 ∧ p4 j = 1#1 ∧ p5 j = 1#1 ∧ p6 j = 1#1 ∧ p7 j = 1#1 ∧ p8 j = 1#1 := by
  haveI : Subsingleton S_.Idx := ⟨fun _ _ => funext fun a => a.elim0⟩
  have hk := Host.reduce_andi_all _ _ hr hu j h
  refine ⟨?_, ?_, ?_, ?_, ?_, ?_, ?_, ?_, ?_⟩
  · refine Eq.trans ?_ (hk (ix1 0))
    pointwise
    exact congrArg p0 (Subsingleton.elim _ _)
  · refine Eq.trans ?_ (hk (ix1 1))
    pointwise
    exact congrArg p1 (Subsingleton.elim _ _)
  · refine Eq.trans ?_ (hk (ix1 2))
    pointwise
    exact congrArg p2 (Subsingleton.elim _ _)
  · refine Eq.trans ?_ (hk (ix1 3))
    pointwise
    exact congrArg p3 (Subsingleton.elim _ _)
  · refine Eq.trans ?_ (hk (ix1 4))
    pointwise
    exact congrArg p4 (Subsingleton.elim _ _)
  · refine Eq.trans ?_ (hk (ix1 5))
    pointwise
    exact congrArg p5 (Subsingleton.elim _ _)
  · refine Eq.trans ?_ (hk (ix1 6))
    pointwise
    exact congrArg p6 (Subsingleton.elim _ _)
  · refine Eq.trans ?_ (hk (ix1 7))
    pointwise
    exact congrArg p7 (Subsingleton.elim _ _)
  · refine Eq.trans ?_ (hk (ix1 8))
    pointwise
    exact congrArg p8 (Subsingleton.elim _ _)

theorem split (a0 : FVec Ideal S4x64x128 .f32) (a1 a2 : FVec Ideal S128x128 .f32) (a3 a4 : FVec Ideal S64x128 .f32) (a5 a6 a7 : FVec Ideal S64x64 .f32)
    (a8 : FVec Ideal S128x128 .f32) (h : Cert.Pre_finite.fn (F := Ideal) a0 a1 a2 a3 a4 a5 a6 a7 a8 = fun _ => 1#1) :
    (∀ y, Num (a0 y)) ∧ (∀ y, Num (a1 y)) ∧ (∀ y, Num (a2 y)) ∧ (∀ y, Num (a3 y)) ∧ (∀ y, Num (a4 y)) ∧ (∀ y, Num (a5 y)) ∧ (∀ y, Num (a6 y))
      ∧ (∀ y, Num (a7 y)) ∧ ∀ y, Num (a8 y) := by
  have h0 := congrFun h (fun a => a.elim0)
  unfold Cert.Pre_finite.fn Cert.Pre_finite.fn_part1 Cert.Pre_finite.fn_part2 at h0
  dsimp only at h0
  obtain ⟨q0, q1, q2, q3, q4, q5, q6, q7, q8⟩ := nine _ _ _ _ _ _ _ _ _ _ _ _ _ _ h0
  exact ⟨entries a0 _ _ _ _ q0, entries a1 _ _ _ _ q1, entries a2 _ _ _ _ q2, entries a3 _ _ _ _ q3, entries a4 _ _ _ _ q4, entries a5 _ _ _ _ q5,
    entries a6 _ _ _ _ q6, entries a7 _ _ _ _ q7, entries a8 _ _ _ _ q8⟩

end Cert.Finite4

end
-- ==== Proof.Same4.lean ====
/-
  The fourth program and its reference find the same delays in the same numbers.
-/
module

public import proofs.«01_k».proof.Proof.Delays4
public import proofs.«01_k».proof.Proof.Reference4Values
public import proofs.«01_k».proof.Proof.Finite4

@[expose] public section

set_option maxRecDepth 16384

noncomputable section

open Idealize.ShloMosaic Idealize.ShloMosaic.TcCoe

namespace Cert.Same4

open Cert.Kernel4Ideal Cert.Kernel4Ideal.Search Cert.Correlation Cert.Picks

variable (m : (ℓ : Loc nD τ sig) → Buf (Elt Ideal) ℓ) (c : Dev nD)

/-- What the two search is the same. -/
theorem target_apply (b : Fin 4) (q : Fin 8192) :
    target m c b (at' q) = Cert.Reference4Ideal.Search.scores (T0 m c) (T1 m c) (T2 m c) (T3 m c) (T4 m c) (T5 m c) (T6 m c) (T7 m c) (T8 m c) (ix2 b q) := by
  refine (searched_apply _ _ _ _ _ _ _ _ _ _ _).trans (Eq.symm ?_)
  exact Cert.Reference4Ideal.Search.scores_apply _ _ _ _ _ _ _ _ _ b q _ _ (by show q.val = 128 * (q.val / 128) + q.val % 128; omega)

/-- Nothing searched is infinite where no argument is. -/
theorem target_ne_bot (h : Cert.Pre_finite.fn (F := Ideal) (T0 m c) (T1 m c) (T2 m c) (T3 m c) (T4 m c) (T5 m c) (T6 m c) (T7 m c) (T8 m c) = fun _ => 1#1)
    (b : Fin 4) (q : Fin 8192) : target m c b (at' q) ≠ (⊥ : EReal) := by
  obtain ⟨q0, q1, q2, q3, q4, q5, q6, q7, q8⟩ := Cert.Finite4.split _ _ _ _ _ _ _ _ _ h
  have e := searched_apply (entry (T0 m c) b) (T1 m c) (T2 m c) (T3 m c) (T4 m c) (T5 m c) (T6 m c) (T7 m c) (T8 m c)
    ⟨q.val / 128, by have := q.isLt; omega⟩ ⟨q.val % 128, by omega⟩
  intro hb
  exact (both_num _ _ _ _ _ _ _ _ _ (fun k p => q0 _) q1 q2 q3 q4 q5 q6 q7 q8 _ _).ne_bot (e.symm.trans hb)

theorem same (h : Cert.Pre_finite.fn (F := Ideal) (T0 m c) (T1 m c) (T2 m c) (T3 m c) (T4 m c) (T5 m c) (T6 m c) (T7 m c) (T8 m c) = fun _ => 1#1) :
    Cert.Reference4Ideal.Search.found (Cert.Reference4Ideal.Search.scores (T0 m c) (T1 m c) (T2 m c) (T3 m c) (T4 m c) (T5 m c) (T6 m c) (T7 m c) (T8 m c)) = delays m c := by
  funext y
  have y1 : (y 1).val < 1 := (y 1).isLt
  have ey : y = ix3 (y 0) (0 : Fin 1) (y 2) := by
    funext a
    match a with
    | ⟨0, _⟩ => rfl
    | ⟨1, _⟩ => exact Fin.ext (by show (y 1).val = 0; omega)
    | ⟨2, _⟩ => rfl
  refine (congrArg _ ey).trans ((Cert.Reference4Ideal.Search.found_apply _ (y 0) (y 2)).trans ?_)
  show _ = (if (y 2).val < 13 then pick (after (target m c (y 0)) (y 2).val) else 0#32)
  by_cases hi : (y 2).val < 13
  · rw [dif_pos hi, if_pos hi]
    refine Eq.trans ?_ (picks (target m c (y 0)) (target_ne_bot m c h (y 0)) ⟨(y 2).val, hi⟩).symm
    exact congrArg (fun g : Fin 8192 → EReal => BitVec.ofNat 32 (sortedFrom (greater g) ((⟨(y 2).val, hi⟩ : Fin 13).castLE (by decide))).val)
      (funext fun q => (target_apply m c (y 0) q).symm)
  · rw [dif_neg hi, if_neg hi]

end Cert.Same4

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_in_range
public import proofs.«01_k».proof.Proof.Gen.Own.Kernel.K0.Frame
public import proofs.«01_k».proof.Proof.Gen.Own.KernelIdeal.K0.Frame
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_finite
public import proofs.«01_k».proof.Proof.Delays
public import proofs.«01_k».proof.Proof.DelaysIdeal
public import proofs.«01_k».proof.Proof.Reference
public import proofs.«01_k».proof.Proof.Combination
public import proofs.«01_k».proof.Proof.Stage1Reference
public import proofs.«01_k».proof.Proof.Stage2Run
public import proofs.«01_k».proof.Proof.Stage2Reference
public import Idealize.ShloMosaic.Adequacy
public import Idealize.ShloMosaic.Lib.Quiescent
public import Idealize.ShloMosaic.Init
public import proofs.«01_k».proof.Proof.Same4

@[expose] public section

noncomputable section

namespace Cert.Proof

open Idealize.ShloMosaic Idealize.ShloMosaic.TcCoe Idealize.SL.Sem

/-- The kernel as it stands runs from delays in range and leaves its arguments as they were. -/
theorem frame_kernel : Cert.quiescent_Kernel (hKernel := Cert.Kernel.Gen.facts) (hPre_in_range := Cert.Pre_in_range.Gen.facts) := fun m ρ hpre =>
  (θ_run Cert.Kernel.defs _ _).mono (fun _ h => ⟨fun c => (h.1 c).2, h.2⟩)
    (Cert.Kernel.Launched.run m ρ (Cert.Kernel.Delays.ranged m hpre))

theorem frame_ideal : Cert.quiescent_KernelIdeal (hKernelIdeal := Cert.KernelIdeal.Gen.facts) (hPre_in_range := Cert.Pre_in_range.Gen.facts) := fun m ρ hpre =>
  (θ_run Cert.KernelIdeal.defs _ _).mono (fun _ h => ⟨fun c => (h.1 c).2, h.2⟩)
    (Cert.KernelIdeal.Launched.run m ρ (Cert.KernelIdeal.Delays.ranged m hpre))

/-- The reference is host operations only: its run read at the arguments, and it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_reference_ranged : Cert.quiescent_ReferenceIdeal_pre_in_range (hReferenceIdeal := Cert.ReferenceIdeal.Gen.facts)
    (hPre_in_range := Cert.Pre_in_range.Gen.facts) := fun m ρ _ => frame_reference m ρ trivial

open Cert.KernelIdeal.Projection Cert.KernelIdeal.Combination in
/-- The reference's result, from the kernel's arguments, is what the kernel's array ends holding. -/
theorem same (m : (ℓ : Loc Cert.KernelIdeal.nD Cert.KernelIdeal.τ Cert.KernelIdeal.sig) → Buf (Elt Ideal) ℓ) (c : Dev Cert.KernelIdeal.nD)
    (hd : ∀ y : Cert.KernelIdeal.S4x16.Idx, (y 1).val < 13 → (Dl m c y).toNat < 8192) :
    Cert.ReferenceIdeal.Mixed.res (X m c) (Wt m c) (Bi m c) (Dl m c) = G m c := by
  funext y
  have ey : y = ix3 (y 0) (y 1) (y 2) := by
    funext a
    match a with
    | ⟨0, _⟩ => rfl
    | ⟨1, _⟩ => rfl
    | ⟨2, _⟩ => rfl
  rw [ey]
  refine (Cert.ReferenceIdeal.Mixed.res_apply _ _ _ _ hd (y 0) (y 1) (y 2)).trans ?_
  exact add_comm _ _

open Cert.KernelIdeal.Projection Cert.KernelIdeal.Combination in
/-- Both programs end with the input plus the mean of the thirteen shifted projections. -/
theorem algebraic : Cert.algebraic_KernelIdeal_ReferenceIdeal (hKernelIdeal := Cert.KernelIdeal.Gen.facts)
    (hReferenceIdeal := Cert.ReferenceIdeal.Gen.facts) (hPre_in_range := Cert.Pre_in_range.Gen.facts) := fun m ρ m' ρ' hpre hag =>
  have hd : ∀ (c : Dev Cert.KernelIdeal.nD) (y : Cert.KernelIdeal.S4x16.Idx), (y 1).val < 13 → (Dl m c y).toNat < 8192 :=
    fun c y hy => Cert.KernelIdeal.Delays.bound m c (hpre c) y hy
  ⟨fun c => G m c,
    (θ_run Cert.KernelIdeal.defs _ _).mono (fun _ h c => ⟨(h.1 c).1.trans (final m hd c), (h.1 c).2⟩)
      (Cert.KernelIdeal.Launched.run m ρ (Cert.KernelIdeal.Delays.ranged m hpre)),
    (θ_run Cert.ReferenceIdeal.defs _ _).mono
      (fun _ h c => ⟨(h c).1.trans (by
          rw [Cert.ReferenceIdeal.Mixed.res_eq, (hag c).1, (hag c).2.1, (hag c).2.2.1, (hag c).2.2.2]
          exact same m c (hd c)), (h c).2⟩)
      (Cert.ReferenceIdeal.Value.run (F := Ideal) m' ρ')⟩

/-- The first stage's reference, likewise host operations only. -/
theorem frame_reference2 : Cert.quiescent_Reference2Ideal (hReference2Ideal := Cert.Reference2Ideal.Gen.facts) := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

open Cert.Kernel2Ideal.Stage Cert.Series in
/-- Both end with the 64-point transforms' real and imaginary parts. -/
theorem algebraic2 : Cert.algebraic_Kernel2Ideal_Reference2Ideal (hKernel2Ideal := Cert.Kernel2Ideal.Gen.facts)
    (hReference2Ideal := Cert.Reference2Ideal.Gen.facts) := fun m ρ m' ρ' _ hag =>
  ⟨fun c => GR (QA m c) (QB m c) (Co m c) (Si m c), fun c => GI (QA m c) (QB m c) (Co m c) (Si m c),
    (θ_run Cert.Kernel2Ideal.defs _ _).mono
      (fun _ h c => ⟨(h c).1.trans (finalR m c), (h c).2.1.trans (finalI m c), (h c).2.2⟩)
      (Cert.Kernel2Ideal.Value.run_blocks (F := Ideal) m ρ),
    (θ_run Cert.Reference2Ideal.defs _ _).mono
      (fun _ h c => ⟨(h c).1.trans (by
          rw [(hag c).1, (hag c).2.1, (hag c).2.2.1, (hag c).2.2.2]; exact Cert.Reference2Ideal.Stage.resR _ _ _ _),
        (h c).2.1.trans (by
          rw [(hag c).1, (hag c).2.1, (hag c).2.2.1, (hag c).2.2.2]; exact Cert.Reference2Ideal.Stage.resI _ _ _ _), (h c).2.2⟩)
      (Cert.Reference2Ideal.Value.run (F := Ideal) m' ρ')⟩

/-- The second stage as it stands, and at the ideal instance, runs and leaves its arguments as they were. -/
theorem frame_kernel3 : Cert.quiescent_Kernel3 (hKernel3 := Cert.Kernel3.Gen.facts) := fun m ρ _ =>
  (θ_run Cert.Kernel3.defs _ _).mono (fun _ h => ⟨fun c => (h.1 c).2, h.2⟩) (Cert.Kernel3.Power.run m ρ)

theorem frame_ideal3 : Cert.quiescent_Kernel3Ideal (hKernel3Ideal := Cert.Kernel3Ideal.Gen.facts) := fun m ρ _ =>
  (θ_run Cert.Kernel3Ideal.defs _ _).mono (fun _ h => ⟨fun c => (h.1 c).2, h.2⟩) (Cert.Kernel3Ideal.Power.run m ρ)

theorem frame_reference3 : Cert.quiescent_Reference3Ideal (hReference3Ideal := Cert.Reference3Ideal.Gen.facts) := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

open Cert.Kernel3Ideal.Power Cert.Spectrum in
/-- Both end with the power at each frequency. -/
theorem algebraic3 : Cert.algebraic_Kernel3Ideal_Reference3Ideal (hKernel3Ideal := Cert.Kernel3Ideal.Gen.facts)
    (hReference3Ideal := Cert.Reference3Ideal.Gen.facts) := fun m ρ m' ρ' _ hag =>
  ⟨fun c => G (Qr m c) (Qi m c) (Wr m c) (Wi m c) (Co m c) (Si m c),
    (θ_run Cert.Kernel3Ideal.defs _ _).mono (fun _ h c => ⟨(h.1 c).1.trans (final m c), (h.1 c).2⟩) (Cert.Kernel3Ideal.Power.run m ρ),
    (θ_run Cert.Reference3Ideal.defs _ _).mono
      (fun _ h c => ⟨(h c).1.trans (by
          rw [Cert.Reference3Ideal.Stage.res_eq, (hag c).1, (hag c).2.1, (hag c).2.2.1, (hag c).2.2.2.1, (hag c).2.2.2.2.1, (hag c).2.2.2.2.2]
          exact Cert.Reference3Ideal.Stage.res _ _ _ _ _ _), (h c).2⟩)
      (Cert.Reference3Ideal.Value.run (F := Ideal) m' ρ')⟩

theorem frame_reference4 : Cert.quiescent_Reference4Ideal (hReference4Ideal := Cert.Reference4Ideal.Gen.facts) := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

open Cert.Kernel4Ideal.Search in
/-- Both end with the same thirteen delays for every batch entry, and three zeros. -/
theorem algebraic4 : Cert.algebraic_Kernel4Ideal_Reference4Ideal_pre_finite (hKernel4Ideal := Cert.Kernel4Ideal.Gen.facts)
    (hReference4Ideal := Cert.Reference4Ideal.Gen.facts) (hPre_finite := Cert.Pre_finite.Gen.facts) := fun m ρ m' ρ' hp hag =>
  ⟨fun c => delays m c,
    (θ_run Cert.Kernel4Ideal.defs _ _).mono (fun _ h c => ⟨(h c).1.trans (final m c), (h c).2⟩)
      (Cert.Kernel4Ideal.Value.run_blocks (F := Ideal) m ρ),
    (θ_run Cert.Reference4Ideal.defs _ _).mono
      (fun _ h c => ⟨(h c).1.trans (by
          refine (Cert.Reference4Ideal.Search.res_eq m' c).trans ?_
          rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2]
          exact Cert.Same4.same m c (hp c)), (h c).2⟩)
      (Cert.Reference4Ideal.Value.run (F := Ideal) m' ρ')⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_in_range.Gen.facts, Cert.Pre_finite.Gen.facts,
  frame_kernel, frame_ideal, frame_reference, frame_reference_ranged,
  fun m ρ _ => Cert.Kernel2.Gen.frame m ρ, fun m ρ _ => Cert.Kernel2Ideal.Gen.frame m ρ, frame_reference2,
  frame_kernel3, frame_ideal3, frame_reference3,
  fun m ρ _ => Cert.Kernel4.Gen.frame m ρ, fun m ρ _ => Cert.Kernel4Ideal.Gen.frame m ρ, fun m ρ _ => Cert.Kernel4Ideal.Gen.frame m ρ,
  frame_reference4, fun m ρ _ => frame_reference4 m ρ trivial,
  IdealRules.named_const.statement Cert.KernelIdeal.κ "inv13" .f32 0x3D9D89D9#32 ((1 / 13 : ℝ) : EReal) rfl, algebraic,
  trivial, algebraic2, trivial, algebraic3, trivial, algebraic4⟩

end Cert.Proof

end
